-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_padding_loses [hPre_padding_loses : Cert.Pre_padding_loses.Facts] (m : (ℓ : Loc Cert.KernelIdeal.nD Cert.KernelIdeal.τ Cert.KernelIdeal.sig) → Buf (Elt Ideal) ℓ) : Prop :=
  ∀ c : Dev Cert.KernelIdeal.nD,
    (Cert.Pre_padding_loses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_padding_loses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_padding_loses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_padding_loses [hPre_padding_loses : Cert.Pre_padding_loses.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_padding_loses.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_padding_loses.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_padding_loses.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def Pre_Gconv (m : (ℓ : Loc Cert.Gconv.nD Cert.Gconv.τ Cert.Gconv.sig) → Buf (Elt Bits) ℓ) : Prop :=
  True

def Pre_GconvIdeal (m : (ℓ : Loc Cert.GconvIdeal.nD Cert.GconvIdeal.τ Cert.GconvIdeal.sig) → Buf (Elt Ideal) ℓ) : Prop :=
  True

def Pre_GconvReferenceIdeal (m : (ℓ : Loc Cert.GconvReferenceIdeal.nD Cert.GconvReferenceIdeal.τ Cert.GconvReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_padding_loses [hKernelIdeal : Cert.KernelIdeal.Facts] [hPre_padding_loses : Cert.Pre_padding_loses.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_padding_loses m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_padding_loses [hReferenceIdeal : Cert.ReferenceIdeal.Facts] [hPre_padding_loses : Cert.Pre_padding_loses.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_padding_loses m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Gconv [hGconv : Cert.Gconv.Facts] : Prop :=
  ∀ (m : (ℓ : Loc Cert.Gconv.nD Cert.Gconv.τ Cert.Gconv.sig) → Buf (Elt Bits) ℓ) (g : Dev Cert.Gconv.nD → PrngReg), Pre_Gconv m →
    θ_run (Cert.Gconv.defs (F := Bits)) (onTc (τ := Cert.Gconv.τ) (Cert.Gconv.main (F := Bits))) ⟨m, fun _ => 0, g⟩ (fun r => (∀ c : Dev Cert.Gconv.nD,
      r.2.mem ((c.tc : Thread Cert.Gconv.nD Cert.Gconv.τ).loc Cert.Gconv.main_arg0) = m ((c.tc : Thread Cert.Gconv.nD Cert.Gconv.τ).loc Cert.Gconv.main_arg0)
      ∧ r.2.mem ((c.tc : Thread Cert.Gconv.nD Cert.Gconv.τ).loc Cert.Gconv.main_arg1) = m ((c.tc : Thread Cert.Gconv.nD Cert.Gconv.τ).loc Cert.Gconv.main_arg1))
      ∧ r.2.sem = fun _ => 0)

def quiescent_GconvIdeal [hGconvIdeal : Cert.GconvIdeal.Facts] : Prop :=
  ∀ (m : (ℓ : Loc Cert.GconvIdeal.nD Cert.GconvIdeal.τ Cert.GconvIdeal.sig) → Buf (Elt Ideal) ℓ) (g : Dev Cert.GconvIdeal.nD → PrngReg), Pre_GconvIdeal m →
    θ_run (Cert.GconvIdeal.defs (F := Ideal)) (onTc (τ := Cert.GconvIdeal.τ) (Cert.GconvIdeal.main (F := Ideal))) ⟨m, fun _ => 0, g⟩ (fun r => (∀ c : Dev Cert.GconvIdeal.nD,
      r.2.mem ((c.tc : Thread Cert.GconvIdeal.nD Cert.GconvIdeal.τ).loc Cert.GconvIdeal.main_arg0) = m ((c.tc : Thread Cert.GconvIdeal.nD Cert.GconvIdeal.τ).loc Cert.GconvIdeal.main_arg0)
      ∧ r.2.mem ((c.tc : Thread Cert.GconvIdeal.nD Cert.GconvIdeal.τ).loc Cert.GconvIdeal.main_arg1) = m ((c.tc : Thread Cert.GconvIdeal.nD Cert.GconvIdeal.τ).loc Cert.GconvIdeal.main_arg1))
      ∧ r.2.sem = fun _ => 0)

def quiescent_GconvReferenceIdeal [hGconvReferenceIdeal : Cert.GconvReferenceIdeal.Facts] : Prop :=
  ∀ (m : (ℓ : Loc Cert.GconvReferenceIdeal.nD Cert.GconvReferenceIdeal.τ Cert.GconvReferenceIdeal.sig) → Buf (Elt Ideal) ℓ) (g : Dev Cert.GconvReferenceIdeal.nD → PrngReg), Pre_GconvReferenceIdeal m →
    θ_run (Cert.GconvReferenceIdeal.defs (F := Ideal)) (onTc (τ := Cert.GconvReferenceIdeal.τ) (Cert.GconvReferenceIdeal.main (F := Ideal))) ⟨m, fun _ => 0, g⟩ (fun r => (∀ c : Dev Cert.GconvReferenceIdeal.nD,
      r.2.mem ((c.tc : Thread Cert.GconvReferenceIdeal.nD Cert.GconvReferenceIdeal.τ).loc Cert.GconvReferenceIdeal.main_arg0) = m ((c.tc : Thread Cert.GconvReferenceIdeal.nD Cert.GconvReferenceIdeal.τ).loc Cert.GconvReferenceIdeal.main_arg0)
      ∧ r.2.mem ((c.tc : Thread Cert.GconvReferenceIdeal.nD Cert.GconvReferenceIdeal.τ).loc Cert.GconvReferenceIdeal.main_arg1) = m ((c.tc : Thread Cert.GconvReferenceIdeal.nD Cert.GconvReferenceIdeal.τ).loc Cert.GconvReferenceIdeal.main_arg1))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5))
      ∧ r.2.sem = fun _ => 0)

def preserves_Kernel_KernelIdeal : Prop :=
  IdealRules.named_const.Statement Cert.KernelIdeal.κ "inv_pixels" .f32 0x36638E39#32 ((1 / 294912 : ℝ) : EReal)
  ∧ IdealRules.named_const.Statement Cert.KernelIdeal.κ "inv_pooled" .f32 0x38E38E39#32 ((1 / 9216 : ℝ) : EReal)

def algebraic_KernelIdeal_ReferenceIdeal_pre_padding_loses [hKernelIdeal : Cert.KernelIdeal.Facts] [hReferenceIdeal : Cert.ReferenceIdeal.Facts] [hPre_padding_loses : Cert.Pre_padding_loses.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_padding_loses m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Gconv_GconvIdeal : Prop :=
  True

def algebraic_GconvIdeal_GconvReferenceIdeal [hGconvIdeal : Cert.GconvIdeal.Facts] [hGconvReferenceIdeal : Cert.GconvReferenceIdeal.Facts] : Prop :=
  ∀ (m : (ℓ : Loc Cert.GconvIdeal.nD Cert.GconvIdeal.τ Cert.GconvIdeal.sig) → Buf (Elt Ideal) ℓ) (g : Dev Cert.GconvIdeal.nD → PrngReg)
    (m' : (ℓ : Loc Cert.GconvReferenceIdeal.nD Cert.GconvReferenceIdeal.τ Cert.GconvReferenceIdeal.sig) → Buf (Elt Ideal) ℓ) (g' : Dev Cert.GconvReferenceIdeal.nD → PrngReg), Pre_GconvIdeal m →
    (∀ c : Dev Cert.GconvIdeal.nD,
      m' ((c.tc : Thread Cert.GconvReferenceIdeal.nD Cert.GconvReferenceIdeal.τ).loc Cert.GconvReferenceIdeal.main_arg0) = m ((c.tc : Thread Cert.GconvIdeal.nD Cert.GconvIdeal.τ).loc Cert.GconvIdeal.main_arg0)
      ∧ m' ((c.tc : Thread Cert.GconvReferenceIdeal.nD Cert.GconvReferenceIdeal.τ).loc Cert.GconvReferenceIdeal.main_arg1) = m ((c.tc : Thread Cert.GconvIdeal.nD Cert.GconvIdeal.τ).loc Cert.GconvIdeal.main_arg1)) →
    ∃ (v0 : (c : Dev Cert.GconvIdeal.nD) → Buf (Elt Ideal) ((c.tc : Thread Cert.GconvIdeal.nD Cert.GconvIdeal.τ).loc Cert.GconvIdeal.main_v7_0)) (v1 : (c : Dev Cert.GconvIdeal.nD) → Buf (Elt Ideal) ((c.tc : Thread Cert.GconvIdeal.nD Cert.GconvIdeal.τ).loc Cert.GconvIdeal.main_v7_1)),
      θ_run (Cert.GconvIdeal.defs (F := Ideal)) (onTc (τ := Cert.GconvIdeal.τ) (Cert.GconvIdeal.main (F := Ideal))) ⟨m, fun _ => 0, g⟩ (fun r => ∀ c : Dev Cert.GconvIdeal.nD,
          r.2.mem ((c.tc : Thread Cert.GconvIdeal.nD Cert.GconvIdeal.τ).loc Cert.GconvIdeal.main_v7_0) = v0 c
          ∧ r.2.mem ((c.tc : Thread Cert.GconvIdeal.nD Cert.GconvIdeal.τ).loc Cert.GconvIdeal.main_v7_1) = v1 c
          ∧ r.2.mem ((c.tc : Thread Cert.GconvIdeal.nD Cert.GconvIdeal.τ).loc Cert.GconvIdeal.main_arg0) = m ((c.tc : Thread Cert.GconvIdeal.nD Cert.GconvIdeal.τ).loc Cert.GconvIdeal.main_arg0)
          ∧ r.2.mem ((c.tc : Thread Cert.GconvIdeal.nD Cert.GconvIdeal.τ).loc Cert.GconvIdeal.main_arg1) = m ((c.tc : Thread Cert.GconvIdeal.nD Cert.GconvIdeal.τ).loc Cert.GconvIdeal.main_arg1))
      ∧ θ_run (Cert.GconvReferenceIdeal.defs (F := Ideal)) (onTc (τ := Cert.GconvReferenceIdeal.τ) (Cert.GconvReferenceIdeal.main (F := Ideal))) ⟨m', fun _ => 0, g'⟩ (fun r => ∀ c : Dev Cert.GconvReferenceIdeal.nD,
          r.2.mem ((c.tc : Thread Cert.GconvReferenceIdeal.nD Cert.GconvReferenceIdeal.τ).loc Cert.GconvReferenceIdeal.main_v34) = v0 c
          ∧ r.2.mem ((c.tc : Thread Cert.GconvReferenceIdeal.nD Cert.GconvReferenceIdeal.τ).loc Cert.GconvReferenceIdeal.main_v40) = v1 c
          ∧ r.2.mem ((c.tc : Thread Cert.GconvReferenceIdeal.nD Cert.GconvReferenceIdeal.τ).loc Cert.GconvReferenceIdeal.main_arg0) = m' ((c.tc : Thread Cert.GconvReferenceIdeal.nD Cert.GconvReferenceIdeal.τ).loc Cert.GconvReferenceIdeal.main_arg0)
          ∧ r.2.mem ((c.tc : Thread Cert.GconvReferenceIdeal.nD Cert.GconvReferenceIdeal.τ).loc Cert.GconvReferenceIdeal.main_arg1) = m' ((c.tc : Thread Cert.GconvReferenceIdeal.nD Cert.GconvReferenceIdeal.τ).loc Cert.GconvReferenceIdeal.main_arg1))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)) →
    ∃ (v0 : (c : Dev Cert.TailIdeal.nD) → Buf (Elt Ideal) ((c.tc : Thread Cert.TailIdeal.nD Cert.TailIdeal.τ).loc Cert.TailIdeal.main_v16)) (v1 : (c : Dev Cert.TailIdeal.nD) → Buf (Elt Ideal) ((c.tc : Thread Cert.TailIdeal.nD Cert.TailIdeal.τ).loc Cert.TailIdeal.main_v17)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v16) = v0 c
          ∧ r.2.mem ((c.tc : Thread Cert.TailIdeal.nD Cert.TailIdeal.τ).loc Cert.TailIdeal.main_v17) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v55) = v0 c
          ∧ r.2.mem ((c.tc : Thread Cert.TailReferenceIdeal.nD Cert.TailReferenceIdeal.τ).loc Cert.TailReferenceIdeal.main_v56) = v1 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5))

def Claim : Prop :=
  ∃ (hKernel : Cert.Kernel.Facts) (hKernelIdeal : Cert.KernelIdeal.Facts) (hReferenceIdeal : Cert.ReferenceIdeal.Facts) (hGconv : Cert.Gconv.Facts) (hGconvIdeal : Cert.GconvIdeal.Facts) (hGconvReferenceIdeal : Cert.GconvReferenceIdeal.Facts) (hTail : Cert.Tail.Facts) (hTailIdeal : Cert.TailIdeal.Facts) (hTailReferenceIdeal : Cert.TailReferenceIdeal.Facts) (hPre_padding_loses : Cert.Pre_padding_loses.Facts),
    quiescent_Kernel (hKernel := hKernel)
    ∧ quiescent_KernelIdeal (hKernelIdeal := hKernelIdeal)
    ∧ quiescent_KernelIdeal_pre_padding_loses (hKernelIdeal := hKernelIdeal) (hPre_padding_loses := hPre_padding_loses)
    ∧ quiescent_ReferenceIdeal (hReferenceIdeal := hReferenceIdeal)
    ∧ quiescent_ReferenceIdeal_pre_padding_loses (hReferenceIdeal := hReferenceIdeal) (hPre_padding_loses := hPre_padding_loses)
    ∧ quiescent_Gconv (hGconv := hGconv)
    ∧ quiescent_GconvIdeal (hGconvIdeal := hGconvIdeal)
    ∧ quiescent_GconvReferenceIdeal (hGconvReferenceIdeal := hGconvReferenceIdeal)
    ∧ quiescent_Tail (hTail := hTail)
    ∧ quiescent_TailIdeal (hTailIdeal := hTailIdeal)
    ∧ quiescent_TailReferenceIdeal (hTailReferenceIdeal := hTailReferenceIdeal)
    ∧ preserves_Kernel_KernelIdeal
    ∧ algebraic_KernelIdeal_ReferenceIdeal_pre_padding_loses (hKernelIdeal := hKernelIdeal) (hReferenceIdeal := hReferenceIdeal) (hPre_padding_loses := hPre_padding_loses)
    ∧ preserves_Gconv_GconvIdeal
    ∧ algebraic_GconvIdeal_GconvReferenceIdeal (hGconvIdeal := hGconvIdeal) (hGconvReferenceIdeal := hGconvReferenceIdeal)
    ∧ preserves_Tail_TailIdeal
    ∧ algebraic_TailIdeal_TailReferenceIdeal (hTailIdeal := hTailIdeal) (hTailReferenceIdeal := hTailReferenceIdeal)
-- ==== Pre_padding_loses.lean ====
abbrev S8x3x5x384x384 : Shape := ⟨5, ![8, 3, 5, 384, 384]⟩
abbrev S64x15x7x7 : Shape := ⟨4, ![64, 15, 7, 7]⟩
abbrev S64 : Shape := ⟨1, ![64]⟩
abbrev S3x64 : Shape := ⟨2, ![3, 64]⟩
abbrev S3 : Shape := ⟨1, ![3]⟩
abbrev S3x5x15x4x4 : Shape := ⟨5, ![3, 5, 15, 4, 4]⟩
abbrev S3x5 : Shape := ⟨2, ![3, 5]⟩
abbrev S8x15x384x384 : Shape := ⟨4, ![8, 15, 384, 384]⟩
abbrev S_ : Shape := ⟨0, ![]⟩
abbrev S8x15x390x390 : Shape := ⟨4, ![8, 15, 390, 390]⟩
abbrev S8x15x192x390 : Shape := ⟨4, ![8, 15, 192, 390]⟩
abbrev S8x15x1x192x390 : Shape := ⟨5, ![8, 15, 1, 192, 390]⟩
abbrev S8x15x7x192x390 : Shape := ⟨5, ![8, 15, 7, 192, 390]⟩
abbrev S8x15x7x192x192 : Shape := ⟨5, ![8, 15, 7, 192, 192]⟩
abbrev S8x15x7x1x192x192 : Shape := ⟨6, ![8, 15, 7, 1, 192, 192]⟩
abbrev S8x15x7x7x192x192 : Shape := ⟨6, ![8, 15, 7, 7, 192, 192]⟩
abbrev S8x192x192x64 : Shape := ⟨4, ![8, 192, 192, 64]⟩
abbrev S8x64x192x192 : Shape := ⟨4, ![8, 64, 192, 192]⟩
abbrev S1x64x1x1 : Shape := ⟨4, ![1, 64, 1, 1]⟩
abbrev S8x64x194x194 : Shape := ⟨4, ![8, 64, 194, 194]⟩
abbrev S8x64x96x96 : Shape := ⟨4, ![8, 64, 96, 96]⟩
abbrev S1x64x1 : Shape := ⟨3, ![1, 64, 1]⟩
abbrev S8x64x1x96 : Shape := ⟨4, ![8, 64, 1, 96]⟩
abbrev S8x64x96 : Shape := ⟨3, ![8, 64, 96]⟩

class Facts : Prop where
  shapeCasts_S8x3x5x384x384_S8x15x384x384 : S8x3x5x384x384.ShapeCasts S8x15x384x384
  pads_S8x15x384x384_S8x15x390x390_000_000_330_330 : S8x15x384x384.Pads (![0, 0, 3, 3] : Fin 4 → Nat) ![0, 0, 3, 3] ![0, 0, 0, 0] S8x15x390x390
  h_S_ : 0 < S_.numel
  slicesBy_S8x15x390x390_S8x15x192x390_0s1_0s1_0s2_0s1 : S8x15x390x390.SlicesBy (![0, 0, 0, 0] : Fin 4 → Nat) ![1, 1, 2, 1] S8x15x192x390
  slicesBy_S8x15x390x390_S8x15x192x390_0s1_0s1_1s2_0s1 : S8x15x390x390.SlicesBy (![0, 0, 1, 0] : Fin 4 → Nat) ![1, 1, 2, 1] S8x15x192x390
  slicesBy_S8x15x390x390_S8x15x192x390_0s1_0s1_2s2_0s1 : S8x15x390x390.SlicesBy (![0, 0, 2, 0] : Fin 4 → Nat) ![1, 1, 2, 1] S8x15x192x390
  slicesBy_S8x15x390x390_S8x15x192x390_0s1_0s1_3s2_0s1 : S8x15x390x390.SlicesBy (![0, 0, 3, 0] : Fin 4 → Nat) ![1, 1, 2, 1] S8x15x192x390
  slicesBy_S8x15x390x390_S8x15x192x390_0s1_0s1_4s2_0s1 : S8x15x390x390.SlicesBy (![0, 0, 4, 0] : Fin 4 → Nat) ![1, 1, 2, 1] S8x15x192x390
  slicesBy_S8x15x390x390_S8x15x192x390_0s1_0s1_5s2_0s1 : S8x15x390x390.SlicesBy (![0, 0, 5, 0] : Fin 4 → Nat) ![1, 1, 2, 1] S8x15x192x390
  slicesBy_S8x15x390x390_S8x15x192x390_0s1_0s1_6s2_0s1 : S8x15x390x390.SlicesBy (![0, 0, 6, 0] : Fin 4 → Nat) ![1, 1, 2, 1] S8x15x192x390
  bcast_S8x15x192x390_S8x15x1x192x390_0_1_3_4 : S8x15x192x390.BroadcastsInDim S8x15x1x192x390 (![0, 1, 3, 4] : Fin 4 → Fin S8x15x1x192x390.rank)
  concatenates_S8x15x1x192x390_S8x15x1x192x390_S8x15x1x192x390_S8x15x1x192x390_S8x15x1x192x390_S8x15x1x192x390_S8x15x1x192x390_S8x15x7x192x390_d2 : Shape.Concatenates [S8x15x1x192x390, S8x15x1x192x390, S8x15x1x192x390, S8x15x1x192x390, S8x15x1x192x390, S8x15x1x192x390, S8x15x1x192x390] S8x15x7x192x390 2
  slicesBy_S8x15x7x192x390_S8x15x7x192x192_0s1_0s1_0s1_0s1_0s2 : S8x15x7x192x390.SlicesBy (![0, 0, 0, 0, 0] : Fin 5 → Nat) ![1, 1, 1, 1, 2] S8x15x7x192x192
  slicesBy_S8x15x7x192x390_S8x15x7x192x192_0s1_0s1_0s1_0s1_1s2 : S8x15x7x192x390.SlicesBy (![0, 0, 0, 0, 1] : Fin 5 → Nat) ![1, 1, 1, 1, 2] S8x15x7x192x192
  slicesBy_S8x15x7x192x390_S8x15x7x192x192_0s1_0s1_0s1_0s1_2s2 : S8x15x7x192x390.SlicesBy (![0, 0, 0, 0, 2] : Fin 5 → Nat) ![1, 1, 1, 1, 2] S8x15x7x192x192
  slicesBy_S8x15x7x192x390_S8x15x7x192x192_0s1_0s1_0s1_0s1_3s2 : S8x15x7x192x390.SlicesBy (![0, 0, 0, 0, 3] : Fin 5 → Nat) ![1, 1, 1, 1, 2] S8x15x7x192x192
  slicesBy_S8x15x7x192x390_S8x15x7x192x192_0s1_0s1_0s1_0s1_4s2 : S8x15x7x192x390.SlicesBy (![0, 0, 0, 0, 4] : Fin 5 → Nat) ![1, 1, 1, 1, 2] S8x15x7x192x192
  slicesBy_S8x15x7x192x390_S8x15x7x192x192_0s1_0s1_0s1_0s1_5s2 : S8x15x7x192x390.SlicesBy (![0, 0, 0, 0, 5] : Fin 5 → Nat) ![1, 1, 1, 1, 2] S8x15x7x192x192
  slicesBy_S8x15x7x192x390_S8x15x7x192x192_0s1_0s1_0s1_0s1_6s2 : S8x15x7x192x390.SlicesBy (![0, 0, 0, 0, 6] : Fin 5 → Nat) ![1, 1, 1, 1, 2] S8x15x7x192x192
  bcast_S8x15x7x192x192_S8x15x7x1x192x192_0_1_2_4_5 : S8x15x7x192x192.BroadcastsInDim S8x15x7x1x192x192 (![0, 1, 2, 4, 5] : Fin 5 → Fin S8x15x7x1x192x192.rank)
  concatenates_S8x15x7x1x192x192_S8x15x7x1x192x192_S8x15x7x1x192x192_S8x15x7x1x192x192_S8x15x7x1x192x192_S8x15x7x1x192x192_S8x15x7x1x192x192_S8x15x7x7x192x192_d3 : Shape.Concatenates [S8x15x7x1x192x192, S8x15x7x1x192x192, S8x15x7x1x192x192, S8x15x7x1x192x192, S8x15x7x1x192x192, S8x15x7x1x192x192, S8x15x7x1x192x192] S8x15x7x7x192x192 3
  transposes_S8x192x192x64_S8x64x192x192_0_3_1_2 : S8x192x192x64.Transposes [0, 3, 1, 2] S8x64x192x192
  bcast_S_S8x64x192x192 : S_.BroadcastsInDim S8x64x192x192 (![] : Fin 0 → Fin S8x64x192x192.rank)
  reducesTo_S8x64x192x192_S64_d0_2_3 : S8x64x192x192.ReducesTo [0, 2, 3] S64
  bcast_S64_S1x64x1x1_1 : S64.BroadcastsInDim S1x64x1x1 (![1] : Fin 1 → Fin S1x64x1x1.rank)
  bcast_S_S1x64x1x1 : S_.BroadcastsInDim S1x64x1x1 (![] : Fin 0 → Fin S1x64x1x1.rank)
  bcast_S1x64x1x1_S8x64x192x192_0_1_2_3 : S1x64x1x1.BroadcastsInDim S8x64x192x192 (![0, 1, 2, 3] : Fin 4 → Fin S8x64x192x192.rank)
  shapeCasts_S64_S1x64x1x1 : S64.ShapeCasts S1x64x1x1
  pads_S8x64x192x192_S8x64x194x194_000_000_110_110 : S8x64x192x192.Pads (![0, 0, 1, 1] : Fin 4 → Nat) ![0, 0, 1, 1] ![0, 0, 0, 0] S8x64x194x194
  slicesBy_S8x64x194x194_S8x64x96x96_0s1_0s1_0s2_0s2 : S8x64x194x194.SlicesBy (![0, 0, 0, 0] : Fin 4 → Nat) ![1, 1, 2, 2] S8x64x96x96
  slicesBy_S8x64x194x194_S8x64x96x96_0s1_0s1_0s2_1s2 : S8x64x194x194.SlicesBy (![0, 0, 0, 1] : Fin 4 → Nat) ![1, 1, 2, 2] S8x64x96x96
  slicesBy_S8x64x194x194_S8x64x96x96_0s1_0s1_0s2_2s2 : S8x64x194x194.SlicesBy (![0, 0, 0, 2] : Fin 4 → Nat) ![1, 1, 2, 2] S8x64x96x96
  slicesBy_S8x64x194x194_S8x64x96x96_0s1_0s1_1s2_0s2 : S8x64x194x194.SlicesBy (![0, 0, 1, 0] : Fin 4 → Nat) ![1, 1, 2, 2] S8x64x96x96
  slicesBy_S8x64x194x194_S8x64x96x96_0s1_0s1_1s2_1s2 : S8x64x194x194.SlicesBy (![0, 0, 1, 1] : Fin 4 → Nat) ![1, 1, 2, 2] S8x64x96x96
  slicesBy_S8x64x194x194_S8x64x96x96_0s1_0s1_1s2_2s2 : S8x64x194x194.SlicesBy (![0, 0, 1, 2] : Fin 4 → Nat) ![1, 1, 2, 2] S8x64x96x96
  slicesBy_S8x64x194x194_S8x64x96x96_0s1_0s1_2s2_0s2 : S8x64x194x194.SlicesBy (![0, 0, 2, 0] : Fin 4 → Nat) ![1, 1, 2, 2] S8x64x96x96
  slicesBy_S8x64x194x194_S8x64x96x96_0s1_0s1_2s2_1s2 : S8x64x194x194.SlicesBy (![0, 0, 2, 1] : Fin 4 → Nat) ![1, 1, 2, 2] S8x64x96x96
  slicesBy_S8x64x194x194_S8x64x96x96_0s1_0s1_2s2_2s2 : S8x64x194x194.SlicesBy (![0, 0, 2, 2] : Fin 4 → Nat) ![1, 1, 2, 2] S8x64x96x96
  bcast_S_S64 : S_.BroadcastsInDim S64 (![] : Fin 0 → Fin S64.rank)
  shapeCasts_S1x64x1x1_S1x64x1 : S1x64x1x1.ShapeCasts S1x64x1
  slices_S8x64x96x96_S8x64x1x96_0_0_0_0 : S8x64x96x96.Slices ![0, 0, 0, 0] S8x64x1x96
  shapeCasts_S8x64x1x96_S8x64x96 : S8x64x1x96.ShapeCasts S8x64x96
  bcast_S1x64x1_S8x64x96_0_1_2 : S1x64x1.BroadcastsInDim S8x64x96 (![0, 1, 2] : Fin 3 → Fin S8x64x96.rank)
  dot_S8x15x7x7x192x192_S64x15x7x7_S8x192x192x64_123_123_045_0_n_n_wf : DotDims.WF S8x15x7x7x192x192 S64x15x7x7 S8x192x192x64 [1, 2, 3] [1, 2, 3] [0, 4, 5] [0] [] []

variable [Facts]

def dot_S8x15x7x7x192x192_S64x15x7x7_S8x192x192x64_123_123_045_0_n_n : DotDims S8x15x7x7x192x192 S64x15x7x7 S8x192x192x64 where
  lhsContracting := [1, 2, 3]
  rhsContracting := [1, 2, 3]
  lhsNonContracting := [0, 4, 5]
  rhsNonContracting := [0]
  lhsBatch := []
  rhsBatch := []
  wf := dot_S8x15x7x7x192x192_S64x15x7x7_S8x192x192x64_123_123_045_0_n_n_wf
def fn_pad {F : FTy → Type} [FloatOps F] (arg0 : FVec F S8x15x384x384 .f32) (arg1 : IVec S_ 32) : FVec F S8x15x390x390 .f32 :=
  let v0 : FVec F S_ .f32 := sitofp .f32 arg1
  let v1 : FVec F S8x15x390x390 .f32 := (fun x v => pad S8x15x390x390 ![0, 0, 3, 3] ![0, 0, 3, 3] ![0, 0, 0, 0] x v pads_S8x15x384x384_S8x15x390x390_000_000_330_330 h_S_) arg0 v0
  v1

def fn_padded_rows {F : FTy → Type} [FloatOps F] (arg0 : FVec F S8x15x384x384 .f32) : FVec F S8x15x7x192x390 .f32 :=
  let c : IVec S_ 32 := constantI S_ 32 0#32
  let v0 : FVec F S8x15x390x390 .f32 := fn_pad (F := F) arg0 c
  let v1 : FVec F S8x15x192x390 .f32 := (Host.slice S8x15x192x390 ![0, 0, 0, 0] ![1, 1, 2, 1] · slicesBy_S8x15x390x390_S8x15x192x390_0s1_0s1_0s2_0s1) v0
  let v2 : FVec F S8x15x192x390 .f32 := (Host.slice S8x15x192x390 ![0, 0, 1, 0] ![1, 1, 2, 1] · slicesBy_S8x15x390x390_S8x15x192x390_0s1_0s1_1s2_0s1) v0
  let v3 : FVec F S8x15x192x390 .f32 := (Host.slice S8x15x192x390 ![0, 0, 2, 0] ![1, 1, 2, 1] · slicesBy_S8x15x390x390_S8x15x192x390_0s1_0s1_2s2_0s1) v0
  let v4 : FVec F S8x15x192x390 .f32 := (Host.slice S8x15x192x390 ![0, 0, 3, 0] ![1, 1, 2, 1] · slicesBy_S8x15x390x390_S8x15x192x390_0s1_0s1_3s2_0s1) v0
  let v5 : FVec F S8x15x192x390 .f32 := (Host.slice S8x15x192x390 ![0, 0, 4, 0] ![1, 1, 2, 1] · slicesBy_S8x15x390x390_S8x15x192x390_0s1_0s1_4s2_0s1) v0
  let v6 : FVec F S8x15x192x390 .f32 := (Host.slice S8x15x192x390 ![0, 0, 5, 0] ![1, 1, 2, 1] · slicesBy_S8x15x390x390_S8x15x192x390_0s1_0s1_5s2_0s1) v0
  let v7 : FVec F S8x15x192x390 .f32 := (Host.slice S8x15x192x390 ![0, 0, 6, 0] ![1, 1, 2, 1] · slicesBy_S8x15x390x390_S8x15x192x390_0s1_0s1_6s2_0s1) v0
  let v8 : FVec F S8x15x1x192x390 .f32 := broadcastInDim S8x15x1x192x390 ![0, 1, 3, 4] bcast_S8x15x192x390_S8x15x1x192x390_0_1_3_4 v1
  let v9 : FVec F S8x15x1x192x390 .f32 := broadcastInDim S8x15x1x192x390 ![0, 1, 3, 4] bcast_S8x15x192x390_S8x15x1x192x390_0_1_3_4 v2
  let v10 : FVec F S8x15x1x192x390 .f32 := broadcastInDim S8x15x1x192x390 ![0, 1, 3, 4] bcast_S8x15x192x390_S8x15x1x192x390_0_1_3_4 v3
  let v11 : FVec F S8x15x1x192x390 .f32 := broadcastInDim S8x15x1x192x390 ![0, 1, 3, 4] bcast_S8x15x192x390_S8x15x1x192x390_0_1_3_4 v4
  let v12 : FVec F S8x15x1x192x390 .f32 := broadcastInDim S8x15x1x192x390 ![0, 1, 3, 4] bcast_S8x15x192x390_S8x15x1x192x390_0_1_3_4 v5
  let v13 : FVec F S8x15x1x192x390 .f32 := broadcastInDim S8x15x1x192x390 ![0, 1, 3, 4] bcast_S8x15x192x390_S8x15x1x192x390_0_1_3_4 v6
  let v14 : FVec F S8x15x1x192x390 .f32 := broadcastInDim S8x15x1x192x390 ![0, 1, 3, 4] bcast_S8x15x192x390_S8x15x1x192x390_0_1_3_4 v7
  let v15 : FVec F S8x15x7x192x390 .f32 := concatenate S8x15x7x192x390 2 [⟨S8x15x1x192x390, v8⟩, ⟨S8x15x1x192x390, v9⟩, ⟨S8x15x1x192x390, v10⟩, ⟨S8x15x1x192x390, v11⟩, ⟨S8x15x1x192x390, v12⟩, ⟨S8x15x1x192x390, v13⟩, ⟨S8x15x1x192x390, v14⟩] concatenates_S8x15x1x192x390_S8x15x1x192x390_S8x15x1x192x390_S8x15x1x192x390_S8x15x1x192x390_S8x15x1x192x390_S8x15x1x192x390_S8x15x7x192x390_d2
  v15

def fn_row_patches {F : FTy → Type} [FloatOps F] (arg0 : FVec F S8x15x7x192x390 .f32) : FVec F S8x15x7x7x192x192 .f32 :=
  let v0 : FVec F S8x15x7x192x192 .f32 := (Host.slice S8x15x7x192x192 ![0, 0, 0, 0, 0] ![1, 1, 1, 1, 2] · slicesBy_S8x15x7x192x390_S8x15x7x192x192_0s1_0s1_0s1_0s1_0s2) arg0
  let v1 : FVec F S8x15x7x192x192 .f32 := (Host.slice S8x15x7x192x192 ![0, 0, 0, 0, 1] ![1, 1, 1, 1, 2] · slicesBy_S8x15x7x192x390_S8x15x7x192x192_0s1_0s1_0s1_0s1_1s2) arg0
  let v2 : FVec F S8x15x7x192x192 .f32 := (Host.slice S8x15x7x192x192 ![0, 0, 0, 0, 2] ![1, 1, 1, 1, 2] · slicesBy_S8x15x7x192x390_S8x15x7x192x192_0s1_0s1_0s1_0s1_2s2) arg0
  let v3 : FVec F S8x15x7x192x192 .f32 := (Host.slice S8x15x7x192x192 ![0, 0, 0, 0, 3] ![1, 1, 1, 1, 2] · slicesBy_S8x15x7x192x390_S8x15x7x192x192_0s1_0s1_0s1_0s1_3s2) arg0
  let v4 : FVec F S8x15x7x192x192 .f32 := (Host.slice S8x15x7x192x192 ![0, 0, 0, 0, 4] ![1, 1, 1, 1, 2] · slicesBy_S8x15x7x192x390_S8x15x7x192x192_0s1_0s1_0s1_0s1_4s2) arg0
  let v5 : FVec F S8x15x7x192x192 .f32 := (Host.slice S8x15x7x192x192 ![0, 0, 0, 0, 5] ![1, 1, 1, 1, 2] · slicesBy_S8x15x7x192x390_S8x15x7x192x192_0s1_0s1_0s1_0s1_5s2) arg0
  let v6 : FVec F S8x15x7x192x192 .f32 := (Host.slice S8x15x7x192x192 ![0, 0, 0, 0, 6] ![1, 1, 1, 1, 2] · slicesBy_S8x15x7x192x390_S8x15x7x192x192_0s1_0s1_0s1_0s1_6s2) arg0
  let v7 : FVec F S8x15x7x1x192x192 .f32 := broadcastInDim S8x15x7x1x192x192 ![0, 1, 2, 4, 5] bcast_S8x15x7x192x192_S8x15x7x1x192x192_0_1_2_4_5 v0
  let v8 : FVec F S8x15x7x1x192x192 .f32 := broadcastInDim S8x15x7x1x192x192 ![0, 1, 2, 4, 5] bcast_S8x15x7x192x192_S8x15x7x1x192x192_0_1_2_4_5 v1
  let v9 : FVec F S8x15x7x1x192x192 .f32 := broadcastInDim S8x15x7x1x192x192 ![0, 1, 2, 4, 5] bcast_S8x15x7x192x192_S8x15x7x1x192x192_0_1_2_4_5 v2
  let v10 : FVec F S8x15x7x1x192x192 .f32 := broadcastInDim S8x15x7x1x192x192 ![0, 1, 2, 4, 5] bcast_S8x15x7x192x192_S8x15x7x1x192x192_0_1_2_4_5 v3
  let v11 : FVec F S8x15x7x1x192x192 .f32 := broadcastInDim S8x15x7x1x192x192 ![0, 1, 2, 4, 5] bcast_S8x15x7x192x192_S8x15x7x1x192x192_0_1_2_4_5 v4
  let v12 : FVec F S8x15x7x1x192x192 .f32 := broadcastInDim S8x15x7x1x192x192 ![0, 1, 2, 4, 5] bcast_S8x15x7x192x192_S8x15x7x1x192x192_0_1_2_4_5 v5
  let v13 : FVec F S8x15x7x1x192x192 .f32 := broadcastInDim S8x15x7x1x192x192 ![0, 1, 2, 4, 5] bcast_S8x15x7x192x192_S8x15x7x1x192x192_0_1_2_4_5 v6
  let v14 : FVec F S8x15x7x7x192x192 .f32 := concatenate S8x15x7x7x192x192 3 [⟨S8x15x7x1x192x192, v7⟩, ⟨S8x15x7x1x192x192, v8⟩, ⟨S8x15x7x1x192x192, v9⟩, ⟨S8x15x7x1x192x192, v10⟩, ⟨S8x15x7x1x192x192, v11⟩, ⟨S8x15x7x1x192x192, v12⟩, ⟨S8x15x7x1x192x192, v13⟩] concatenates_S8x15x7x1x192x192_S8x15x7x1x192x192_S8x15x7x1x192x192_S8x15x7x1x192x192_S8x15x7x1x192x192_S8x15x7x1x192x192_S8x15x7x1x192x192_S8x15x7x7x192x192_d3
  v14

def fn_where {F : FTy → Type} [FloatOps F] (arg0 : IVec S_ 1) (arg1 : FVec F S1x64x1x1 .f32) (arg2 : FVec F S_ .f32) : FVec F S1x64x1x1 .f32 :=
  let v0 : FVec F S_ .f32 := id arg2
  let v1 : FVec F S1x64x1x1 .f32 := broadcastInDim S1x64x1x1 ![] bcast_S_S1x64x1x1 v0
  let v2 : FVec F S1x64x1x1 .f32 := (fun p a b => select (broadcastInDim S1x64x1x1 ![] bcast_S_S1x64x1x1 p) a b) arg0 arg1 v1
  v2

def fn_var {F : FTy → Type} [FloatOps F] (arg0 : FVec F S8x64x192x192 .f32) (arg1 : IVec S_ 32) : FVec F S1x64x1x1 .f32 :=
  let cst : FVec F S_ .f32 := constant S_ .f32 0x00000000#32
  let v0 : FVec F S64 .f32 := (fun x v => Host.reduceAdd x v reducesTo_S8x64x192x192_S64_d0_2_3 h_S_) arg0 cst
  let v1 : FVec F S1x64x1x1 .f32 := broadcastInDim S1x64x1x1 ![1] bcast_S64_S1x64x1x1_1 v0
  let cst_0 : FVec F S_ .f32 := constant S_ .f32 0x48900000#32
  let v2 : FVec F S1x64x1x1 .f32 := broadcastInDim S1x64x1x1 ![] bcast_S_S1x64x1x1 cst_0
  let v3 : FVec F S1x64x1x1 .f32 := Host.divf v1 v2
  let v4 : FVec F S8x64x192x192 .f32 := broadcastInDim S8x64x192x192 ![0, 1, 2, 3] bcast_S1x64x1x1_S8x64x192x192_0_1_2_3 v3
  let v5 : FVec F S8x64x192x192 .f32 := subf arg0 v4
  let v6 : FVec F S8x64x192x192 .f32 := mulf v5 v5
  let v7 : FVec F S_ .f32 := sitofp .f32 arg1
  let cst_1 : FVec F S_ .f32 := constant S_ .f32 0x48900000#32
  let v8 : FVec F S_ .f32 := subf cst_1 v7
  let cst_2 : FVec F S_ .f32 := constant S_ .f32 0x00000000#32
  let v9 : FVec F S64 .f32 := (fun x v => Host.reduceAdd x v reducesTo_S8x64x192x192_S64_d0_2_3 h_S_) v6 cst_2
  let v10 : FVec F S1x64x1x1 .f32 := broadcastInDim S1x64x1x1 ![1] bcast_S64_S1x64x1x1_1 v9
  let v11 : FVec F S1x64x1x1 .f32 := broadcastInDim S1x64x1x1 ![] bcast_S_S1x64x1x1 v8
  let v12 : FVec F S1x64x1x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1x64x1x1 .f32 := fn_where (F := F) v13 v12 cst_4
  v14

def fn_relu {F : FTy → Type} [FloatOps F] (arg0 : FVec F S8x64x192x192 .f32) : FVec F S8x64x192x192 .f32 :=
  let cst : FVec F S_ .f32 := constant S_ .f32 0x00000000#32
  let v0 : FVec F S8x64x192x192 .f32 := broadcastInDim S8x64x192x192 ![] bcast_S_S8x64x192x192 cst
  let v1 : FVec F S8x64x192x192 .f32 := maximumf arg0 v0
  v1

def fn_pad_0 {F : FTy → Type} [FloatOps F] (arg0 : FVec F S8x64x192x192 .f32) (arg1 : FVec F S_ .f32) : FVec F S8x64x194x194 .f32 :=
  let v0 : FVec F S_ .f32 := id arg1
  let v1 : FVec F S8x64x194x194 .f32 := (fun x v => pad S8x64x194x194 ![0, 0, 1, 1] ![0, 0, 1, 1] ![0, 0, 0, 0] x v pads_S8x64x192x192_S8x64x194x194_000_000_110_110 h_S_) arg0 v0
  v1

def fn_part2 {F : FTy → Type} [FloatOps F] (main_arg2 : FVec F S64 .f32) (main_v7 : IVec S8x64x192x192 1) (main_v22 : FVec F S1x64x1x1 .f32) (main_v37 : FVec F S8x64x194x194 .f32) (main_v38 : FVec F S8x64x96x96 .f32) (main_v39 : FVec F S8x64x96x96 .f32) : IVec S8x64x192x192 1 × IVec S64 1 × IVec S8x64x96 1 :=
  let main_v40 : FVec F S8x64x96x96 .f32 := (Host.slice S8x64x96x96 ![0, 0, 0, 2] ![1, 1, 2, 2] · slicesBy_S8x64x194x194_S8x64x96x96_0s1_0s1_0s2_2s2) main_v37
  let main_v41 : FVec F S8x64x96x96 .f32 := (Host.slice S8x64x96x96 ![0, 0, 1, 0] ![1, 1, 2, 2] · slicesBy_S8x64x194x194_S8x64x96x96_0s1_0s1_1s2_0s2) main_v37
  let main_v42 : FVec F S8x64x96x96 .f32 := (Host.slice S8x64x96x96 ![0, 0, 1, 1] ![1, 1, 2, 2] · slicesBy_S8x64x194x194_S8x64x96x96_0s1_0s1_1s2_1s2) main_v37
  let main_v43 : FVec F S8x64x96x96 .f32 := (Host.slice S8x64x96x96 ![0, 0, 1, 2] ![1, 1, 2, 2] · slicesBy_S8x64x194x194_S8x64x96x96_0s1_0s1_1s2_2s2) main_v37
  let main_v44 : FVec F S8x64x96x96 .f32 := (Host.slice S8x64x96x96 ![0, 0, 2, 0] ![1, 1, 2, 2] · slicesBy_S8x64x194x194_S8x64x96x96_0s1_0s1_2s2_0s2) main_v37
  let main_v45 : FVec F S8x64x96x96 .f32 := (Host.slice S8x64x96x96 ![0, 0, 2, 1] ![1, 1, 2, 2] · slicesBy_S8x64x194x194_S8x64x96x96_0s1_0s1_2s2_1s2) main_v37
  let main_v46 : FVec F S8x64x96x96 .f32 := (Host.slice S8x64x96x96 ![0, 0, 2, 2] ![1, 1, 2, 2] · slicesBy_S8x64x194x194_S8x64x96x96_0s1_0s1_2s2_2s2) main_v37
  let main_v47 : FVec F S8x64x96x96 .f32 := maximumf main_v38 main_v39
  let main_v48 : FVec F S8x64x96x96 .f32 := maximumf main_v47 main_v40
  let main_v49 : FVec F S8x64x96x96 .f32 := maximumf main_v48 main_v41
  let main_v50 : FVec F S8x64x96x96 .f32 := maximumf main_v49 main_v42
  let main_v51 : FVec F S8x64x96x96 .f32 := maximumf main_v50 main_v43
  let main_v52 : FVec F S8x64x96x96 .f32 := maximumf main_v51 main_v44
  let main_v53 : FVec F S8x64x96x96 .f32 := maximumf main_v52 main_v45
  let main_v54 : FVec F S8x64x96x96 .f32 := maximumf main_v53 main_v46
  let main_v55 : FVec F S64 .f32 := Host.absf main_arg2
  let main_cst_6 : FVec F S_ .f32 := constant S_ .f32 0x7F800000#32
  let main_v56 : FVec F S64 .f32 := broadcastInDim S64 ![] bcast_S_S64 main_cst_6
  let main_v57 : IVec S64 1 := cmpf .olt main_v55 main_v56
  let main_v58 : FVec F S1x64x1 .f32 := shapeCast S1x64x1 main_v22 shapeCasts_S1x64x1x1_S1x64x1
  let main_v59 : FVec F S8x64x1x96 .f32 := (extractStridedSlice S8x64x1x96 ![0, 0, 0, 0] · slices_S8x64x96x96_S8x64x1x96_0_0_0_0) main_v54
  let main_v60 : FVec F S8x64x96 .f32 := shapeCast S8x64x96 main_v59 shapeCasts_S8x64x1x96_S8x64x96
  let main_v61 : FVec F S8x64x96 .f32 := broadcastInDim S8x64x96 ![0, 1, 2] bcast_S1x64x1_S8x64x96_0_1_2 main_v58
  let main_v62 : IVec S8x64x96 1 := cmpf .ole main_v61 main_v60
  (main_v7, main_v57, main_v62)

def fn_part1 {F : FTy → Type} [FloatOps F] (main_arg2 : FVec F S64 .f32) (main_arg3 : FVec F S64 .f32) (main_v4 : FVec F S8x64x192x192 .f32) (main_v7 : IVec S8x64x192x192 1) (main_v11 : FVec F S1x64x1x1 .f32) (main_v12 : FVec F S1x64x1x1 .f32) (main_v14 : FVec F S1x64x1x1 .f32) (main_v17 : FVec F S1x64x1x1 .f32) : IVec S8x64x192x192 1 × IVec S64 1 × IVec S8x64x96 1 :=
  let main_v18 : FVec F S1x64x1x1 .f32 := Host.divf main_v14 main_v17
  let main_v19 : FVec F S1x64x1x1 .f32 := shapeCast S1x64x1x1 main_arg2 shapeCasts_S64_S1x64x1x1
  let main_v20 : FVec F S1x64x1x1 .f32 := mulf main_v18 main_v19
  let main_v21 : FVec F S1x64x1x1 .f32 := shapeCast S1x64x1x1 main_arg3 shapeCasts_S64_S1x64x1x1
  let main_v22 : FVec F S1x64x1x1 .f32 := addf main_v20 main_v21
  let main_v23 : FVec F S8x64x192x192 .f32 := broadcastInDim S8x64x192x192 ![0, 1, 2, 3] bcast_S1x64x1x1_S8x64x192x192_0_1_2_3 main_v11
  let main_v24 : FVec F S8x64x192x192 .f32 := subf main_v4 main_v23
  let main_cst_4 : FVec F S_ .f32 := constant S_ .f32 0x3727C5AC#32
  let main_v25 : FVec F S1x64x1x1 .f32 := broadcastInDim S1x64x1x1 ![] bcast_S_S1x64x1x1 main_cst_4
  let main_v26 : FVec F S1x64x1x1 .f32 := addf main_v12 main_v25
  let main_v27 : FVec F S1x64x1x1 .f32 := Host.sqrt main_v26
  let main_v28 : FVec F S8x64x192x192 .f32 := broadcastInDim S8x64x192x192 ![0, 1, 2, 3] bcast_S1x64x1x1_S8x64x192x192_0_1_2_3 main_v27
  let main_v29 : FVec F S8x64x192x192 .f32 := Host.divf main_v24 main_v28
  let main_v30 : FVec F S1x64x1x1 .f32 := shapeCast S1x64x1x1 main_arg2 shapeCasts_S64_S1x64x1x1
  let main_v31 : FVec F S8x64x192x192 .f32 := broadcastInDim S8x64x192x192 ![0, 1, 2, 3] bcast_S1x64x1x1_S8x64x192x192_0_1_2_3 main_v30
  let main_v32 : FVec F S8x64x192x192 .f32 := mulf main_v29 main_v31
  let main_v33 : FVec F S1x64x1x1 .f32 := shapeCast S1x64x1x1 main_arg3 shapeCasts_S64_S1x64x1x1
  let main_v34 : FVec F S8x64x192x192 .f32 := broadcastInDim S8x64x192x192 ![0, 1, 2, 3] bcast_S1x64x1x1_S8x64x192x192_0_1_2_3 main_v33
  let main_v35 : FVec F S8x64x192x192 .f32 := addf main_v32 main_v34
  let main_v36 : FVec F S8x64x192x192 .f32 := fn_relu (F := F) main_v35
  let main_cst_5 : FVec F S_ .f32 := constant S_ .f32 0xFF800000#32
  let main_v37 : FVec F S8x64x194x194 .f32 := fn_pad_0 (F := F) main_v36 main_cst_5
  let main_v38 : FVec F S8x64x96x96 .f32 := (Host.slice S8x64x96x96 ![0, 0, 0, 0] ![1, 1, 2, 2] · slicesBy_S8x64x194x194_S8x64x96x96_0s1_0s1_0s2_0s2) main_v37
  let main_v39 : FVec F S8x64x96x96 .f32 := (Host.slice S8x64x96x96 ![0, 0, 0, 1] ![1, 1, 2, 2] · slicesBy_S8x64x194x194_S8x64x96x96_0s1_0s1_0s2_1s2) main_v37
  fn_part2 (F := F) main_arg2 main_v7 main_v22 main_v37 main_v38 main_v39

def fn {F : FTy → Type} [FloatOps F] (main_arg0 : FVec F S8x3x5x384x384 .f32) (main_arg1 : FVec F S64x15x7x7 .f32) (main_arg2 : FVec F S64 .f32) (main_arg3 : FVec F S64 .f32) (main_arg4 : FVec F S3x64 .f32) (main_arg5 : FVec F S3 .f32) (main_arg6 : FVec F S3x5x15x4x4 .f32) (main_arg7 : FVec F S3x5 .f32) : IVec S8x64x192x192 1 × IVec S64 1 × IVec S8x64x96 1 :=
  let main_v0 : FVec F S8x15x384x384 .f32 := shapeCast S8x15x384x384 main_arg0 shapeCasts_S8x3x5x384x384_S8x15x384x384
  let main_v1 : FVec F S8x15x7x192x390 .f32 := fn_padded_rows (F := F) main_v0
  let main_v2 : FVec F S8x15x7x7x192x192 .f32 := fn_row_patches (F := F) main_v1
  let main_v3 : FVec F S8x192x192x64 .f32 := (fun l r => Host.dotGeneral dot_S8x15x7x7x192x192_S64x15x7x7_S8x192x192x64_123_123_045_0_n_n none l r) main_v2 main_arg1
  let main_v4 : FVec F S8x64x192x192 .f32 := (transpose S8x64x192x192 [0, 3, 1, 2] · transposes_S8x192x192x64_S8x64x192x192_0_3_1_2) main_v3
  let main_v5 : FVec F S8x64x192x192 .f32 := Host.absf main_v4
  let main_cst : FVec F S_ .f32 := constant S_ .f32 0x7F800000#32
  let main_v6 : FVec F S8x64x192x192 .f32 := broadcastInDim S8x64x192x192 ![] bcast_S_S8x64x192x192 main_cst
  let main_v7 : IVec S8x64x192x192 1 := cmpf .olt main_v5 main_v6
  let main_cst_0 : FVec F S_ .f32 := constant S_ .f32 0x00000000#32
  let main_v8 : FVec F S64 .f32 := (fun x v => Host.reduceAdd x v reducesTo_S8x64x192x192_S64_d0_2_3 h_S_) main_v4 main_cst_0
  let main_v9 : FVec F S1x64x1x1 .f32 := broadcastInDim S1x64x1x1 ![1] bcast_S64_S1x64x1x1_1 main_v8
  let main_cst_1 : FVec F S_ .f32 := constant S_ .f32 0x48900000#32
  let main_v10 : FVec F S1x64x1x1 .f32 := broadcastInDim S1x64x1x1 ![] bcast_S_S1x64x1x1 main_cst_1
  let main_v11 : FVec F S1x64x1x1 .f32 := Host.divf main_v9 main_v10
  let main_c : IVec S_ 32 := constantI S_ 32 0#32
  let main_v12 : FVec F S1x64x1x1 .f32 := fn_var (F := F) main_v4 main_c
  let main_cst_2 : FVec F S_ .f32 := constant S_ .f32 0x00000000#32
  let main_v13 : FVec F S1x64x1x1 .f32 := broadcastInDim S1x64x1x1 ![] bcast_S_S1x64x1x1 main_cst_2
  let main_v14 : FVec F S1x64x1x1 .f32 := subf main_v13 main_v11
  let main_cst_3 : FVec F S_ .f32 := constant S_ .f32 0x3727C5AC#32
  let main_v15 : FVec F S1x64x1x1 .f32 := broadcastInDim S1x64x1x1 ![] bcast_S_S1x64x1x1 main_cst_3
  let main_v16 : FVec F S1x64x1x1 .f32 := addf main_v12 main_v15
  let main_v17 : FVec F S1x64x1x1 .f32 := Host.sqrt main_v16
  fn_part1 (F := F) main_arg2 main_arg3 main_v4 main_v7 main_v11 main_v12 main_v14 main_v17
-- ==== Kernel.lean ====
abbrev S8x3x5x384x384 : Shape := ⟨5, ![8, 3, 5, 384, 384]⟩
abbrev S64x15x7x7 : Shape := ⟨4, ![64, 15, 7, 7]⟩
abbrev S64 : Shape := ⟨1, ![64]⟩
abbrev S3x64 : Shape := ⟨2, ![3, 64]⟩
abbrev S3 : Shape := ⟨1, ![3]⟩
abbrev S3x5x15x4x4 : Shape := ⟨5, ![3, 5, 15, 4, 4]⟩
abbrev S3x5 : Shape := ⟨2, ![3, 5]⟩
abbrev S8x15x384x384 : Shape := ⟨4, ![8, 15, 384, 384]⟩
abbrev S_ : Shape := ⟨0, ![]⟩
abbrev S8x15x400x392 : Shape := ⟨4, ![8, 15, 400, 392]⟩
abbrev S8x15x200x2x196x2 : Shape := ⟨6, ![8, 15, 200, 2, 196, 2]⟩
abbrev S8x2x2x15x200x196 : Shape := ⟨6, ![8, 2, 2, 15, 200, 196]⟩
abbrev S8x2x2x15x25x8x196 : Shape := ⟨7, ![8, 2, 2, 15, 25, 8, 196]⟩
abbrev S64x7x7x15 : Shape := ⟨4, ![64, 7, 7, 15]⟩
abbrev S64x735 : Shape := ⟨2, ![64, 735]⟩
abbrev S8x64x24x8x192 : Shape := ⟨5, ![8, 64, 24, 8, 192]⟩
abbrev S8x64x2 : Shape := ⟨3, ![8, 64, 2]⟩
abbrev S1x2x2x15x25x8x196 : Shape := ⟨7, ![1, 2, 2, 15, 25, 8, 196]⟩
abbrev S1x64x24x8x192 : Shape := ⟨5, ![1, 64, 24, 8, 192]⟩
abbrev S1x64x2 : Shape := ⟨3, ![1, 64, 2]⟩
abbrev S64x2 : Shape := ⟨2, ![64, 2]⟩
abbrev S1x1x1x15x2x8x196 : Shape := ⟨7, ![1, 1, 1, 15, 2, 8, 196]⟩
abbrev S15x2x8x196 : Shape := ⟨4, ![15, 2, 8, 196]⟩
abbrev S15x16x196 : Shape := ⟨3, ![15, 16, 196]⟩
abbrev S15x8x192 : Shape := ⟨3, ![15, 8, 192]⟩
abbrev S735x8x192 : Shape := ⟨3, ![735, 8, 192]⟩
abbrev S735x1536 : Shape := ⟨2, ![735, 1536]⟩
abbrev S64x1536 : Shape := ⟨2, ![64, 1536]⟩
abbrev S64x8x192 : Shape := ⟨3, ![64, 8, 192]⟩
abbrev S1x64x1x8x192 : Shape := ⟨5, ![1, 64, 1, 8, 192]⟩
abbrev S64x1 : Shape := ⟨2, ![64, 1]⟩
abbrev S8x64x1 : Shape := ⟨3, ![8, 64, 1]⟩
abbrev S1x64x1 : Shape := ⟨3, ![1, 64, 1]⟩
abbrev S64x1x1 : Shape := ⟨3, ![64, 1, 1]⟩
abbrev S64x192 : Shape := ⟨2, ![64, 192]⟩
abbrev S64x1x8x192 : Shape := ⟨4, ![64, 1, 8, 192]⟩
abbrev S64x1x192 : Shape := ⟨3, ![64, 1, 192]⟩
abbrev S64x9x192 : Shape := ⟨3, ![64, 9, 192]⟩
abbrev S64x9x1 : Shape := ⟨3, ![64, 9, 1]⟩
abbrev S64x9x193 : Shape := ⟨3, ![64, 9, 193]⟩
abbrev S64x9x194 : Shape := ⟨3, ![64, 9, 194]⟩
abbrev S192x1 : Shape := ⟨2, ![192, 1]⟩
abbrev S1x3 : Shape := ⟨2, ![1, 3]⟩
abbrev S8x1x3 : Shape := ⟨3, ![8, 1, 3]⟩
abbrev S1x1 : Shape := ⟨2, ![1, 1]⟩
abbrev S8x64 : Shape := ⟨2, ![8, 64]⟩
abbrev S8x3 : Shape := ⟨2, ![8, 3]⟩
abbrev S8x1 : Shape := ⟨2, ![8, 1]⟩
abbrev S8 : Shape := ⟨1, ![8]⟩
abbrev S1 : Shape := ⟨1, ![1]⟩
abbrev S8x15x96x4x96x4 : Shape := ⟨6, ![8, 15, 96, 4, 96, 4]⟩
abbrev S8x96x96x15x4x4 : Shape := ⟨6, ![8, 96, 96, 15, 4, 4]⟩
abbrev S8x9216x240 : Shape := ⟨3, ![8, 9216, 240]⟩
abbrev S3x5x240 : Shape := ⟨3, ![3, 5, 240]⟩
abbrev S3x240x5 : Shape := ⟨3, ![3, 240, 5]⟩
abbrev S1x240x5 : Shape := ⟨3, ![1, 240, 5]⟩
abbrev S240x5 : Shape := ⟨2, ![240, 5]⟩
abbrev S8x9216x5 : Shape := ⟨3, ![8, 9216, 5]⟩
abbrev S1x9216x240 : Shape := ⟨3, ![1, 9216, 240]⟩
abbrev S1x1x3 : Shape := ⟨3, ![1, 1, 3]⟩
abbrev S1x9216x5 : Shape := ⟨3, ![1, 9216, 5]⟩
abbrev S1x5 : Shape := ⟨2, ![1, 5]⟩
abbrev S9216x240 : Shape := ⟨2, ![9216, 240]⟩
abbrev S9216x5 : Shape := ⟨2, ![9216, 5]⟩
abbrev S8x96x96x5 : Shape := ⟨4, ![8, 96, 96, 5]⟩
abbrev S8x5x96x96 : Shape := ⟨4, ![8, 5, 96, 96]⟩

abbrev nBuf : Space → Nat
  | .hbm => 40
  | .vmem => 29
  | .smem => 0
  | _ => 0

abbrev bufTy : (tb : Table) → Fin (tcTables nBuf tb) → BufTy
  | .hbm, ⟨0, _⟩ => ⟨S8x3x5x384x384, .f32⟩
  | .hbm, ⟨1, _⟩ => ⟨S64x15x7x7, .f32⟩
  | .hbm, ⟨2, _⟩ => ⟨S64, .f32⟩
  | .hbm, ⟨3, _⟩ => ⟨S64, .f32⟩
  | .hbm, ⟨4, _⟩ => ⟨S3x64, .f32⟩
  | .hbm, ⟨5, _⟩ => ⟨S3, .f32⟩
  | .hbm, ⟨6, _⟩ => ⟨S3x5x15x4x4, .f32⟩
  | .hbm, ⟨7, _⟩ => ⟨S3x5, .f32⟩
  | .hbm, ⟨8, _⟩ => ⟨S8x15x384x384, .f32⟩
  | .hbm, ⟨9, _⟩ => ⟨S_, .i32⟩
  | .hbm, ⟨10, _⟩ => ⟨S_, .f32⟩
  | .hbm, ⟨11, _⟩ => ⟨S8x15x400x392, .f32⟩
  | .hbm, ⟨12, _⟩ => ⟨S8x15x200x2x196x2, .f32⟩
  | .hbm, ⟨13, _⟩ => ⟨S8x2x2x15x200x196, .f32⟩
  | .hbm, ⟨14, _⟩ => ⟨S8x2x2x15x25x8x196, .f32⟩
  | .hbm, ⟨15, _⟩ => ⟨S64x7x7x15, .f32⟩
  | .hbm, ⟨16, _⟩ => ⟨S64x735, .f32⟩
  | .hbm, ⟨17, _⟩ => ⟨S8x64x24x8x192, .f32⟩
  | .hbm, ⟨18, _⟩ => ⟨S8x64x2, .f32⟩
  | .hbm, ⟨19, _⟩ => ⟨S64x1, .f32⟩
  | .hbm, ⟨20, _⟩ => ⟨S64x1, .f32⟩
  | .hbm, ⟨21, _⟩ => ⟨S8x64x1, .f32⟩
  | .hbm, ⟨22, _⟩ => ⟨S1x3, .f32⟩
  | .hbm, ⟨23, _⟩ => ⟨S8x1x3, .f32⟩
  | .hbm, ⟨24, _⟩ => ⟨S1x1, .f32⟩
  | .hbm, ⟨25, _⟩ => ⟨S8x15x96x4x96x4, .f32⟩
  | .hbm, ⟨26, _⟩ => ⟨S8x96x96x15x4x4, .f32⟩
  | .hbm, ⟨27, _⟩ => ⟨S8x9216x240, .f32⟩
  | .hbm, ⟨28, _⟩ => ⟨S3x5x240, .f32⟩
  | .hbm, ⟨29, _⟩ => ⟨S3x240x5, .f32⟩
  | .hbm, ⟨30, _⟩ => ⟨S1x240x5, .f32⟩
  | .hbm, ⟨31, _⟩ => ⟨S240x5, .f32⟩
  | .hbm, ⟨32, _⟩ => ⟨S1x240x5, .f32⟩
  | .hbm, ⟨33, _⟩ => ⟨S240x5, .f32⟩
  | .hbm, ⟨34, _⟩ => ⟨S1x240x5, .f32⟩
  | .hbm, ⟨35, _⟩ => ⟨S240x5, .f32⟩
  | .hbm, ⟨36, _⟩ => ⟨S8x9216x5, .f32⟩
  | .hbm, ⟨37, _⟩ => ⟨S8x96x96x5, .f32⟩
  | .hbm, ⟨38, _⟩ => ⟨S8x5x96x96, .f32⟩
  | .hbm, ⟨39, _⟩ => ⟨S_, .f32⟩
  | .local _ .vmem, ⟨0, _⟩ => ⟨S1x2x2x15x25x8x196, .f32⟩
  | .local _ .vmem, ⟨1, _⟩ => ⟨S1x2x2x15x25x8x196, .f32⟩
  | .local _ .vmem, ⟨2, _⟩ => ⟨S64x735, .f32⟩
  | .local _ .vmem, ⟨3, _⟩ => ⟨S1x64x24x8x192, .f32⟩
  | .local _ .vmem, ⟨4, _⟩ => ⟨S1x64x24x8x192, .f32⟩
  | .local _ .vmem, ⟨5, _⟩ => ⟨S1x64x2, .f32⟩
  | .local _ .vmem, ⟨6, _⟩ => ⟨S1x64x2, .f32⟩
  | .local _ .vmem, ⟨7, _⟩ => ⟨S1x64x24x8x192, .f32⟩
  | .local _ .vmem, ⟨8, _⟩ => ⟨S1x64x24x8x192, .f32⟩
  | .local _ .vmem, ⟨9, _⟩ => ⟨S8x64x2, .f32⟩
  | .local _ .vmem, ⟨10, _⟩ => ⟨S64x1, .f32⟩
  | .local _ .vmem, ⟨11, _⟩ => ⟨S64x1, .f32⟩
  | .local _ .vmem, ⟨12, _⟩ => ⟨S1x64x1, .f32⟩
  | .local _ .vmem, ⟨13, _⟩ => ⟨S1x64x1, .f32⟩
  | .local _ .vmem, ⟨14, _⟩ => ⟨S8x64x1, .f32⟩
  | .local _ .vmem, ⟨15, _⟩ => ⟨S3x64, .f32⟩
  | .local _ .vmem, ⟨16, _⟩ => ⟨S1x3, .f32⟩
  | .local _ .vmem, ⟨17, _⟩ => ⟨S8x1x3, .f32⟩
  | .local _ .vmem, ⟨18, _⟩ => ⟨S1x1, .f32⟩
  | .local _ .vmem, ⟨19, _⟩ => ⟨S1x9216x240, .f32⟩
  | .local _ .vmem, ⟨20, _⟩ => ⟨S1x9216x240, .f32⟩
  | .local _ .vmem, ⟨21, _⟩ => ⟨S1x1x3, .f32⟩
  | .local _ .vmem, ⟨22, _⟩ => ⟨S1x1x3, .f32⟩
  | .local _ .vmem, ⟨23, _⟩ => ⟨S240x5, .f32⟩
  | .local _ .vmem, ⟨24, _⟩ => ⟨S240x5, .f32⟩
  | .local _ .vmem, ⟨25, _⟩ => ⟨S240x5, .f32⟩
  | .local _ .vmem, ⟨26, _⟩ => ⟨S3x5, .f32⟩
  | .local _ .vmem, ⟨27, _⟩ => ⟨S1x9216x5, .f32⟩
  | .local _ .vmem, ⟨28, _⟩ => ⟨S1x9216x5, .f32⟩
  | _, _ => ⟨S8x3x5x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg6_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem6_1 : DmaSem sig := 28

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c24_i32 : BitVec 32 := 24#32
  let v3 : BitVec 32 := Scalar.addi c0_i32 c24_i32
  let c1_i32 : BitVec 32 := 1#32
  ⟨c0_i32, v3, c1_i32⟩
def k0_off1 (k0_t1 : Fin k0_t1_loop.trips) : Fin 7 → Nat :=
  let c0_5 : Index := 0#32
  let c0_6 : Index := 0#32
  let c0_7 : Index := 0#32
  let c0_8 : Index := 0#32
  let c0_i32 : BitVec 32 := 0#32
  let c1_i32 : BitVec 32 := 1#32
  let arg5 : BitVec 32 := Scf.iv c0_i32 c1_i32 k0_t1
  let v8 : Index := Scalar.indexCast arg5
  let c0_9 : Index := 0#32
  let c0_10 : Index := 0#32
  ![0, 0, 0, 0, v8.toNat, 0, 0]
def k0_off2 (k0_t1 : Fin k0_t1_loop.trips) : Fin 7 → Nat :=
  let c0_11 : Index := 0#32
  let c0_12 : Index := 0#32
  let c1 : Index := 1#32
  let c0_13 : Index := 0#32
  let c0_i32 : BitVec 32 := 0#32
  let c1_i32 : BitVec 32 := 1#32
  let arg5 : BitVec 32 := Scf.iv c0_i32 c1_i32 k0_t1
  let v12 : Index := Scalar.indexCast arg5
  let c0_14 : Index := 0#32
  let c0_15 : Index := 0#32
  ![0, 0, 1, 0, v12.toNat, 0, 0]
def k0_off3 (k0_t1 : Fin k0_t1_loop.trips) : Fin 7 → Nat :=
  let c0_16 : Index := 0#32
  let c1_17 : Index := 1#32
  let c0_18 : Index := 0#32
  let c0_19 : Index := 0#32
  let c0_i32 : BitVec 32 := 0#32
  let c1_i32 : BitVec 32 := 1#32
  let arg5 : BitVec 32 := Scf.iv c0_i32 c1_i32 k0_t1
  let v16 : Index := Scalar.indexCast arg5
  let c0_20 : Index := 0#32
  let c0_21 : Index := 0#32
  ![0, 1, 0, 0, v16.toNat, 0, 0]
def k0_off4 (k0_t1 : Fin k0_t1_loop.trips) : Fin 7 → Nat :=
  let c0_22 : Index := 0#32
  let c1_23 : Index := 1#32
  let c1_24 : Index := 1#32
  let c0_25 : Index := 0#32
  let c0_i32 : BitVec 32 := 0#32
  let c1_i32 : BitVec 32 := 1#32
  let arg5 : BitVec 32 := Scf.iv c0_i32 c1_i32 k0_t1
  let v20 : Index := Scalar.indexCast arg5
  let c0_26 : Index := 0#32
  let c0_27 : Index := 0#32
  ![0, 1, 1, 0, v20.toNat, 0, 0]
def k0_off5 (k0_t1 : Fin k0_t1_loop.trips) : Fin 5 → Nat :=
  let c0_29 : Index := 0#32
  let c0_30 : Index := 0#32
  let c0_i32 : BitVec 32 := 0#32
  let c1_i32 : BitVec 32 := 1#32
  let arg5 : BitVec 32 := Scf.iv c0_i32 c1_i32 k0_t1
  let v77 : Index := Scalar.indexCast arg5
  let c0_31 : Index := 0#32
  let c0_32 : Index := 0#32
  ![0, 0, v77.toNat, 0, 0]
def cc0_transform_0 (i : grid0.Coords) : Fin 7 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![arg0.toNat, c0_i32.toNat, c0_i32_0.toNat, c0_i32_1.toNat, c0_i32_2.toNat, c0_i32_3.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x2x15x25x8x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x735 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x24x8x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

@[reducible] def k1_t1_loop : Scf.Loop 32 :=
  let c0_i32 : BitVec 32 := 0#32
  let c24_i32 : BitVec 32 := 24#32
  let v24 : BitVec 32 := Scalar.addi c0_i32 c24_i32
  let c1_i32 : BitVec 32 := 1#32
  ⟨c0_i32, v24, c1_i32⟩
def k1_off1 (k1_t1 : Fin k1_t1_loop.trips) : Fin 5 → Nat :=
  let c0_22 : Index := 0#32
  let c0_23 : Index := 0#32
  let c0_i32 : BitVec 32 := 0#32
  let c1_i32 : BitVec 32 := 1#32
  let arg6 : BitVec 32 := Scf.iv c0_i32 c1_i32 k1_t1
  let v53 : Index := Scalar.indexCast arg6
  let c0_24 : Index := 0#32
  let c0_25 : Index := 0#32
  ![0, 0, v53.toNat, 0, 0]
def k1_off2 (k1_t1 : Fin k1_t1_loop.trips) : Fin 5 → Nat :=
  let c0_28 : Index := 0#32
  let c0_29 : Index := 0#32
  let c0_i32 : BitVec 32 := 0#32
  let c1_i32 : BitVec 32 := 1#32
  let arg6 : BitVec 32 := Scf.iv c0_i32 c1_i32 k1_t1
  let c1_i32_26 : BitVec 32 := 1#32
  let v57 : BitVec 32 := Scalar.subi arg6 c1_i32_26
  let c0_i32_27 : BitVec 32 := 0#32
  let v58 : BitVec 32 := Scalar.maxsi v57 c0_i32_27
  let v59 : Index := Scalar.indexCast v58
  let c0_30 : Index := 0#32
  let c0_31 : Index := 0#32
  ![0, 0, v59.toNat, 0, 0]
def cc1_transform_0 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x24x8x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x64x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x64x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := .none

abbrev stage2_0 : Fin 1 → Memref sig .tc .vmem S8x64x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S3x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x3 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S8x1x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x9216x240 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x3 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S240x5 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S240x5 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S240x5 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S3x5 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1x9216x5 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]
-- ==== KernelIdeal.lean ====
variable {F : FTy → Type} [FloatOps F] [Named F]
def κ : String → Option EReal := fun
  | "inv_pixels" => some ((1 / 294912 : ℝ) : EReal)
  | "inv_pooled" => some ((1 / 9216 : ℝ) : EReal)
  | _ => none
-- ==== ReferenceIdeal.lean ====
abbrev S8x3x5x384x384 : Shape := ⟨5, ![8, 3, 5, 384, 384]⟩
abbrev S64x15x7x7 : Shape := ⟨4, ![64, 15, 7, 7]⟩
abbrev S64 : Shape := ⟨1, ![64]⟩
abbrev S3x64 : Shape := ⟨2, ![3, 64]⟩
abbrev S3 : Shape := ⟨1, ![3]⟩
abbrev S3x5x15x4x4 : Shape := ⟨5, ![3, 5, 15, 4, 4]⟩
abbrev S3x5 : Shape := ⟨2, ![3, 5]⟩
abbrev S8x15x384x384 : Shape := ⟨4, ![8, 15, 384, 384]⟩
abbrev S_ : Shape := ⟨0, ![]⟩
abbrev S8x15x390x390 : Shape := ⟨4, ![8, 15, 390, 390]⟩
abbrev S8x15x192x390 : Shape := ⟨4, ![8, 15, 192, 390]⟩
abbrev S8x15x1x192x390 : Shape := ⟨5, ![8, 15, 1, 192, 390]⟩
abbrev S8x15x7x192x390 : Shape := ⟨5, ![8, 15, 7, 192, 390]⟩
abbrev S8x15x7x192x192 : Shape := ⟨5, ![8, 15, 7, 192, 192]⟩
abbrev S8x15x7x1x192x192 : Shape := ⟨6, ![8, 15, 7, 1, 192, 192]⟩
abbrev S8x15x7x7x192x192 : Shape := ⟨6, ![8, 15, 7, 7, 192, 192]⟩
abbrev S8x192x192x64 : Shape := ⟨4, ![8, 192, 192, 64]⟩
abbrev S8x64x192x192 : Shape := ⟨4, ![8, 64, 192, 192]⟩
abbrev S1x64x1x1 : Shape := ⟨4, ![1, 64, 1, 1]⟩
abbrev S8x64x194x194 : Shape := ⟨4, ![8, 64, 194, 194]⟩
abbrev S8x64x96x96 : Shape := ⟨4, ![8, 64, 96, 96]⟩
abbrev S8x64 : Shape := ⟨2, ![8, 64]⟩
abbrev S64x3 : Shape := ⟨2, ![64, 3]⟩
abbrev S8x3 : Shape := ⟨2, ![8, 3]⟩
abbrev S1x3 : Shape := ⟨2, ![1, 3]⟩
abbrev S8x1 : Shape := ⟨2, ![8, 1]⟩
abbrev S8 : Shape := ⟨1, ![8]⟩
abbrev S8x1x1 : Shape := ⟨3, ![8, 1, 1]⟩
abbrev S8x1x2 : Shape := ⟨3, ![8, 1, 2]⟩
abbrev S8x15x96x4x96x4 : Shape := ⟨6, ![8, 15, 96, 4, 96, 4]⟩
abbrev S8x96x96x3x5 : Shape := ⟨5, ![8, 96, 96, 3, 5]⟩
abbrev S3x8x5x96x96 : Shape := ⟨5, ![3, 8, 5, 96, 96]⟩
abbrev S3x1x5x1x1 : Shape := ⟨5, ![3, 1, 5, 1, 1]⟩
abbrev S3x8 : Shape := ⟨2, ![3, 8]⟩
abbrev S3x8x1x1x1 : Shape := ⟨5, ![3, 8, 1, 1, 1]⟩
abbrev S8x5x96x96 : Shape := ⟨4, ![8, 5, 96, 96]⟩

abbrev nBuf : Space → Nat
  | .hbm => 190
  | .vmem => 0
  | .smem => 0
  | _ => 0

abbrev hbmTy0_0 (i : Nat) : BufTy := match i % 128 with
  | 0 => ⟨S8x3x5x384x384, .f32⟩
  | 1 => ⟨S64x15x7x7, .f32⟩
  | 2 => ⟨S64, .f32⟩
  | 3 => ⟨S64, .f32⟩
  | 4 => ⟨S3x64, .f32⟩
  | 5 => ⟨S3, .f32⟩
  | 6 => ⟨S3x5x15x4x4, .f32⟩
  | 7 => ⟨S3x5, .f32⟩
  | 8 => ⟨S8x15x384x384, .f32⟩
  | 9 => ⟨S_, .i32⟩
  | 10 => ⟨S_, .f32⟩
  | 11 => ⟨S8x15x390x390, .f32⟩
  | 12 => ⟨S8x15x192x390, .f32⟩
  | 13 => ⟨S8x15x192x390, .f32⟩
  | 14 => ⟨S8x15x192x390, .f32⟩
  | 15 => ⟨S8x15x192x390, .f32⟩
  | 16 => ⟨S8x15x192x390, .f32⟩
  | 17 => ⟨S8x15x192x390, .f32⟩
  | 18 => ⟨S8x15x192x390, .f32⟩
  | 19 => ⟨S8x15x1x192x390, .f32⟩
  | 20 => ⟨S8x15x1x192x390, .f32⟩
  | 21 => ⟨S8x15x1x192x390, .f32⟩
  | 22 => ⟨S8x15x1x192x390, .f32⟩
  | 23 => ⟨S8x15x1x192x390, .f32⟩
  | 24 => ⟨S8x15x1x192x390, .f32⟩
  | 25 => ⟨S8x15x1x192x390, .f32⟩
  | 26 => ⟨S8x15x7x192x390, .f32⟩
  | 27 => ⟨S8x15x7x192x192, .f32⟩
  | 28 => ⟨S8x15x7x192x192, .f32⟩
  | 29 => ⟨S8x15x7x192x192, .f32⟩
  | 30 => ⟨S8x15x7x192x192, .f32⟩
  | 31 => ⟨S8x15x7x192x192, .f32⟩
  | 32 => ⟨S8x15x7x192x192, .f32⟩
  | 33 => ⟨S8x15x7x192x192, .f32⟩
  | 34 => ⟨S8x15x7x1x192x192, .f32⟩
  | 35 => ⟨S8x15x7x1x192x192, .f32⟩
  | 36 => ⟨S8x15x7x1x192x192, .f32⟩
  | 37 => ⟨S8x15x7x1x192x192, .f32⟩
  | 38 => ⟨S8x15x7x1x192x192, .f32⟩
  | 39 => ⟨S8x15x7x1x192x192, .f32⟩
  | 40 => ⟨S8x15x7x1x192x192, .f32⟩
  | 41 => ⟨S8x15x7x7x192x192, .f32⟩
  | 42 => ⟨S8x192x192x64, .f32⟩
  | 43 => ⟨S8x64x192x192, .f32⟩
  | 44 => ⟨S_, .f32⟩
  | 45 => ⟨S64, .f32⟩
  | 46 => ⟨S1x64x1x1, .f32⟩
  | 47 => ⟨S_, .f32⟩
  | 48 => ⟨S1x64x1x1, .f32⟩
  | 49 => ⟨S1x64x1x1, .f32⟩
  | 50 => ⟨S_, .i32⟩
  | 51 => ⟨S_, .f32⟩
  | 52 => ⟨S64, .f32⟩
  | 53 => ⟨S1x64x1x1, .f32⟩
  | 54 => ⟨S_, .f32⟩
  | 55 => ⟨S1x64x1x1, .f32⟩
  | 56 => ⟨S1x64x1x1, .f32⟩
  | 57 => ⟨S8x64x192x192, .f32⟩
  | 58 => ⟨S8x64x192x192, .f32⟩
  | 59 => ⟨S8x64x192x192, .f32⟩
  | 60 => ⟨S_, .f32⟩
  | 61 => ⟨S_, .f32⟩
  | 62 => ⟨S_, .f32⟩
  | 63 => ⟨S_, .f32⟩
  | 64 => ⟨S64, .f32⟩
  | 65 => ⟨S1x64x1x1, .f32⟩
  | 66 => ⟨S1x64x1x1, .f32⟩
  | 67 => ⟨S1x64x1x1, .f32⟩
  | 68 => ⟨S_, .f32⟩
  | 69 => ⟨S_, .i1⟩
  | 70 => ⟨S_, .f32⟩
  | 71 => ⟨S_, .f32⟩
  | 72 => ⟨S1x64x1x1, .f32⟩
  | 73 => ⟨S1x64x1x1, .f32⟩
  | 74 => ⟨S8x64x192x192, .f32⟩
  | 75 => ⟨S8x64x192x192, .f32⟩
  | 76 => ⟨S_, .f32⟩
  | 77 => ⟨S1x64x1x1, .f32⟩
  | 78 => ⟨S1x64x1x1, .f32⟩
  | 79 => ⟨S1x64x1x1, .f32⟩
  | 80 => ⟨S8x64x192x192, .f32⟩
  | 81 => ⟨S8x64x192x192, .f32⟩
  | 82 => ⟨S1x64x1x1, .f32⟩
  | 83 => ⟨S8x64x192x192, .f32⟩
  | 84 => ⟨S8x64x192x192, .f32⟩
  | 85 => ⟨S1x64x1x1, .f32⟩
  | 86 => ⟨S8x64x192x192, .f32⟩
  | 87 => ⟨S8x64x192x192, .f32⟩
  | 88 => ⟨S_, .f32⟩
  | 89 => ⟨S8x64x192x192, .f32⟩
  | 90 => ⟨S8x64x192x192, .f32⟩
  | 91 => ⟨S_, .f32⟩
  | 92 => ⟨S_, .f32⟩
  | 93 => ⟨S8x64x194x194, .f32⟩
  | 94 => ⟨S8x64x96x96, .f32⟩
  | 95 => ⟨S8x64x96x96, .f32⟩
  | 96 => ⟨S8x64x96x96, .f32⟩
  | 97 => ⟨S8x64x96x96, .f32⟩
  | 98 => ⟨S8x64x96x96, .f32⟩
  | 99 => ⟨S8x64x96x96, .f32⟩
  | 100 => ⟨S8x64x96x96, .f32⟩
  | 101 => ⟨S8x64x96x96, .f32⟩
  | 102 => ⟨S8x64x96x96, .f32⟩
  | 103 => ⟨S8x64x96x96, .f32⟩
  | 104 => ⟨S8x64x96x96, .f32⟩
  | 105 => ⟨S8x64x96x96, .f32⟩
  | 106 => ⟨S8x64x96x96, .f32⟩
  | 107 => ⟨S8x64x96x96, .f32⟩
  | 108 => ⟨S8x64x96x96, .f32⟩
  | 109 => ⟨S8x64x96x96, .f32⟩
  | 110 => ⟨S8x64x96x96, .f32⟩
  | 111 => ⟨S_, .f32⟩
  | 112 => ⟨S8x64, .f32⟩
  | 113 => ⟨S_, .f32⟩
  | 114 => ⟨S8x64, .f32⟩
  | 115 => ⟨S8x64, .f32⟩
  | 116 => ⟨S64x3, .f32⟩
  | 117 => ⟨S8x3, .f32⟩
  | 118 => ⟨S1x3, .f32⟩
  | 119 => ⟨S8x3, .f32⟩
  | 120 => ⟨S8x3, .f32⟩
  | 121 => ⟨S8x1, .f32⟩
  | 122 => ⟨S8x1, .i32⟩
  | 123 => ⟨S_, .f32⟩
  | 124 => ⟨S8x3, .f32⟩
  | 125 => ⟨S8, .i32⟩
  | 126 => ⟨S8x1, .i32⟩
  | 127 => ⟨S_, .i32⟩
  | _ => ⟨S8x3x5x384x384, .f32⟩

abbrev hbmTy0_1 (i : Nat) : BufTy := match i % 128 with
  | 0 => ⟨S8x1, .i32⟩
  | 1 => ⟨S8x1, .i1⟩
  | 2 => ⟨S_, .i32⟩
  | 3 => ⟨S8x1, .i32⟩
  | 4 => ⟨S8x1, .i32⟩
  | 5 => ⟨S8x1, .i32⟩
  | 6 => ⟨S_, .i32⟩
  | 7 => ⟨S8x1, .i32⟩
  | 8 => ⟨S8x1, .i1⟩
  | 9 => ⟨S_, .i32⟩
  | 10 => ⟨S8x1, .i32⟩
  | 11 => ⟨S8x1, .i32⟩
  | 12 => ⟨S8x1, .i32⟩
  | 13 => ⟨S8x1x1, .i32⟩
  | 14 => ⟨S8x1x1, .i32⟩
  | 15 => ⟨S8x1x2, .i32⟩
  | 16 => ⟨S_, .f32⟩
  | 17 => ⟨S8x1, .f32⟩
  | 18 => ⟨S8x3, .f32⟩
  | 19 => ⟨S_, .f32⟩
  | 20 => ⟨S3, .f32⟩
  | 21 => ⟨S_, .f32⟩
  | 22 => ⟨S3, .f32⟩
  | 23 => ⟨S3, .f32⟩
  | 24 => ⟨S_, .f32⟩
  | 25 => ⟨S8, .f32⟩
  | 26 => ⟨S_, .f32⟩
  | 27 => ⟨S8, .f32⟩
  | 28 => ⟨S8, .f32⟩
  | 29 => ⟨S8x1, .f32⟩
  | 30 => ⟨S8x3, .f32⟩
  | 31 => ⟨S8x3, .f32⟩
  | 32 => ⟨S8x3, .f32⟩
  | 33 => ⟨S_, .f32⟩
  | 34 => ⟨S8, .f32⟩
  | 35 => ⟨S8x1, .f32⟩
  | 36 => ⟨S8x3, .f32⟩
  | 37 => ⟨S8x3, .f32⟩
  | 38 => ⟨S_, .f32⟩
  | 39 => ⟨S3, .f32⟩
  | 40 => ⟨S_, .f32⟩
  | 41 => ⟨S3, .f32⟩
  | 42 => ⟨S3, .f32⟩
  | 43 => ⟨S3, .f32⟩
  | 44 => ⟨S_, .f32⟩
  | 45 => ⟨S_, .f32⟩
  | 46 => ⟨S_, .f32⟩
  | 47 => ⟨S_, .f32⟩
  | 48 => ⟨S8x15x96x4x96x4, .f32⟩
  | 49 => ⟨S8x96x96x3x5, .f32⟩
  | 50 => ⟨S3x8x5x96x96, .f32⟩
  | 51 => ⟨S3x1x5x1x1, .f32⟩
  | 52 => ⟨S3x8x5x96x96, .f32⟩
  | 53 => ⟨S3x8x5x96x96, .f32⟩
  | 54 => ⟨S3x8, .f32⟩
  | 55 => ⟨S3x8x1x1x1, .f32⟩
  | 56 => ⟨S3x8x5x96x96, .f32⟩
  | 57 => ⟨S3x8x5x96x96, .f32⟩
  | 58 => ⟨S_, .f32⟩
  | 59 => ⟨S8x5x96x96, .f32⟩
  | 60 => ⟨S_, .f32⟩
  | 61 => ⟨S_, .f32⟩
  | _ => ⟨S8x3x5x384x384, .f32⟩

abbrev hbmTy (i : Nat) : BufTy := match i / 128 with
  | 0 => hbmTy0_0 i
  | 1 => hbmTy0_1 i
  | _ => ⟨S8x3x5x384x384, .f32⟩

abbrev bufTy : (tb : Table) → Fin (tcTables nBuf tb) → BufTy
  | .hbm, ⟨i, _⟩ => hbmTy i
  | _, _ => ⟨S8x3x5x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst : Ref sig .tc := ⟨.hbm, 44, rfl⟩
abbrev main_v34 : Ref sig .tc := ⟨.hbm, 45, rfl⟩
abbrev main_v35 : Ref sig .tc := ⟨.hbm, 46, rfl⟩
abbrev main_cst_0 : Ref sig .tc := ⟨.hbm, 47, rfl⟩
abbrev main_v36 : Ref sig .tc := ⟨.hbm, 48, rfl⟩
abbrev main_v37 : Ref sig .tc := ⟨.hbm, 49, rfl⟩
abbrev main_c_1 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_cst_3 : Ref sig .tc := ⟨.hbm, 68, rfl⟩
abbrev main_call1_v13 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_2 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_call2_cst : Ref sig .tc := ⟨.hbm, 88, rfl⟩
abbrev main_call2_v0 : Ref sig .tc := ⟨.hbm, 89, rfl⟩
abbrev main_v52 : Ref sig .tc := ⟨.hbm, 90, rfl⟩
abbrev main_cst_3 : Ref sig .tc := ⟨.hbm, 91, rfl⟩
abbrev main_call3_v0 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_4 : Ref sig .tc := ⟨.hbm, 111, rfl⟩
abbrev main_v71 : Ref sig .tc := ⟨.hbm, 112, rfl⟩
abbrev main_cst_5 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_values : Ref sig .tc := ⟨.hbm, 121, rfl⟩
abbrev main_indices : Ref sig .tc := ⟨.hbm, 122, rfl⟩
abbrev main_cst_6 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_c_7 : Ref sig .tc := ⟨.hbm, 127, rfl⟩
abbrev main_v82 : Ref sig .tc := ⟨.hbm, 128, rfl⟩
abbrev main_v83 : Ref sig .tc := ⟨.hbm, 129, rfl⟩
abbrev main_c_8 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_c_9 : Ref sig .tc := ⟨.hbm, 134, rfl⟩
abbrev main_v87 : Ref sig .tc := ⟨.hbm, 135, rfl⟩
abbrev main_v88 : Ref sig .tc := ⟨.hbm, 136, rfl⟩
abbrev main_c_10 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_11 : Ref sig .tc := ⟨.hbm, 144, rfl⟩
abbrev main_v95 : Ref sig .tc := ⟨.hbm, 145, rfl⟩
abbrev main_v96 : Ref sig .tc := ⟨.hbm, 146, rfl⟩
abbrev main_cst_12 : Ref sig .tc := ⟨.hbm, 147, rfl⟩
abbrev main_v97 : Ref sig .tc := ⟨.hbm, 148, rfl⟩
abbrev main_cst_13 : Ref sig .tc := ⟨.hbm, 149, rfl⟩
abbrev main_v98 : Ref sig .tc := ⟨.hbm, 150, rfl⟩
abbrev main_v99 : Ref sig .tc := ⟨.hbm, 151, rfl⟩
abbrev main_cst_14 : Ref sig .tc := ⟨.hbm, 152, rfl⟩
abbrev main_v100 : Ref sig .tc := ⟨.hbm, 153, rfl⟩
abbrev main_cst_15 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_16 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_cst_17 : Ref sig .tc := ⟨.hbm, 166, rfl⟩
abbrev main_v111 : Ref sig .tc := ⟨.hbm, 167, rfl⟩
abbrev main_cst_18 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_cst_19 : Ref sig .tc := ⟨.hbm, 172, rfl⟩
abbrev main_v115 : Ref sig .tc := ⟨.hbm, 173, rfl⟩
abbrev main_cst_20 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_cst_21 : Ref sig .tc := ⟨.hbm, 186, rfl⟩
abbrev main_v127 : Ref sig .tc := ⟨.hbm, 187, rfl⟩
abbrev main_cst_22 : Ref sig .tc := ⟨.hbm, 188, rfl⟩
abbrev main_v128 : Ref sig .tc := ⟨.hbm, 189, rfl⟩

abbrev nD : Nat := 1
abbrev τ : Topo := Topo.v7x

variable {F : FTy → Type} [FloatOps F]
-- ==== Gconv.lean ====
abbrev S8x3x5x384x384 : Shape := ⟨5, ![8, 3, 5, 384, 384]⟩
abbrev S64x15x7x7 : Shape := ⟨4, ![64, 15, 7, 7]⟩
abbrev S8x15x384x384 : Shape := ⟨4, ![8, 15, 384, 384]⟩
abbrev S_ : Shape := ⟨0, ![]⟩
abbrev S8x15x400x392 : Shape := ⟨4, ![8, 15, 400, 392]⟩
abbrev S8x15x200x2x196x2 : Shape := ⟨6, ![8, 15, 200, 2, 196, 2]⟩
abbrev S8x2x2x15x200x196 : Shape := ⟨6, ![8, 2, 2, 15, 200, 196]⟩
abbrev S8x2x2x15x25x8x196 : Shape := ⟨7, ![8, 2, 2, 15, 25, 8, 196]⟩
abbrev S64x7x7x15 : Shape := ⟨4, ![64, 7, 7, 15]⟩
abbrev S64x735 : Shape := ⟨2, ![64, 735]⟩
abbrev S8x64x24x8x192 : Shape := ⟨5, ![8, 64, 24, 8, 192]⟩
abbrev S8x64x2 : Shape := ⟨3, ![8, 64, 2]⟩
abbrev S1x2x2x15x25x8x196 : Shape := ⟨7, ![1, 2, 2, 15, 25, 8, 196]⟩
abbrev S1x64x24x8x192 : Shape := ⟨5, ![1, 64, 24, 8, 192]⟩
abbrev S1x64x2 : Shape := ⟨3, ![1, 64, 2]⟩
abbrev S64x2 : Shape := ⟨2, ![64, 2]⟩
abbrev S1x1x1x15x2x8x196 : Shape := ⟨7, ![1, 1, 1, 15, 2, 8, 196]⟩
abbrev S15x2x8x196 : Shape := ⟨4, ![15, 2, 8, 196]⟩
abbrev S15x16x196 : Shape := ⟨3, ![15, 16, 196]⟩
abbrev S15x8x192 : Shape := ⟨3, ![15, 8, 192]⟩
abbrev S735x8x192 : Shape := ⟨3, ![735, 8, 192]⟩
abbrev S735x1536 : Shape := ⟨2, ![735, 1536]⟩
abbrev S64x1536 : Shape := ⟨2, ![64, 1536]⟩
abbrev S64x8x192 : Shape := ⟨3, ![64, 8, 192]⟩
abbrev S1x64x1x8x192 : Shape := ⟨5, ![1, 64, 1, 8, 192]⟩
abbrev S64 : Shape := ⟨1, ![64]⟩
abbrev S64x1 : Shape := ⟨2, ![64, 1]⟩

abbrev nBuf : Space → Nat
  | .hbm => 13
  | .vmem => 7
  | .smem => 0
  | _ => 0

abbrev bufTy : (tb : Table) → Fin (tcTables nBuf tb) → BufTy
  | .hbm, ⟨0, _⟩ => ⟨S8x3x5x384x384, .f32⟩
  | .hbm, ⟨1, _⟩ => ⟨S64x15x7x7, .f32⟩
  | .hbm, ⟨2, _⟩ => ⟨S8x15x384x384, .f32⟩
  | .hbm, ⟨3, _⟩ => ⟨S_, .i32⟩
  | .hbm, ⟨4, _⟩ => ⟨S_, .f32⟩
  | .hbm, ⟨5, _⟩ => ⟨S8x15x400x392, .f32⟩
  | .hbm, ⟨6, _⟩ => ⟨S8x15x200x2x196x2, .f32⟩
  | .hbm, ⟨7, _⟩ => ⟨S8x2x2x15x200x196, .f32⟩
  | .hbm, ⟨8, _⟩ => ⟨S8x2x2x15x25x8x196, .f32⟩
  | .hbm, ⟨9, _⟩ => ⟨S64x7x7x15, .f32⟩
  | .hbm, ⟨10, _⟩ => ⟨S64x735, .f32⟩
  | .hbm, ⟨11, _⟩ => ⟨S8x64x24x8x192, .f32⟩
  | .hbm, ⟨12, _⟩ => ⟨S8x64x2, .f32⟩
  | .local _ .vmem, ⟨0, _⟩ => ⟨S1x2x2x15x25x8x196, .f32⟩
  | .local _ .vmem, ⟨1, _⟩ => ⟨S1x2x2x15x25x8x196, .f32⟩
  | .local _ .vmem, ⟨2, _⟩ => ⟨S64x735, .f32⟩
  | .local _ .vmem, ⟨3, _⟩ => ⟨S1x64x24x8x192, .f32⟩
  | .local _ .vmem, ⟨4, _⟩ => ⟨S1x64x24x8x192, .f32⟩
  | .local _ .vmem, ⟨5, _⟩ => ⟨S1x64x2, .f32⟩
  | .local _ .vmem, ⟨6, _⟩ => ⟨S1x64x2, .f32⟩
  | _, _ => ⟨S8x3x5x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c24_i32 : BitVec 32 := 24#32
  let v3 : BitVec 32 := Scalar.addi c0_i32 c24_i32
  let c1_i32 : BitVec 32 := 1#32
  ⟨c0_i32, v3, c1_i32⟩
def k0_off1 (k0_t1 : Fin k0_t1_loop.trips) : Fin 7 → Nat :=
  let c0_5 : Index := 0#32
  let c0_6 : Index := 0#32
  let c0_7 : Index := 0#32
  let c0_8 : Index := 0#32
  let c0_i32 : BitVec 32 := 0#32
  let c1_i32 : BitVec 32 := 1#32
  let arg5 : BitVec 32 := Scf.iv c0_i32 c1_i32 k0_t1
  let v8 : Index := Scalar.indexCast arg5
  let c0_9 : Index := 0#32
  let c0_10 : Index := 0#32
  ![0, 0, 0, 0, v8.toNat, 0, 0]
def k0_off2 (k0_t1 : Fin k0_t1_loop.trips) : Fin 7 → Nat :=
  let c0_11 : Index := 0#32
  let c0_12 : Index := 0#32
  let c1 : Index := 1#32
  let c0_13 : Index := 0#32
  let c0_i32 : BitVec 32 := 0#32
  let c1_i32 : BitVec 32 := 1#32
  let arg5 : BitVec 32 := Scf.iv c0_i32 c1_i32 k0_t1
  let v12 : Index := Scalar.indexCast arg5
  let c0_14 : Index := 0#32
  let c0_15 : Index := 0#32
  ![0, 0, 1, 0, v12.toNat, 0, 0]
def k0_off3 (k0_t1 : Fin k0_t1_loop.trips) : Fin 7 → Nat :=
  let c0_16 : Index := 0#32
  let c1_17 : Index := 1#32
  let c0_18 : Index := 0#32
  let c0_19 : Index := 0#32
  let c0_i32 : BitVec 32 := 0#32
  let c1_i32 : BitVec 32 := 1#32
  let arg5 : BitVec 32 := Scf.iv c0_i32 c1_i32 k0_t1
  let v16 : Index := Scalar.indexCast arg5
  let c0_20 : Index := 0#32
  let c0_21 : Index := 0#32
  ![0, 1, 0, 0, v16.toNat, 0, 0]
def k0_off4 (k0_t1 : Fin k0_t1_loop.trips) : Fin 7 → Nat :=
  let c0_22 : Index := 0#32
  let c1_23 : Index := 1#32
  let c1_24 : Index := 1#32
  let c0_25 : Index := 0#32
  let c0_i32 : BitVec 32 := 0#32
  let c1_i32 : BitVec 32 := 1#32
  let arg5 : BitVec 32 := Scf.iv c0_i32 c1_i32 k0_t1
  let v20 : Index := Scalar.indexCast arg5
  let c0_26 : Index := 0#32
  let c0_27 : Index := 0#32
  ![0, 1, 1, 0, v20.toNat, 0, 0]
def k0_off5 (k0_t1 : Fin k0_t1_loop.trips) : Fin 5 → Nat :=
  let c0_29 : Index := 0#32
  let c0_30 : Index := 0#32
  let c0_i32 : BitVec 32 := 0#32
  let c1_i32 : BitVec 32 := 1#32
  let arg5 : BitVec 32 := Scf.iv c0_i32 c1_i32 k0_t1
  let v77 : Index := Scalar.indexCast arg5
  let c0_31 : Index := 0#32
  let c0_32 : Index := 0#32
  ![0, 0, v77.toNat, 0, 0]
def cc0_transform_0 (i : grid0.Coords) : Fin 7 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![arg0.toNat, c0_i32.toNat, c0_i32_0.toNat, c0_i32_1.toNat, c0_i32_2.toNat, c0_i32_3.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x2x15x25x8x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x735 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x24x8x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GconvReferenceIdeal.lean ====
abbrev S8x3x5x384x384 : Shape := ⟨5, ![8, 3, 5, 384, 384]⟩
abbrev S64x15x7x7 : Shape := ⟨4, ![64, 15, 7, 7]⟩
abbrev S8x15x384x384 : Shape := ⟨4, ![8, 15, 384, 384]⟩
abbrev S_ : Shape := ⟨0, ![]⟩
abbrev S8x15x390x390 : Shape := ⟨4, ![8, 15, 390, 390]⟩
abbrev S8x15x192x390 : Shape := ⟨4, ![8, 15, 192, 390]⟩
abbrev S8x15x1x192x390 : Shape := ⟨5, ![8, 15, 1, 192, 390]⟩
abbrev S8x15x7x192x390 : Shape := ⟨5, ![8, 15, 7, 192, 390]⟩
abbrev S8x15x7x192x192 : Shape := ⟨5, ![8, 15, 7, 192, 192]⟩
abbrev S8x15x7x1x192x192 : Shape := ⟨6, ![8, 15, 7, 1, 192, 192]⟩
abbrev S8x15x7x7x192x192 : Shape := ⟨6, ![8, 15, 7, 7, 192, 192]⟩
abbrev S8x192x192x64 : Shape := ⟨4, ![8, 192, 192, 64]⟩
abbrev S8x64x192x192 : Shape := ⟨4, ![8, 64, 192, 192]⟩
abbrev S8x64x24x8x192 : Shape := ⟨5, ![8, 64, 24, 8, 192]⟩
abbrev S8x64 : Shape := ⟨2, ![8, 64]⟩
abbrev S8x64x1 : Shape := ⟨3, ![8, 64, 1]⟩
abbrev S8x64x2 : Shape := ⟨3, ![8, 64, 2]⟩

abbrev nBuf : Space → Nat
  | .hbm => 47
  | .vmem => 0
  | .smem => 0
  | _ => 0

abbrev bufTy : (tb : Table) → Fin (tcTables nBuf tb) → BufTy
  | .hbm, ⟨0, _⟩ => ⟨S8x3x5x384x384, .f32⟩
  | .hbm, ⟨1, _⟩ => ⟨S64x15x7x7, .f32⟩
  | .hbm, ⟨2, _⟩ => ⟨S8x15x384x384, .f32⟩
  | .hbm, ⟨3, _⟩ => ⟨S_, .i32⟩
  | .hbm, ⟨4, _⟩ => ⟨S_, .f32⟩
  | .hbm, ⟨5, _⟩ => ⟨S8x15x390x390, .f32⟩
  | .hbm, ⟨6, _⟩ => ⟨S8x15x192x390, .f32⟩
  | .hbm, ⟨7, _⟩ => ⟨S8x15x192x390, .f32⟩
  | .hbm, ⟨8, _⟩ => ⟨S8x15x192x390, .f32⟩
  | .hbm, ⟨9, _⟩ => ⟨S8x15x192x390, .f32⟩
  | .hbm, ⟨10, _⟩ => ⟨S8x15x192x390, .f32⟩
  | .hbm, ⟨11, _⟩ => ⟨S8x15x192x390, .f32⟩
  | .hbm, ⟨12, _⟩ => ⟨S8x15x192x390, .f32⟩
  | .hbm, ⟨13, _⟩ => ⟨S8x15x1x192x390, .f32⟩
  | .hbm, ⟨14, _⟩ => ⟨S8x15x1x192x390, .f32⟩
  | .hbm, ⟨15, _⟩ => ⟨S8x15x1x192x390, .f32⟩
  | .hbm, ⟨16, _⟩ => ⟨S8x15x1x192x390, .f32⟩
  | .hbm, ⟨17, _⟩ => ⟨S8x15x1x192x390, .f32⟩
  | .hbm, ⟨18, _⟩ => ⟨S8x15x1x192x390, .f32⟩
  | .hbm, ⟨19, _⟩ => ⟨S8x15x1x192x390, .f32⟩
  | .hbm, ⟨20, _⟩ => ⟨S8x15x7x192x390, .f32⟩
  | .hbm, ⟨21, _⟩ => ⟨S8x15x7x192x192, .f32⟩
  | .hbm, ⟨22, _⟩ => ⟨S8x15x7x192x192, .f32⟩
  | .hbm, ⟨23, _⟩ => ⟨S8x15x7x192x192, .f32⟩
  | .hbm, ⟨24, _⟩ => ⟨S8x15x7x192x192, .f32⟩
  | .hbm, ⟨25, _⟩ => ⟨S8x15x7x192x192, .f32⟩
  | .hbm, ⟨26, _⟩ => ⟨S8x15x7x192x192, .f32⟩
  | .hbm, ⟨27, _⟩ => ⟨S8x15x7x192x192, .f32⟩
  | .hbm, ⟨28, _⟩ => ⟨S8x15x7x1x192x192, .f32⟩
  | .hbm, ⟨29, _⟩ => ⟨S8x15x7x1x192x192, .f32⟩
  | .hbm, ⟨30, _⟩ => ⟨S8x15x7x1x192x192, .f32⟩
  | .hbm, ⟨31, _⟩ => ⟨S8x15x7x1x192x192, .f32⟩
  | .hbm, ⟨32, _⟩ => ⟨S8x15x7x1x192x192, .f32⟩
  | .hbm, ⟨33, _⟩ => ⟨S8x15x7x1x192x192, .f32⟩
  | .hbm, ⟨34, _⟩ => ⟨S8x15x7x1x192x192, .f32⟩
  | .hbm, ⟨35, _⟩ => ⟨S8x15x7x7x192x192, .f32⟩
  | .hbm, ⟨36, _⟩ => ⟨S8x192x192x64, .f32⟩
  | .hbm, ⟨37, _⟩ => ⟨S8x64x192x192, .f32⟩
  | .hbm, ⟨38, _⟩ => ⟨S8x64x24x8x192, .f32⟩
  | .hbm, ⟨39, _⟩ => ⟨S_, .f32⟩
  | .hbm, ⟨40, _⟩ => ⟨S8x64, .f32⟩
  | .hbm, ⟨41, _⟩ => ⟨S8x64x192x192, .f32⟩
  | .hbm, ⟨42, _⟩ => ⟨S_, .f32⟩
  | .hbm, ⟨43, _⟩ => ⟨S8x64, .f32⟩
  | .hbm, ⟨44, _⟩ => ⟨S8x64x1, .f32⟩
  | .hbm, ⟨45, _⟩ => ⟨S8x64x1, .f32⟩
  | .hbm, ⟨46, _⟩ => ⟨S8x64x2, .f32⟩
  | _, _ => ⟨S8x3x5x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst : Ref sig .tc := ⟨.hbm, 39, rfl⟩
abbrev main_v35 : Ref sig .tc := ⟨.hbm, 40, rfl⟩
abbrev main_v36 : Ref sig .tc := ⟨.hbm, 41, rfl⟩
abbrev main_cst_0 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩

abbrev nD : Nat := 1
abbrev τ : Topo := Topo.v7x

variable {F : FTy → Type} [FloatOps F]
-- ==== Tail.lean ====
abbrev S8x3x5x384x384 : Shape := ⟨5, ![8, 3, 5, 384, 384]⟩
abbrev S8x64x1 : Shape := ⟨3, ![8, 64, 1]⟩
abbrev S3x64 : Shape := ⟨2, ![3, 64]⟩
abbrev S3 : Shape := ⟨1, ![3]⟩
abbrev S3x5x15x4x4 : Shape := ⟨5, ![3, 5, 15, 4, 4]⟩
abbrev S3x5 : Shape := ⟨2, ![3, 5]⟩
abbrev S8x15x384x384 : Shape := ⟨4, ![8, 15, 384, 384]⟩
abbrev S1x3 : Shape := ⟨2, ![1, 3]⟩
abbrev S8x1x3 : Shape := ⟨3, ![8, 1, 3]⟩
abbrev S1x1 : Shape := ⟨2, ![1, 1]⟩
abbrev S8x64 : Shape := ⟨2, ![8, 64]⟩
abbrev S8x3 : Shape := ⟨2, ![8, 3]⟩
abbrev S8x1 : Shape := ⟨2, ![8, 1]⟩
abbrev S8 : Shape := ⟨1, ![8]⟩
abbrev S1 : Shape := ⟨1, ![1]⟩
abbrev S8x15x96x4x96x4 : Shape := ⟨6, ![8, 15, 96, 4, 96, 4]⟩
abbrev S8x96x96x15x4x4 : Shape := ⟨6, ![8, 96, 96, 15, 4, 4]⟩
abbrev S8x9216x240 : Shape := ⟨3, ![8, 9216, 240]⟩
abbrev S3x5x240 : Shape := ⟨3, ![3, 5, 240]⟩
abbrev S3x240x5 : Shape := ⟨3, ![3, 240, 5]⟩
abbrev S1x240x5 : Shape := ⟨3, ![1, 240, 5]⟩
abbrev S240x5 : Shape := ⟨2, ![240, 5]⟩
abbrev S8x9216x5 : Shape := ⟨3, ![8, 9216, 5]⟩
abbrev S1x9216x240 : Shape := ⟨3, ![1, 9216, 240]⟩
abbrev S1x1x3 : Shape := ⟨3, ![1, 1, 3]⟩
abbrev S1x9216x5 : Shape := ⟨3, ![1, 9216, 5]⟩
abbrev S1x5 : Shape := ⟨2, ![1, 5]⟩
abbrev S9216x240 : Shape := ⟨2, ![9216, 240]⟩
abbrev S9216x5 : Shape := ⟨2, ![9216, 5]⟩
abbrev S8x96x96x5 : Shape := ⟨4, ![8, 96, 96, 5]⟩
abbrev S8x5x96x96 : Shape := ⟨4, ![8, 5, 96, 96]⟩
abbrev S_ : Shape := ⟨0, ![]⟩

abbrev nBuf : Space → Nat
  | .hbm => 25
  | .vmem => 15
  | .smem => 0
  | _ => 0

abbrev bufTy : (tb : Table) → Fin (tcTables nBuf tb) → BufTy
  | .hbm, ⟨0, _⟩ => ⟨S8x3x5x384x384, .f32⟩
  | .hbm, ⟨1, _⟩ => ⟨S8x64x1, .f32⟩
  | .hbm, ⟨2, _⟩ => ⟨S3x64, .f32⟩
  | .hbm, ⟨3, _⟩ => ⟨S3, .f32⟩
  | .hbm, ⟨4, _⟩ => ⟨S3x5x15x4x4, .f32⟩
  | .hbm, ⟨5, _⟩ => ⟨S3x5, .f32⟩
  | .hbm, ⟨6, _⟩ => ⟨S8x15x384x384, .f32⟩
  | .hbm, ⟨7, _⟩ => ⟨S1x3, .f32⟩
  | .hbm, ⟨8, _⟩ => ⟨S8x1x3, .f32⟩
  | .hbm, ⟨9, _⟩ => ⟨S1x1, .f32⟩
  | .hbm, ⟨10, _⟩ => ⟨S8x15x96x4x96x4, .f32⟩
  | .hbm, ⟨11, _⟩ => ⟨S8x96x96x15x4x4, .f32⟩
  | .hbm, ⟨12, _⟩ => ⟨S8x9216x240, .f32⟩
  | .hbm, ⟨13, _⟩ => ⟨S3x5x240, .f32⟩
  | .hbm, ⟨14, _⟩ => ⟨S3x240x5, .f32⟩
  | .hbm, ⟨15, _⟩ => ⟨S1x240x5, .f32⟩
  | .hbm, ⟨16, _⟩ => ⟨S240x5, .f32⟩
  | .hbm, ⟨17, _⟩ => ⟨S1x240x5, .f32⟩
  | .hbm, ⟨18, _⟩ => ⟨S240x5, .f32⟩
  | .hbm, ⟨19, _⟩ => ⟨S1x240x5, .f32⟩
  | .hbm, ⟨20, _⟩ => ⟨S240x5, .f32⟩
  | .hbm, ⟨21, _⟩ => ⟨S8x9216x5, .f32⟩
  | .hbm, ⟨22, _⟩ => ⟨S8x96x96x5, .f32⟩
  | .hbm, ⟨23, _⟩ => ⟨S8x5x96x96, .f32⟩
  | .hbm, ⟨24, _⟩ => ⟨S_, .f32⟩
  | .local _ .vmem, ⟨0, _⟩ => ⟨S8x64x1, .f32⟩
  | .local _ .vmem, ⟨1, _⟩ => ⟨S3x64, .f32⟩
  | .local _ .vmem, ⟨2, _⟩ => ⟨S1x3, .f32⟩
  | .local _ .vmem, ⟨3, _⟩ => ⟨S8x1x3, .f32⟩
  | .local _ .vmem, ⟨4, _⟩ => ⟨S1x1, .f32⟩
  | .local _ .vmem, ⟨5, _⟩ => ⟨S1x9216x240, .f32⟩
  | .local _ .vmem, ⟨6, _⟩ => ⟨S1x9216x240, .f32⟩
  | .local _ .vmem, ⟨7, _⟩ => ⟨S1x1x3, .f32⟩
  | .local _ .vmem, ⟨8, _⟩ => ⟨S1x1x3, .f32⟩
  | .local _ .vmem, ⟨9, _⟩ => ⟨S240x5, .f32⟩
  | .local _ .vmem, ⟨10, _⟩ => ⟨S240x5, .f32⟩
  | .local _ .vmem, ⟨11, _⟩ => ⟨S240x5, .f32⟩
  | .local _ .vmem, ⟨12, _⟩ => ⟨S3x5, .f32⟩
  | .local _ .vmem, ⟨13, _⟩ => ⟨S1x9216x5, .f32⟩
  | .local _ .vmem, ⟨14, _⟩ => ⟨S1x9216x5, .f32⟩
  | _, _ => ⟨S8x3x5x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := .none

abbrev stage0_0 : Fin 1 → Memref sig .tc .vmem S8x64x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x9216x240 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S240x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S240x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S240x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x5 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x9216x5 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== TailReferenceIdeal.lean ====
abbrev S8x3x5x384x384 : Shape := ⟨5, ![8, 3, 5, 384, 384]⟩
abbrev S8x64x1 : Shape := ⟨3, ![8, 64, 1]⟩
abbrev S3x64 : Shape := ⟨2, ![3, 64]⟩
abbrev S3 : Shape := ⟨1, ![3]⟩
abbrev S3x5x15x4x4 : Shape := ⟨5, ![3, 5, 15, 4, 4]⟩
abbrev S3x5 : Shape := ⟨2, ![3, 5]⟩
abbrev S8x15x384x384 : Shape := ⟨4, ![8, 15, 384, 384]⟩
abbrev S8x64 : Shape := ⟨2, ![8, 64]⟩
abbrev S64x3 : Shape := ⟨2, ![64, 3]⟩
abbrev S8x3 : Shape := ⟨2, ![8, 3]⟩
abbrev S1x3 : Shape := ⟨2, ![1, 3]⟩
abbrev S8x1 : Shape := ⟨2, ![8, 1]⟩
abbrev S_ : Shape := ⟨0, ![]⟩
abbrev S8 : Shape := ⟨1, ![8]⟩
abbrev S8x1x1 : Shape := ⟨3, ![8, 1, 1]⟩
abbrev S8x1x2 : Shape := ⟨3, ![8, 1, 2]⟩
abbrev S8x15x96x4x96x4 : Shape := ⟨6, ![8, 15, 96, 4, 96, 4]⟩
abbrev S8x96x96x3x5 : Shape := ⟨5, ![8, 96, 96, 3, 5]⟩
abbrev S3x8x5x96x96 : Shape := ⟨5, ![3, 8, 5, 96, 96]⟩
abbrev S3x1x5x1x1 : Shape := ⟨5, ![3, 1, 5, 1, 1]⟩
abbrev S3x8 : Shape := ⟨2, ![3, 8]⟩
abbrev S3x8x1x1x1 : Shape := ⟨5, ![3, 8, 1, 1, 1]⟩
abbrev S8x5x96x96 : Shape := ⟨4, ![8, 5, 96, 96]⟩

abbrev nBuf : Space → Nat
  | .hbm => 82
  | .vmem => 0
  | .smem => 0
  | _ => 0

abbrev bufTy : (tb : Table) → Fin (tcTables nBuf tb) → BufTy
  | .hbm, ⟨0, _⟩ => ⟨S8x3x5x384x384, .f32⟩
  | .hbm, ⟨1, _⟩ => ⟨S8x64x1, .f32⟩
  | .hbm, ⟨2, _⟩ => ⟨S3x64, .f32⟩
  | .hbm, ⟨3, _⟩ => ⟨S3, .f32⟩
  | .hbm, ⟨4, _⟩ => ⟨S3x5x15x4x4, .f32⟩
  | .hbm, ⟨5, _⟩ => ⟨S3x5, .f32⟩
  | .hbm, ⟨6, _⟩ => ⟨S8x15x384x384, .f32⟩
  | .hbm, ⟨7, _⟩ => ⟨S8x64, .f32⟩
  | .hbm, ⟨8, _⟩ => ⟨S64x3, .f32⟩
  | .hbm, ⟨9, _⟩ => ⟨S8x3, .f32⟩
  | .hbm, ⟨10, _⟩ => ⟨S1x3, .f32⟩
  | .hbm, ⟨11, _⟩ => ⟨S8x3, .f32⟩
  | .hbm, ⟨12, _⟩ => ⟨S8x3, .f32⟩
  | .hbm, ⟨13, _⟩ => ⟨S8x1, .f32⟩
  | .hbm, ⟨14, _⟩ => ⟨S8x1, .i32⟩
  | .hbm, ⟨15, _⟩ => ⟨S_, .f32⟩
  | .hbm, ⟨16, _⟩ => ⟨S8x3, .f32⟩
  | .hbm, ⟨17, _⟩ => ⟨S8, .i32⟩
  | .hbm, ⟨18, _⟩ => ⟨S8x1, .i32⟩
  | .hbm, ⟨19, _⟩ => ⟨S_, .i32⟩
  | .hbm, ⟨20, _⟩ => ⟨S8x1, .i32⟩
  | .hbm, ⟨21, _⟩ => ⟨S8x1, .i1⟩
  | .hbm, ⟨22, _⟩ => ⟨S_, .i32⟩
  | .hbm, ⟨23, _⟩ => ⟨S8x1, .i32⟩
  | .hbm, ⟨24, _⟩ => ⟨S8x1, .i32⟩
  | .hbm, ⟨25, _⟩ => ⟨S8x1, .i32⟩
  | .hbm, ⟨26, _⟩ => ⟨S_, .i32⟩
  | .hbm, ⟨27, _⟩ => ⟨S8x1, .i32⟩
  | .hbm, ⟨28, _⟩ => ⟨S8x1, .i1⟩
  | .hbm, ⟨29, _⟩ => ⟨S_, .i32⟩
  | .hbm, ⟨30, _⟩ => ⟨S8x1, .i32⟩
  | .hbm, ⟨31, _⟩ => ⟨S8x1, .i32⟩
  | .hbm, ⟨32, _⟩ => ⟨S8x1, .i32⟩
  | .hbm, ⟨33, _⟩ => ⟨S8x1x1, .i32⟩
  | .hbm, ⟨34, _⟩ => ⟨S8x1x1, .i32⟩
  | .hbm, ⟨35, _⟩ => ⟨S8x1x2, .i32⟩
  | .hbm, ⟨36, _⟩ => ⟨S_, .f32⟩
  | .hbm, ⟨37, _⟩ => ⟨S8x1, .f32⟩
  | .hbm, ⟨38, _⟩ => ⟨S8x3, .f32⟩
  | .hbm, ⟨39, _⟩ => ⟨S_, .f32⟩
  | .hbm, ⟨40, _⟩ => ⟨S3, .f32⟩
  | .hbm, ⟨41, _⟩ => ⟨S_, .f32⟩
  | .hbm, ⟨42, _⟩ => ⟨S3, .f32⟩
  | .hbm, ⟨43, _⟩ => ⟨S3, .f32⟩
  | .hbm, ⟨44, _⟩ => ⟨S_, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S8x1, .f32⟩
  | .hbm, ⟨50, _⟩ => ⟨S8x3, .f32⟩
  | .hbm, ⟨51, _⟩ => ⟨S8x3, .f32⟩
  | .hbm, ⟨52, _⟩ => ⟨S8x3, .f32⟩
  | .hbm, ⟨53, _⟩ => ⟨S_, .f32⟩
  | .hbm, ⟨54, _⟩ => ⟨S8, .f32⟩
  | .hbm, ⟨55, _⟩ => ⟨S8x1, .f32⟩
  | .hbm, ⟨56, _⟩ => ⟨S8x3, .f32⟩
  | .hbm, ⟨57, _⟩ => ⟨S8x3, .f32⟩
  | .hbm, ⟨58, _⟩ => ⟨S_, .f32⟩
  | .hbm, ⟨59, _⟩ => ⟨S3, .f32⟩
  | .hbm, ⟨60, _⟩ => ⟨S_, .f32⟩
  | .hbm, ⟨61, _⟩ => ⟨S3, .f32⟩
  | .hbm, ⟨62, _⟩ => ⟨S3, .f32⟩
  | .hbm, ⟨63, _⟩ => ⟨S3, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8x15x96x4x96x4, .f32⟩
  | .hbm, ⟨69, _⟩ => ⟨S8x96x96x3x5, .f32⟩
  | .hbm, ⟨70, _⟩ => ⟨S3x8x5x96x96, .f32⟩
  | .hbm, ⟨71, _⟩ => ⟨S3x1x5x1x1, .f32⟩
  | .hbm, ⟨72, _⟩ => ⟨S3x8x5x96x96, .f32⟩
  | .hbm, ⟨73, _⟩ => ⟨S3x8x5x96x96, .f32⟩
  | .hbm, ⟨74, _⟩ => ⟨S3x8, .f32⟩
  | .hbm, ⟨75, _⟩ => ⟨S3x8x1x1x1, .f32⟩
  | .hbm, ⟨76, _⟩ => ⟨S3x8x5x96x96, .f32⟩
  | .hbm, ⟨77, _⟩ => ⟨S3x8x5x96x96, .f32⟩
  | .hbm, ⟨78, _⟩ => ⟨S_, .f32⟩
  | .hbm, ⟨79, _⟩ => ⟨S8x5x96x96, .f32⟩
  | .hbm, ⟨80, _⟩ => ⟨S_, .f32⟩
  | .hbm, ⟨81, _⟩ => ⟨S_, .f32⟩
  | _, _ => ⟨S8x3x5x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_values : Ref sig .tc := ⟨.hbm, 13, rfl⟩
abbrev main_indices : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== Proof.GconvTrip.lean ====
module

public import proofs.«01_k».proof.Proof.Gen.GconvIdeal.Value
public import Idealize.ShloMosaic.Lib.Pipeline.ValueKit
public import Idealize.ShloMosaic.Lib.Pointwise

@[expose] public section

set_option maxRecDepth 16384

noncomputable section

namespace Cert.GconvIdeal.Conv

open Cert.GconvIdeal Cert.GconvIdeal.Gen Idealize.ShloMosaic Idealize.ShloMosaic.TcCoe Idealize.SL.Sem

variable {F : FTy → Type} [FloatOps F]

/-- Sixteen rows of one phase of the image, from the two row tiles that a trip loads. -/
def slab (v : Vec F S1x1x1x15x2x8x196 .f32) : FVec F S15x16x196 .f32 :=
  shapeCast S15x16x196 (shapeCast S15x2x8x196 v shapeCasts_S1x1x1x15x2x8x196_S15x2x8x196) shapeCasts_S15x2x8x196_S15x16x196

/-- A tap's offsets in its slab stay inside it. -/
theorem tap_slices (n : Fin 49) : S15x16x196.Slices ![0, (n.val / 7 + 1) / 2, (n.val % 7 + 1) / 2] S15x8x192 := by
  revert n; decide

/-- The rows and columns that tap `n` (`7 * u + v`) of the window reads, from the four phases' slabs. -/
def tap (s00 s01 s10 s11 : FVec F S15x16x196 .f32) (n : Fin 49) : FVec F S15x8x192 .f32 :=
  extractStridedSlice S15x8x192 ![0, (n.val / 7 + 1) / 2, (n.val % 7 + 1) / 2]
    (if n.val / 7 % 2 = 0 then (if n.val % 7 % 2 = 0 then s11 else s10) else (if n.val % 7 % 2 = 0 then s01 else s00))
    (tap_slices n)

/-- The 49 taps fit the array of the stacked taps. -/
theorem taps_concat (s00 s01 s10 s11 : FVec F S15x16x196 .f32) :
    Shape.Concatenates ((List.ofFn fun n : Fin 49 => (⟨S15x8x192, tap s00 s01 s10 s11 n⟩ : (s : Shape) × (s.Idx → F .f32))).map (·.1)) S735x8x192 0 := by
  rw [show (List.ofFn fun n : Fin 49 => (⟨S15x8x192, tap s00 s01 s10 s11 n⟩ : (s : Shape) × (s.Idx → F .f32))).map (·.1) = List.replicate 49 S15x8x192 from by
    rw [List.map_ofFn]; exact List.ofFn_const 49 S15x8x192]
  decide

/-- The patches of a trip: the 49 taps' 15 channels, one below the other. -/
def patches (s00 s01 s10 s11 : FVec F S15x16x196 .f32) : FVec F S735x8x192 .f32 :=
  concatenate S735x8x192 0 (List.ofFn fun n : Fin 49 => (⟨S15x8x192, tap s00 s01 s10 s11 n⟩ : (s : Shape) × (s.Idx → F .f32)))
    (taps_concat s00 s01 s10 s11)

/-- The trip's product: the weights by the patches of its eight rows. -/
def trip (v0 : Vec F S64x735 .f32) (X : Vec F S1x2x2x15x25x8x196 .f32) (k : Fin k0_t1_loop.trips) : FVec F S64x1536 .f32 :=
  k0_pay3 v0 (patches
    (slab (View.ld X (Rect.unit (k0_off1 k) S1x1x1x15x2x8x196.size (k0_off1_inb k))))
    (slab (View.ld X (Rect.unit (k0_off2 k) S1x1x1x15x2x8x196.size (k0_off2_inb k))))
    (slab (View.ld X (Rect.unit (k0_off3 k) S1x1x1x15x2x8x196.size (k0_off3_inb k))))
    (slab (View.ld X (Rect.unit (k0_off4 k) S1x1x1x15x2x8x196.size (k0_off4_inb k)))))

/-- The stacked taps of a trip, as a function of its four slabs. -/
theorem patches_eq (a b c d : Vec F S1x1x1x15x2x8x196 .f32) :
    k0_pay2 (k0_pay7 a) (k0_pay8 b) (k0_pay9 c) (k0_pay10 d) (k0_pay11 d) (k0_pay12 c) (k0_pay13 d) (k0_pay14 c) (k0_pay15 d) (k0_pay16 c) (k0_pay17 d) (k0_pay18 b) (k0_pay19 a) (k0_pay20 b) (k0_pay21 a) (k0_pay22 b) (k0_pay23 a) (k0_pay24 b) (k0_pay25 d) (k0_pay26 c) (k0_pay27 d) (k0_pay28 c) (k0_pay29 d)
      = patches (slab a) (slab b) (slab c) (slab d) := by
  rfl

/-- The sums that a trip carries on, by the trip's function. -/
theorem tripR_eq (𝒱 : Variants) (c : Dev nD) (bd : Option 𝒱.V) (i : grid0.Coords) (arg1 : Memref sig .tc .vmem S1x2x2x15x25x8x196 .f32) (harg1 : arg1.IsWhole) (arg2 : Memref sig .tc .vmem S64x735 .f32) (harg2 : arg2.IsWhole) (arg3 : Memref sig .tc .vmem S1x64x24x8x192 .f32) (harg3 : arg3.IsWhole) (arg4 : Memref sig .tc .vmem S1x64x2 .f32) (harg4 : arg4.IsWhole) (v0 : Vec F S64x735 .f32) (X : Vec F S1x2x2x15x25x8x196 .f32) (k : Fin k0_t1_loop.trips) (acc : FVec F S64x2 .f32) :
    tripR_k0_t1 𝒱 c bd i arg1 harg1 arg2 harg2 arg3 harg3 arg4 harg4 v0 (harg1.unread X) k acc = k0_pay5 acc (trip v0 X k) := by
  unfold tripR_k0_t1 trip_k0_t1
  dsimp only
  sl_unfold_run_names
  simp only [View.readAt_eq_ld, harg1.read_unread]
  unfold trip
  rw [← patches_eq]
  rfl

/-- What a trip stores: the rows of the trip's function, in the trip's group. -/
theorem tripL_eq (𝒱 : Variants) (c : Dev nD) (bd : Option 𝒱.V) (i : grid0.Coords) (arg1 : Memref sig .tc .vmem S1x2x2x15x25x8x196 .f32) (harg1 : arg1.IsWhole) (arg2 : Memref sig .tc .vmem S64x735 .f32) (harg2 : arg2.IsWhole) (arg3 : Memref sig .tc .vmem S1x64x24x8x192 .f32) (harg3 : arg3.IsWhole) (arg4 : Memref sig .tc .vmem S1x64x2 .f32) (harg4 : arg4.IsWhole) (v0 : Vec F S64x735 .f32) (X : Vec F S1x2x2x15x25x8x196 .f32) (k : Fin k0_t1_loop.trips) (acc : FVec F S64x2 .f32) :
    tripL_k0_t1 𝒱 c bd i arg1 harg1 arg2 harg2 arg3 harg3 arg4 harg4 v0 (harg1.unread X) k acc
      = [⟨Rect.unit (k0_off5 k) S1x64x1x8x192.size (k0_off5_inb k), k0_pay4 (trip v0 X k)⟩] := by
  unfold tripL_k0_t1 trip_k0_t1
  dsimp only
  sl_unfold_run_names
  simp only [View.readAt_eq_ld, harg1.read_unread]
  unfold trip
  rw [← patches_eq]
  rfl

end Cert.GconvIdeal.Conv
-- ==== Proof.GconvPay.lean ====
module

public import proofs.«01_k».proof.Proof.GconvTrip

@[expose] public section

set_option maxRecDepth 16384

noncomputable section

namespace Cert.GconvIdeal.Conv

open Cert.GconvIdeal Cert.GconvIdeal.Gen Idealize.ShloMosaic Idealize.ShloMosaic.TcCoe Idealize.SL.Sem

/-- A tap at an index: the slab of its phases, moved by its offsets. -/
theorem tap_apply (s00 s01 s10 s11 : FVec Ideal S15x16x196 .f32) (n : Fin 49) (c : Fin 15) (r : Fin 8) (w : Fin 192) :
    tap s00 s01 s10 s11 n (ix3 c r w)
      = (if n.val / 7 % 2 = 0 then (if n.val % 7 % 2 = 0 then s11 else s10) else (if n.val % 7 % 2 = 0 then s01 else s00))
          (ix3 c ⟨(n.val / 7 + 1) / 2 + r.val, by omega⟩ ⟨(n.val % 7 + 1) / 2 + w.val, by omega⟩) := by
  unfold tap
  generalize (if n.val / 7 % 2 = 0 then (if n.val % 7 % 2 = 0 then s11 else s10) else (if n.val % 7 % 2 = 0 then s01 else s00)) = s
  pointwise

/-- The patches at an index: row `q` is channel `q % 15` of tap `q / 15`. -/
theorem patches_apply (s00 s01 s10 s11 : FVec Ideal S15x16x196 .f32) (q : Fin 735) (r : Fin 8) (w : Fin 192) :
    patches s00 s01 s10 s11 (ix3 q r w)
      = tap s00 s01 s10 s11 ⟨q.val / 15, by omega⟩ (ix3 ⟨q.val % 15, by omega⟩ r w) := by
  unfold patches
  refine concatenate_ofFn_apply (t := S735x8x192) (s₁ := S15x8x192) 0 (tap s00 s01 s10 s11) _ rfl 15 rfl (ix3 q r w) ⟨q.val / 15, by omega⟩ rfl _ rfl ?_
  intro b hb
  fin_cases b
  · exact absurd rfl hb
  · rfl
  · rfl

/-- Two groups of eight rows as one slab of sixteen. -/
theorem slab_apply (v : Vec Ideal S1x1x1x15x2x8x196 .f32) (c : Fin 15) (s : Fin 16) (w : Fin 196) :
    slab v (ix3 c s w) = v (ix7 0 0 0 c ⟨s.val / 8, by omega⟩ ⟨s.val % 8, by omega⟩ w) := by
  unfold slab
  pointwise

/-- The product at an index. -/
theorem pay3_apply (v0 : Vec Ideal S64x735 .f32) (P : FVec Ideal S735x8x192 .f32) (o : Fin 64) (j : Fin 1536) :
    k0_pay3 v0 P (ix2 o j) = ∑ q : Fin 735, v0 (ix2 o q) * P (ix3 q ⟨j.val / 192, by omega⟩ ⟨j.val % 192, by omega⟩) := by
  pointwise [k0_pay3]

/-- The loop makes twenty-four trips. -/
theorem trips_eq : k0_t1_loop.trips = 24 := by decide

/-- There are 24 trips. -/
theorem trip_lt (k : Fin k0_t1_loop.trips) : k.val < 24 := trips_eq ▸ k.isLt

/-- What a trip loads of phase `0 0`. -/
theorem ld1_apply (X : Vec Ideal S1x2x2x15x25x8x196 .f32) (k : Fin k0_t1_loop.trips) (c : Fin 15) (g : Fin 2) (s : Fin 8) (w : Fin 196) :
    View.ld X (Rect.unit (k0_off1 k) S1x1x1x15x2x8x196.size (k0_off1_inb k)) (ix7 0 0 0 c g s w)
      = X (ix7 0 0 0 c ⟨k.val + g.val, by have := trip_lt k; omega⟩ s w) := by
  pointwise
  congr 1
  simp only [k0_off1_eq]
  idx_ext

/-- What a trip loads of phase `0 1`. -/
theorem ld2_apply (X : Vec Ideal S1x2x2x15x25x8x196 .f32) (k : Fin k0_t1_loop.trips) (c : Fin 15) (g : Fin 2) (s : Fin 8) (w : Fin 196) :
    View.ld X (Rect.unit (k0_off2 k) S1x1x1x15x2x8x196.size (k0_off2_inb k)) (ix7 0 0 0 c g s w)
      = X (ix7 0 0 1 c ⟨k.val + g.val, by have := trip_lt k; omega⟩ s w) := by
  pointwise
  congr 1
  simp only [k0_off2_eq]
  idx_ext

/-- What a trip loads of phase `1 0`. -/
theorem ld3_apply (X : Vec Ideal S1x2x2x15x25x8x196 .f32) (k : Fin k0_t1_loop.trips) (c : Fin 15) (g : Fin 2) (s : Fin 8) (w : Fin 196) :
    View.ld X (Rect.unit (k0_off3 k) S1x1x1x15x2x8x196.size (k0_off3_inb k)) (ix7 0 0 0 c g s w)
      = X (ix7 0 1 0 c ⟨k.val + g.val, by have := trip_lt k; omega⟩ s w) := by
  pointwise
  congr 1
  simp only [k0_off3_eq]
  idx_ext

/-- What a trip loads of phase `1 1`. -/
theorem ld4_apply (X : Vec Ideal S1x2x2x15x25x8x196 .f32) (k : Fin k0_t1_loop.trips) (c : Fin 15) (g : Fin 2) (s : Fin 8) (w : Fin 196) :
    View.ld X (Rect.unit (k0_off4 k) S1x1x1x15x2x8x196.size (k0_off4_inb k)) (ix7 0 0 0 c g s w)
      = X (ix7 0 1 1 c ⟨k.val + g.val, by have := trip_lt k; omega⟩ s w) := by
  pointwise
  congr 1
  simp only [k0_off4_eq]
  idx_ext

/-- The sums after a trip: the sums before and those of the trip's rows. -/
theorem pay5_apply (acc : FVec Ideal S64x2 .f32) (y : FVec Ideal S64x1536 .f32) (o : Fin 64) (e : Fin 2) :
    k0_pay5 acc y (ix2 o e) = acc (ix2 o e) + if e.val = 0 then ∑ j : Fin 1536, y (ix2 o j) else ∑ j : Fin 1536, y (ix2 o j) * y (ix2 o j) := by
  pointwise [k0_pay5]
  fin_vals e with he <;> simp [he]

/-- The stored rows of a trip. -/
theorem pay4_apply (y : FVec Ideal S64x1536 .f32) (o : Fin 64) (r : Fin 8) (w : Fin 192) :
    k0_pay4 y (ix5 0 o 0 r w) = y (ix2 o ⟨r.val * 192 + w.val, by omega⟩) := by
  pointwise [k0_pay4]

/-- A trip's product, where the image's four phases hold the padded image `Z` (channel, row, column). -/
theorem trip_apply (v0 : Vec Ideal S64x735 .f32) (X : Vec Ideal S1x2x2x15x25x8x196 .f32) (Z : Fin 15 → ℕ → ℕ → EReal)
    (hX : ∀ (p q : Fin 2) (c : Fin 15) (g : Fin 25) (s : Fin 8) (w : Fin 196), X (ix7 0 p q c g s w) = Z c (2 * (8 * g.val + s.val) + p.val) (2 * w.val + q.val))
    (k : Fin k0_t1_loop.trips) (o : Fin 64) (j : Fin 1536) :
    trip v0 X k (ix2 o j) = ∑ q : Fin 735, v0 (ix2 o q)
      * Z ⟨q.val % 15, by omega⟩ (2 * (8 * k.val + j.val / 192) + q.val / 15 / 7 + 1) (2 * (j.val % 192) + q.val / 15 % 7 + 1) := by
  unfold trip
  rw [pay3_apply]
  refine Finset.sum_congr rfl fun q _ => congrArg _ ?_
  rw [patches_apply, tap_apply]
  have hq := q.isLt
  have hj := j.isLt
  dsimp only
  split_ifs with h1 h2 h2 <;> rw [slab_apply] <;> first
    | rw [ld1_apply] | rw [ld2_apply] | rw [ld3_apply] | rw [ld4_apply]
  all_goals
    rw [hX]
    congr 1 <;> simp only [Fin.val_zero, Fin.val_one] <;> omega

end Cert.GconvIdeal.Conv
-- ==== Proof.GconvLoop.lean ====
module

public import proofs.«01_k».proof.Proof.GconvPay

@[expose] public section

set_option maxRecDepth 16384

noncomputable section

namespace Cert.GconvIdeal.Conv

open Cert.GconvIdeal Cert.GconvIdeal.Gen Idealize.ShloMosaic Idealize.ShloMosaic.TcCoe Idealize.SL.Sem

/-- The part of a map's sum (`e = 0`) or of its sum of squares that trip `k` adds. -/
def part (v0 : Vec Ideal S64x735 .f32) (X : Vec Ideal S1x2x2x15x25x8x196 .f32) (o : Fin 64) (e : Fin 2) (k : ℕ) : EReal :=
  if h : k < k0_t1_loop.trips then
    if e.val = 0 then ∑ j : Fin 1536, trip v0 X ⟨k, h⟩ (ix2 o j) else ∑ j : Fin 1536, trip v0 X ⟨k, h⟩ (ix2 o j) * trip v0 X ⟨k, h⟩ (ix2 o j)
  else 0

variable (𝒱 : Variants) (c : Dev nD) (bd : Option 𝒱.V) (i : grid0.Coords) (arg1 : Memref sig .tc .vmem S1x2x2x15x25x8x196 .f32) (harg1 : arg1.IsWhole) (arg2 : Memref sig .tc .vmem S64x735 .f32) (harg2 : arg2.IsWhole) (arg3 : Memref sig .tc .vmem S1x64x24x8x192 .f32) (harg3 : arg3.IsWhole) (arg4 : Memref sig .tc .vmem S1x64x2 .f32) (harg4 : arg4.IsWhole)
  (v0 : Vec Ideal S64x735 .f32) (X : Vec Ideal S1x2x2x15x25x8x196 .f32)

/-- The sums carried after `n` trips. -/
theorem st_sums (n : ℕ) (hn : n ≤ k0_t1_loop.trips) (o : Fin 64) (e : Fin 2) :
    (st_k0_t1 𝒱 c bd i arg1 harg1 arg2 harg2 arg3 harg3 arg4 harg4 v0 (harg1.unread X) (k0_pay1 (F := Ideal)) n).1 (ix2 o e)
      = ∑ k ∈ Finset.range n, part v0 X o e k := by
  induction n with
  | zero =>
    rw [st_k0_t1_zero]
    pointwise [k0_pay1]
    rfl
  | succ n ih =>
    rw [st_k0_t1_succ _ _ _ _ _ _ _ _ _ _ _ _ _ _ _ ⟨n, hn⟩]
    dsimp only
    rw [tripR_eq, pay5_apply, ih (by omega), Finset.sum_range_succ]
    unfold part
    rw [dif_pos (show n < k0_t1_loop.trips from hn)]

/-- Every stored piece is some trip's product. -/
theorem st_pieces (n : ℕ) (hn : n ≤ k0_t1_loop.trips) :
    ∀ p ∈ (st_k0_t1 𝒱 c bd i arg1 harg1 arg2 harg2 arg3 harg3 arg4 harg4 v0 (harg1.unread X) (k0_pay1 (F := Ideal)) n).2,
      ∃ k : Fin k0_t1_loop.trips, p = ⟨Rect.unit (k0_off5 k) S1x64x1x8x192.size (k0_off5_inb k), k0_pay4 (trip v0 X k)⟩ := by
  induction n with
  | zero => intro p hp; exact absurd hp List.not_mem_nil
  | succ n ih =>
    rw [st_k0_t1_succ _ _ _ _ _ _ _ _ _ _ _ _ _ _ _ ⟨n, hn⟩]
    dsimp only
    rw [tripL_eq]
    intro p hp
    rcases List.mem_append.mp hp with hp | hp
    · exact ⟨⟨n, hn⟩, List.mem_singleton.mp hp⟩
    · exact ih (by omega) p hp

/-- The stored sums at a channel. -/
theorem pay6_apply (v : FVec Ideal S64x2 .f32) (o : Fin 64) (e : Fin 2) : k0_pay6 v (ix3 0 o e) = v (ix2 o e) := by
  pointwise [k0_pay6]

/-- The weights as the body loads them. -/
theorem load_w (W : Vec Ideal S64x735 .f32) (h) :
    View.ld W (Rect.unit ![0, 0] ![64, 735] h) = W := by
  funext y
  idx_vars y
  pointwise

/-- What the body leaves of the product in its first output block. -/
theorem out2_apply (o : Fin 64) (k : Fin k0_t1_loop.trips) (r : Fin 8) (w : Fin 192) :
    out0_A_2 c i arg1 harg1 arg2 harg2 arg3 harg3 arg4 harg4 X v0 (ix5 0 o ⟨k.val, trip_lt k⟩ r w)
      = trip v0 X k (ix2 o ⟨r.val * 192 + w.val, by omega⟩) := by
  unfold out0_A_2
  rw [View.read_writes_junk_eq_canon]
  refine View.canon_eq_of_allAt _ _ _ (cover0_A_2 c _ _ _ _ _ _ _ _ _ _ _ _) ?_
  unfold kernelRun0_A
  dsimp only
  sl_unfold_run_names
  simp only [View.readAt_eq_ld, harg2.read_unread, load_w]
  intro p hp x hx
  obtain ⟨k', rfl⟩ := st_pieces _ _ _ _ _ _ _ _ _ _ _ _ _ _ _ (le_refl _) p hp
  have e (a : Fin 5) := (ValueKit.rect_emb_unit_val (s := S1x64x24x8x192) (k0_off5 k') S1x64x1x8x192.size (k0_off5_inb k') x a).symm.trans (congrArg (fun z : S1x64x24x8x192.Idx => (z a).val) hx)
  have e1 := e 1; have e2 := e 2; have e3 := e 3; have e4 := e 4
  clear e hx hp
  revert x
  intro (x : S1x64x1x8x192.Idx) e1 e2 e3 e4
  idx_vars x
  simp only [k0_off5_eq] at e1 e2 e3 e4

  obtain rfl : x1 = o := Fin.ext (by simpa using e1)
  obtain rfl : k' = k := Fin.ext (by simpa using e2)
  obtain rfl : x3 = r := Fin.ext (by simpa using e3)
  obtain rfl : x4 = w := Fin.ext (by simpa using e4)
  rw [show x0 = 0 from Subsingleton.elim _ _, show x2 = 0 from Subsingleton.elim _ _]
  exact pay4_apply _ _ _ _

/-- The sums that the body leaves in its second output block. -/
theorem out3_apply (o : Fin 64) (e : Fin 2) :
    out0_A_3 c i arg1 harg1 arg2 harg2 arg3 harg3 arg4 harg4 X v0 (ix3 0 o e) = ∑ k ∈ Finset.range 24, part v0 X o e k := by
  unfold out0_A_3
  rw [View.read_writes_junk_eq_canon]
  unfold kernelRun0_A
  dsimp only
  sl_unfold_run_names
  simp only [View.readAt_eq_ld, harg2.read_unread, load_w]
  canon_tiles x h
  revert x
  intro (x : S1x64x2.Idx) h0 _ h1 _ h2 _
  idx_vars x
  obtain rfl : o = x1 := Fin.ext h1
  obtain rfl : e = x2 := Fin.ext h2
  rw [show x0 = 0 from Subsingleton.elim _ _, pay6_apply, st_sums]
  · rfl
  · exact le_refl _

end Cert.GconvIdeal.Conv
-- ==== Proof.Spec.lean ====
module

public import Idealize.ShloMosaic.Lib.Pipeline.ValueKit
public import Idealize.ShloMosaic.Lib.Pointwise

@[expose] public section

noncomputable section

namespace Cert.Spec

open Idealize.ShloMosaic

/-- The frames of a clip, channels and frames merged, with three rows and columns of zeros on every side: `R` and `C`
    count from the padded corner. -/
def img (x : (⟨5, ![8, 3, 5, 384, 384]⟩ : Shape).Idx → EReal) (b : Fin 8) (c : Fin 15) (R C : ℕ) : EReal :=
  if h : (3 ≤ R ∧ R < 387) ∧ (3 ≤ C ∧ C < 387) then
    x (ix5 b ⟨c.val / 5, by omega⟩ ⟨c.val % 5, by omega⟩ ⟨R - 3, by omega⟩ ⟨C - 3, by omega⟩) else 0

/-- The strided convolution: pixel `(i, j)` of map `o` is the sum over channels and window places of the weight
    times the padded image. -/
def conv (x : (⟨5, ![8, 3, 5, 384, 384]⟩ : Shape).Idx → EReal) (w : (⟨4, ![64, 15, 7, 7]⟩ : Shape).Idx → EReal)
    (b : Fin 8) (o : Fin 64) (i j : ℕ) : EReal :=
  ∑ c : Fin 15, ∑ u : Fin 7, ∑ v : Fin 7, w (ix4 o c u v) * img x b c (2 * i + u.val) (2 * j + v.val)

/-- A sum over two joined axes, by quotient and remainder. -/
theorem sum_divmod (A B : ℕ) (F : Fin A → Fin B → EReal) :
    ∑ q : Fin (A * B), F q.divNat q.modNat = ∑ a : Fin A, ∑ b : Fin B, F a b := by
  rw [← Fintype.sum_prod_type' F]
  exact (finProdFinEquiv (m := A) (n := B)).symm.sum_comp fun p => F p.1 p.2

/-- The 735 rows of the patches are the channels and places of the window. -/
theorem sum_taps (G : Fin 15 → Fin 7 → Fin 7 → EReal) :
    ∑ q : Fin 735, G ⟨q.val % 15, by omega⟩ ⟨q.val / 15 / 7, by omega⟩ ⟨q.val / 15 % 7, by omega⟩
      = ∑ c : Fin 15, ∑ u : Fin 7, ∑ v : Fin 7, G c u v := by
  refine (sum_divmod 49 15 fun a c => G c ⟨a.val / 7, by omega⟩ ⟨a.val % 7, by omega⟩).trans ?_
  rw [Finset.sum_comm]
  exact Finset.sum_congr rfl fun c _ => sum_divmod 7 7 fun u v => G c u v

/-- The pixels of a map, tile of eight rows by tile. -/
theorem sum_tiles (h : ℕ → ℕ → EReal) :
    ∑ k ∈ Finset.range 24, ∑ j : Fin 1536, h (8 * k + j.val / 192) (j.val % 192) = ∑ i : Fin 192, ∑ j : Fin 192, h i.val j.val := by
  rw [Finset.sum_range]
  have h1 (k : Fin 24) : ∑ j : Fin 1536, h (8 * k.val + j.val / 192) (j.val % 192) = ∑ r : Fin 8, ∑ w : Fin 192, h (8 * k.val + r.val) w.val :=
    sum_divmod 8 192 fun r w => h (8 * k.val + r.val) w.val
  rw [Finset.sum_congr rfl fun k _ => h1 k]
  refine (sum_divmod 24 8 fun k r => ∑ w : Fin 192, h (8 * k.val + r.val) w.val).symm.trans ?_
  refine Finset.sum_congr rfl fun i _ => Finset.sum_congr rfl fun w _ => ?_
  show h (8 * (i.val / 8) + i.val % 8) w.val = h i.val w.val
  rw [Nat.div_add_mod]

end Cert.Spec
-- ==== Proof.GconvEntry.lean ====
module

public import proofs.«01_k».proof.Proof.Gen.GconvIdeal.Frame
public import proofs.«01_k».proof.Proof.Spec
public import Idealize.ShloMosaic.Lib.StableHlo.RunRead

@[expose] public section

set_option maxRecDepth 16384

noncomputable section

namespace Cert.GconvIdeal.Conv

open Cert.GconvIdeal Cert.GconvIdeal.Gen Idealize.ShloMosaic Idealize.ShloMosaic.TcCoe Idealize.SL.Sem

variable (m : (ℓ : Loc nD τ sig) → Buf (Elt Ideal) ℓ) (c : Dev nD)

/-- The weights as the region finds them. -/
theorem V_w : V m c main_v6 = shapeCast S64x735 (transpose S64x7x7x15 [0, 2, 3, 1] (m ((c : Thread nD τ).loc main_arg1) : Vec Ideal S64x15x7x7 .f32) transposes_S64x15x7x7_S64x7x7x15_0_2_3_1) shapeCasts_S64x7x7x15_S64x735 := by
  unfold V
  simp only [hostOps0, hostOps0_1, hostOps0_2, List.flatten_cons, List.flatten_nil, List.append_nil, List.cons_append, List.nil_append]
  after_reads_simp
  rfl

/-- The image as the region finds it. -/
theorem V_x : V m c main_v4 = shapeCast S8x2x2x15x25x8x196 (transpose S8x2x2x15x200x196 [0, 3, 5, 1, 2, 4] (shapeCast S8x15x200x2x196x2
      (pad S8x15x400x392 ![0, 0, 4, 4] ![0, 0, 12, 4] ![0, 0, 0, 0] (shapeCast S8x15x384x384 (m ((c : Thread nD τ).loc main_arg0) : Vec Ideal S8x3x5x384x384 .f32) shapeCasts_S8x3x5x384x384_S8x15x384x384)
        (sitofp (F := Ideal) .f32 (constantI S_ 32 0#32)) pads_S8x15x384x384_S8x15x400x392_000_000_4120_440 h_S_)
      shapeCasts_S8x15x400x392_S8x15x200x2x196x2) transposes_S8x15x200x2x196x2_S8x2x2x15x200x196_0_3_5_1_2_4) shapeCasts_S8x2x2x15x200x196_S8x2x2x15x25x8x196 := by
  unfold V
  simp only [hostOps0, hostOps0_1, hostOps0_2, List.flatten_cons, List.flatten_nil, List.append_nil, List.cons_append, List.nil_append]
  after_reads_simp
  simp only [StableHlo.TRef.toBuf, StableHlo.TRef.ofBuf, cast_cast, cast_eq]
  rfl

/-- The block indices of the four windows. -/
theorem idxs : ∀ t : Fin cfg0.N, win0_0.index t = ![t.val, 0, 0, 0, 0, 0, 0] ∧ win0_1.index t = ![0, 0]
    ∧ win0_2.index t = ![t.val, 0, 0, 0, 0] ∧ win0_3.index t = ![t.val, 0, 0] :=
  (by decide +kernel : ∀ t : Fin grid0.N, win0_0.index t = ![t.val, 0, 0, 0, 0, 0, 0] ∧ win0_1.index t = ![0, 0]
    ∧ win0_2.index t = ![t.val, 0, 0, 0, 0] ∧ win0_3.index t = ![t.val, 0, 0])

/-- There are eight grid points. -/
theorem pt_lt (t : Fin cfg0.N) : t.val < 8 := N_0 ▸ t.isLt

/-- The weights' block at an index. -/
theorem iblk1_apply (t : Fin cfg0.N) (o : Fin 64) (q : Fin 735) :
    iblk m c 1 t (ix2 o q) = (m ((c : Thread nD τ).loc main_arg1) : Vec Ideal S64x15x7x7 .f32) (ix4 o ⟨q.val % 15, by omega⟩ ⟨q.val / 15 / 7, by omega⟩ ⟨q.val / 15 % 7, by omega⟩) := by
  have h : iblk m c 1 t (ix2 o q) = V m c main_v6 (ix2 o q) := by
    blk_ext [iblk, idxs t]
  rw [h, V_w]
  pointwise
  congr 1
  refine congrArg (fun z : Fin 7 => ix4 o (⟨q.val % 15, by omega⟩ : Fin 15) z (⟨q.val / 15 % 7, by omega⟩ : Fin 7)) (Fin.ext ?_)
  show q.val / 105 = q.val / 15 / 7
  omega

/-- Where an element of the image's block sits in the image. -/
theorem emb0 (t : Fin cfg0.N) (p q : Fin 2) (ch : Fin 15) (g : Fin 25) (s : Fin 8) (w : Fin 196) :
    (win0_0.blk t).view.emb (ix7 (n0 := 1) 0 p q ch g s w) = (ix7 ⟨t.val, pt_lt t⟩ p q ch g s w : S8x2x2x15x25x8x196.Idx) := by
  have h (y : (win0_0.xblock (grid0.coords t)).Idx) (a : Fin 7) :
    ((win0_0.blk t).view.emb y a).val = win0_0.index t a * win0_0.size a + (y a).val := Pipeline.Window.rect_emb_val win0_0 t y a rfl
  refine funext fun a => Fin.ext ((h _ a).trans ?_)
  rw [(idxs t).1]
  match a with
  | 0 => exact Nat.mul_one _
  | 1 => exact (congrArg (· + p.val) (Nat.zero_mul _)).trans (Nat.zero_add _)
  | 2 => exact (congrArg (· + q.val) (Nat.zero_mul _)).trans (Nat.zero_add _)
  | 3 => exact (congrArg (· + ch.val) (Nat.zero_mul _)).trans (Nat.zero_add _)
  | 4 => exact (congrArg (· + g.val) (Nat.zero_mul _)).trans (Nat.zero_add _)
  | 5 => exact (congrArg (· + s.val) (Nat.zero_mul _)).trans (Nat.zero_add _)
  | 6 => exact (congrArg (· + w.val) (Nat.zero_mul _)).trans (Nat.zero_add _)

/-- The block of the first operand at a grid point is what its window reads from the array of the call. -/
theorem iblk0_eq (t : Fin cfg0.N) (y : ((cfg0.win 0).xblock (cfg0.grid.coords t)).Idx) :
    iblk m c 0 t y = ((cfg0.win 0).blk t).view.read (Elt Ideal) (V m c (Pipeline.arrRef spec0 0)) y := rfl

/-- A block of the first operand at an index is its array at the block's place. -/
theorem read0 (t : Fin cfg0.N) (y : ((cfg0.win 0).xblock (cfg0.grid.coords t)).Idx) (Y : S8x2x2x15x25x8x196.Idx → EReal) :
    ((cfg0.win 0).blk t).view.read (Elt Ideal) Y y = Y (((cfg0.win 0).blk t).view.emb y) := rfl

/-- The first operand of the call is the host code's array. -/
theorem V_arr0 : V m c (Pipeline.arrRef spec0 0) = V m c main_v4 := rfl

/-- Splitting the rows into groups of eight. -/
theorem x_cast1 (Y : Vec Ideal S8x2x2x15x200x196 .f32) (b : Fin 8) (p q : Fin 2) (ch : Fin 15) (g : Fin 25) (s : Fin 8) (w : Fin 196) :
    shapeCast S8x2x2x15x25x8x196 Y shapeCasts_S8x2x2x15x200x196_S8x2x2x15x25x8x196 (ix7 b p q ch g s w)
      = Y (ix6 b p q ch ⟨g.val * 8 + s.val, by omega⟩ w) := by
  pointwise

/-- Moving the phases to the front. -/
theorem x_transpose (Y : Vec Ideal S8x15x200x2x196x2 .f32) (b : Fin 8) (p q : Fin 2) (ch : Fin 15) (r : Fin 200) (w : Fin 196) :
    transpose S8x2x2x15x200x196 [0, 3, 5, 1, 2, 4] Y transposes_S8x15x200x2x196x2_S8x2x2x15x200x196_0_3_5_1_2_4 (ix6 b p q ch r w)
      = Y (ix6 b ch r p w q) := by
  pointwise

/-- Splitting rows and columns into their phases. -/
theorem x_cast2 (Y : Vec Ideal S8x15x400x392 .f32) (b : Fin 8) (p q : Fin 2) (ch : Fin 15) (r : Fin 200) (w : Fin 196) :
    shapeCast S8x15x200x2x196x2 Y shapeCasts_S8x15x400x392_S8x15x200x2x196x2 (ix6 b ch r p w q)
      = Y (ix4 b ch ⟨r.val * 2 + p.val, by omega⟩ ⟨w.val * 2 + q.val, by omega⟩) := by
  pointwise

/-- The padded clips at a row and a column. -/
theorem x_pad (Y : Vec Ideal S8x3x5x384x384 .f32) (b : Fin 8) (ch : Fin 15) (R : Fin 400) (C : Fin 392) :
    pad S8x15x400x392 ![0, 0, 4, 4] ![0, 0, 12, 4] ![0, 0, 0, 0] (shapeCast S8x15x384x384 Y shapeCasts_S8x3x5x384x384_S8x15x384x384)
        (sitofp (F := Ideal) .f32 (constantI S_ 32 0#32)) pads_S8x15x384x384_S8x15x400x392_000_000_4120_440 h_S_ (ix4 b ch R C)
      = Spec.img Y b ch (R.val - 1) (C.val - 1) := by
  pointwise
  unfold Spec.img
  have h0 : FloatOps.sitofp (F := Ideal) FTy.f32 0#32 = (0 : EReal) := by
    show (((((0#32 : BitVec 32).toInt : ℤ)) : ℝ) : EReal) = 0
    norm_num
  rw [h0]
  have hi (z : Fin 384) (n : ℕ) (hz : z.val = n) (hn : n < 384) : z = ⟨n, hn⟩ := Fin.ext hz
  by_cases h : (4 ≤ R.val ∧ R.val - 4 < 384) ∧ 4 ≤ C.val ∧ C.val - 4 < 384
  · rw [dif_pos h, dif_pos (by omega)]
    congr 2 <;> exact Fin.ext (by dsimp only; omega)
  · rw [dif_neg h, dif_neg (by omega)]

/-- The image's block at an index: the four phases of the padded image of the grid point's clip. -/
theorem iblk0_apply (t : Fin cfg0.N) (p q : Fin 2) (ch : Fin 15) (g : Fin 25) (s : Fin 8) (w : Fin 196) :
    iblk m c 0 t (ix7 0 p q ch g s w)
      = Spec.img (m ((c : Thread nD τ).loc main_arg0) : Vec Ideal S8x3x5x384x384 .f32) ⟨t.val, pt_lt t⟩ ch
          (2 * (8 * g.val + s.val) + p.val - 1) (2 * w.val + q.val - 1) := by
  refine (iblk0_eq m c t _).trans ((read0 t _ _).trans ?_)
  refine (congrArg (V m c (Pipeline.arrRef spec0 0)) (emb0 t p q ch g s w)).trans ?_
  rw [V_arr0, V_x, x_cast1, x_transpose, x_cast2, x_pad]
  dsimp only
  rw [Nat.mul_comm g.val 8, Nat.mul_comm _ 2, Nat.mul_comm _ 2]

end Cert.GconvIdeal.Conv
-- ==== Proof.GconvArr.lean ====
module

public import proofs.«01_k».proof.Proof.GconvLoop
public import proofs.«01_k».proof.Proof.GconvEntry

@[expose] public section

set_option maxRecDepth 16384

noncomputable section

namespace Cert.GconvIdeal.Conv

open Cert.GconvIdeal Cert.GconvIdeal.Gen Idealize.ShloMosaic Idealize.ShloMosaic.TcCoe Idealize.SL.Sem

variable (m : (ℓ : Loc nD τ sig) → Buf (Elt Ideal) ℓ) (c : Dev nD)

/-- The clips as the program finds them. -/
abbrev X0 : Vec Ideal S8x3x5x384x384 .f32 := m ((c : Thread nD τ).loc main_arg0)

/-- The gate's weights as the program finds them. -/
abbrev W0 : Vec Ideal S64x15x7x7 .f32 := m ((c : Thread nD τ).loc main_arg1)

/-- A trip's product is the convolution, at the trip's rows. -/
theorem trip_conv (t : Fin cfg0.N) (k : Fin k0_t1_loop.trips) (o : Fin 64) (j : Fin 1536) :
    trip (iblk m c 1 t) (iblk m c 0 t) k (ix2 o j)
      = Spec.conv (X0 m c) (W0 m c) ⟨t.val, pt_lt t⟩ o (8 * k.val + j.val / 192) (j.val % 192) := by
  refine (trip_apply (iblk m c 1 t) (iblk m c 0 t) (fun ch R C => Spec.img (X0 m c) ⟨t.val, pt_lt t⟩ ch (R - 1) (C - 1))
    (fun p q ch g s w => iblk0_apply m c t p q ch g s w) k o j).trans ?_
  unfold Spec.conv
  refine (Finset.sum_congr rfl fun q _ => congrArg (fun z : EReal => z * (_ : EReal)) (iblk1_apply m c t o q)).trans ?_
  simp only [Nat.add_sub_cancel]
  exact Spec.sum_taps fun ch u v => W0 m c (ix4 o ch u v)
    * Spec.img (X0 m c) ⟨t.val, pt_lt t⟩ ch (2 * (8 * k.val + j.val / 192) + u.val) (2 * (j.val % 192) + v.val)

/-- The convolution's array after the run. -/
theorem final2 : (dats m 0 c).arrAt 2 cfg0.N
    = fun z : S8x64x24x8x192.Idx => Spec.conv (X0 m c) (W0 m c) (z 0) (z 1) (8 * (z 2).val + (z 3).val) (z 4).val := by
  refine (dats m 0 c).arrAt_eq_of_covers 2 _ (by decide +kernel) fun t hf y => ?_
  blk_simp
  rw [after0_2]
  unfold outsAt0
  dsimp only
  revert y
  intro (y : S1x64x24x8x192.Idx)
  idx_vars y
  have e0 : ((View.whole main_v7_0).slice (win0_2.rect t)).emb (ix5 y0 y1 y2 y3 y4) 0 = (⟨t.val, pt_lt t⟩ : Fin 8) := Fin.ext (by
    blk_simp [idxs t])
  have e1 : ((View.whole main_v7_0).slice (win0_2.rect t)).emb (ix5 y0 y1 y2 y3 y4) 1 = (y1 : Fin 64) := Fin.ext (by
    blk_simp [idxs t])
  refine Eq.trans ?_ (congrArg₂ (fun (b : Fin 8) (o : Fin 64) => Spec.conv (X0 m c) (W0 m c) b o
      (8 * (win0_2.index t 2 * 24 + y2.val) + (win0_2.index t 3 * 8 + y3.val)) (win0_2.index t 4 * 192 + y4.val)) e0 e1).symm
  rw [(idxs t).2.2.1]
  have hy : y0 = 0 := Subsingleton.elim _ _
  subst hy
  refine (out2_apply c _ _ _ _ _ _ _ _ _ _ _ y1 ⟨y2.val, trips_eq.symm ▸ y2.isLt⟩ y3 y4).trans ((trip_conv m c t _ y1 _).trans ?_)
  have h3 := y3.isLt
  have h4 := y4.isLt
  congr 1
  · show 8 * y2.val + (y3.val * 192 + y4.val) / 192 = 8 * (0 * 24 + y2.val) + (0 * 8 + y3.val)
    omega
  · show (y3.val * 192 + y4.val) % 192 = 0 * 192 + y4.val
    omega

/-- A map's sum (`e = 0`) or sum of squares of the convolution. -/
def stat (h : ℕ → ℕ → EReal) (e : Fin 2) : EReal :=
  if e.val = 0 then ∑ i : Fin 192, ∑ j : Fin 192, h i.val j.val else ∑ i : Fin 192, ∑ j : Fin 192, h i.val j.val * h i.val j.val

/-- What a grid point adds up, over its whole map. -/
theorem parts_sum (t : Fin cfg0.N) (o : Fin 64) (e : Fin 2) :
    ∑ k ∈ Finset.range 24, part (iblk m c 1 t) (iblk m c 0 t) o e k = stat (Spec.conv (X0 m c) (W0 m c) ⟨t.val, pt_lt t⟩ o) e := by
  unfold stat
  have hk (k : ℕ) (hk : k ∈ Finset.range 24) : part (iblk m c 1 t) (iblk m c 0 t) o e k
      = if e.val = 0 then ∑ j : Fin 1536, Spec.conv (X0 m c) (W0 m c) ⟨t.val, pt_lt t⟩ o (8 * k + j.val / 192) (j.val % 192)
        else ∑ j : Fin 1536, Spec.conv (X0 m c) (W0 m c) ⟨t.val, pt_lt t⟩ o (8 * k + j.val / 192) (j.val % 192)
          * Spec.conv (X0 m c) (W0 m c) ⟨t.val, pt_lt t⟩ o (8 * k + j.val / 192) (j.val % 192) := by
    unfold part
    rw [dif_pos (trips_eq.symm ▸ Finset.mem_range.mp hk)]
    simp only [trip_conv]
  rw [Finset.sum_congr rfl hk]
  split_ifs
  · exact Spec.sum_tiles _
  · exact Spec.sum_tiles fun i j => Spec.conv (X0 m c) (W0 m c) ⟨t.val, pt_lt t⟩ o i j * Spec.conv (X0 m c) (W0 m c) ⟨t.val, pt_lt t⟩ o i j

/-- The sums' array after the run. -/
theorem final3 : (dats m 0 c).arrAt 3 cfg0.N
    = fun z : S8x64x2.Idx => stat (Spec.conv (X0 m c) (W0 m c) (z 0) (z 1)) (z 2) := by
  refine (dats m 0 c).arrAt_eq_of_covers 3 _ (by decide +kernel) fun t hf y => ?_
  blk_simp
  rw [after0_3]
  unfold outsAt0
  dsimp only
  revert y
  intro (y : S1x64x2.Idx)
  idx_vars y
  have e0 : ((View.whole main_v7_1).slice (win0_3.rect t)).emb (ix3 y0 y1 y2) 0 = (⟨t.val, pt_lt t⟩ : Fin 8) := Fin.ext (by
    blk_simp [idxs t])
  have e1 : ((View.whole main_v7_1).slice (win0_3.rect t)).emb (ix3 y0 y1 y2) 1 = (y1 : Fin 64) := Fin.ext (by
    blk_simp [idxs t])
  have e2 : ((View.whole main_v7_1).slice (win0_3.rect t)).emb (ix3 y0 y1 y2) 2 = (y2 : Fin 2) := Fin.ext (by
    blk_simp [idxs t])
  have hy : y0 = 0 := Subsingleton.elim _ _
  subst hy
  refine ((out3_apply c _ _ _ _ _ _ _ _ _ _ _ y1 y2).trans (parts_sum m c t y1 y2)).trans ?_
  exact ((congrArg₂ (fun (b : Fin 8) (o : Fin 64) => stat (Spec.conv (X0 m c) (W0 m c) b o) y2) e0 e1).symm.trans
    (congrArg (fun z : Fin 2 => stat _ z) e2.symm))

end Cert.GconvIdeal.Conv
-- ==== Proof.GconvRef.lean ====
module

public import proofs.«01_k».proof.Proof.Gen.GconvReferenceIdeal.Run
public import proofs.«01_k».proof.Proof.Spec

@[expose] public section

set_option maxRecDepth 16384

noncomputable section

namespace Cert.GconvReferenceIdeal.Conv

open Cert.GconvReferenceIdeal Cert.GconvReferenceIdeal.Gen Idealize.ShloMosaic Idealize.ShloMosaic.TcCoe Idealize.SL.Sem

/-- Every second row from one of the first seven on lies in the padded clips. -/
theorem row_slices (u : Fin 7) : S8x15x390x390.SlicesBy ![0, 0, u.val, 0] ![1, 1, 2, 1] S8x15x192x390 := by
  revert u; decide

/-- Every second column from one of the first seven on lies in the padded rows. -/
theorem col_slices (v : Fin 7) : S8x15x7x192x390.SlicesBy ![0, 0, 0, 0, v.val] ![1, 1, 1, 1, 2] S8x15x7x192x192 := by
  revert v; decide

/-- Every second row of the padded image, from row `u` on. -/
def row (P : FVec Ideal S8x15x390x390 .f32) (u : Fin 7) : FVec Ideal S8x15x1x192x390 .f32 :=
  broadcastInDim S8x15x1x192x390 ![0, 1, 3, 4] bcast_S8x15x192x390_S8x15x1x192x390_0_1_3_4
    (Host.slice S8x15x192x390 ![0, 0, u.val, 0] ![1, 1, 2, 1] P (row_slices u))

/-- Every second column of the rows, from column `v` on. -/
def col (P : FVec Ideal S8x15x7x192x390 .f32) (v : Fin 7) : FVec Ideal S8x15x7x1x192x192 .f32 :=
  broadcastInDim S8x15x7x1x192x192 ![0, 1, 2, 4, 5] bcast_S8x15x7x192x192_S8x15x7x1x192x192_0_1_2_4_5
    (Host.slice S8x15x7x192x192 ![0, 0, 0, 0, v.val] ![1, 1, 1, 1, 2] P (col_slices v))

/-- The seven stacked rows fit the array of the rows. -/
theorem rows_concat (P : FVec Ideal S8x15x390x390 .f32) :
    Shape.Concatenates ((List.ofFn fun u : Fin 7 => (⟨S8x15x1x192x390, row P u⟩ : (s : Shape) × (s.Idx → EReal))).map (·.1)) S8x15x7x192x390 2 :=
  concatenates_S8x15x1x192x390_S8x15x1x192x390_S8x15x1x192x390_S8x15x1x192x390_S8x15x1x192x390_S8x15x1x192x390_S8x15x1x192x390_S8x15x7x192x390_d2

/-- The seven stacked columns fit the array of the windows. -/
theorem cols_concat (P : FVec Ideal S8x15x7x192x390 .f32) :
    Shape.Concatenates ((List.ofFn fun v : Fin 7 => (⟨S8x15x7x1x192x192, col P v⟩ : (s : Shape) × (s.Idx → EReal))).map (·.1)) S8x15x7x7x192x192 3 :=
  concatenates_S8x15x7x1x192x192_S8x15x7x1x192x192_S8x15x7x1x192x192_S8x15x7x1x192x192_S8x15x7x1x192x192_S8x15x7x1x192x192_S8x15x7x1x192x192_S8x15x7x7x192x192_d3

/-- The seven strided rows of the padded clips, stacked. -/
def rows (P : FVec Ideal S8x15x390x390 .f32) : FVec Ideal S8x15x7x192x390 .f32 :=
  concatenate S8x15x7x192x390 2 (List.ofFn fun u : Fin 7 => (⟨S8x15x1x192x390, row P u⟩ : (s : Shape) × (s.Idx → EReal))) (rows_concat P)

/-- The seven strided columns of the rows, stacked. -/
def windows (P : FVec Ideal S8x15x7x192x390 .f32) : FVec Ideal S8x15x7x7x192x192 .f32 :=
  concatenate S8x15x7x7x192x192 3 (List.ofFn fun v : Fin 7 => (⟨S8x15x7x1x192x192, col P v⟩ : (s : Shape) × (s.Idx → EReal))) (cols_concat P)

/-- The padded image. -/
def padded (x : FVec Ideal S8x3x5x384x384 .f32) : FVec Ideal S8x15x390x390 .f32 :=
  pad S8x15x390x390 ![0, 0, 3, 3] ![0, 0, 3, 3] ![0, 0, 0, 0] (shapeCast S8x15x384x384 x shapeCasts_S8x3x5x384x384_S8x15x384x384)
    (sitofp (F := Ideal) .f32 (constantI S_ 32 0#32)) pads_S8x15x384x384_S8x15x390x390_000_000_330_330 h_S_

/-- The convolution of the reference. -/
def fmap (x : FVec Ideal S8x3x5x384x384 .f32) (w : FVec Ideal S64x15x7x7 .f32) : FVec Ideal S8x64x192x192 .f32 :=
  transpose S8x64x192x192 [0, 3, 1, 2] (Host.dotGeneral (F := Ideal) dot_S8x15x7x7x192x192_S64x15x7x7_S8x192x192x64_123_123_045_0_n_n none (windows (rows (padded x))) w)
    transposes_S8x192x192x64_S8x64x192x192_0_3_1_2

/-- One of the seven strided rows at an index. -/
theorem row_apply (P : FVec Ideal S8x15x390x390 .f32) (u : Fin 7) (b : Fin 8) (ch : Fin 15) (i : Fin 192) (C : Fin 390) :
    row P u (ix5 b ch 0 i C) = P (ix4 b ch ⟨u.val + 2 * i.val, by omega⟩ C) := by
  unfold row
  pointwise

/-- One of the seven strided columns at an index. -/
theorem col_apply (P : FVec Ideal S8x15x7x192x390 .f32) (v : Fin 7) (b : Fin 8) (ch : Fin 15) (u : Fin 7) (i : Fin 192) (j : Fin 192) :
    col P v (ix6 b ch u 0 i j) = P (ix5 b ch u i ⟨v.val + 2 * j.val, by omega⟩) := by
  unfold col
  pointwise

/-- The stacked rows at an index. -/
theorem rows_apply (P : FVec Ideal S8x15x390x390 .f32) (u : Fin 7) (b : Fin 8) (ch : Fin 15) (i : Fin 192) (C : Fin 390) :
    rows P (ix5 b ch u i C) = P (ix4 b ch ⟨u.val + 2 * i.val, by omega⟩ C) := by
  rw [← row_apply P u]
  unfold rows
  refine concatenate_ofFn_apply (t := S8x15x7x192x390) (s₁ := S8x15x1x192x390) 2 (row P) _ rfl 1 rfl (ix5 b ch u i C) u (Nat.div_one _) _ (Nat.mod_one _).symm ?_
  intro a ha
  fin_cases a <;> first | rfl | exact absurd rfl ha

/-- The stacked windows at an index. -/
theorem windows_apply (P : FVec Ideal S8x15x7x192x390 .f32) (v : Fin 7) (b : Fin 8) (ch : Fin 15) (u : Fin 7) (i : Fin 192) (j : Fin 192) :
    windows P (ix6 b ch u v i j) = P (ix5 b ch u i ⟨v.val + 2 * j.val, by omega⟩) := by
  rw [← col_apply P v]
  unfold windows
  refine concatenate_ofFn_apply (t := S8x15x7x7x192x192) (s₁ := S8x15x7x1x192x192) 3 (col P) _ rfl 1 rfl (ix6 b ch u v i j) v (Nat.div_one _) _ (Nat.mod_one _).symm ?_
  intro a ha
  fin_cases a <;> first | rfl | exact absurd rfl ha

/-- The padded clips at a row and a column. -/
theorem padded_apply (x : FVec Ideal S8x3x5x384x384 .f32) (b : Fin 8) (ch : Fin 15) (R C : Fin 390) :
    padded x (ix4 b ch R C) = Spec.img x b ch R.val C.val := by
  unfold padded
  pointwise
  unfold Spec.img
  have h0 : FloatOps.sitofp (F := Ideal) FTy.f32 0#32 = (0 : EReal) := by
    show (((((0#32 : BitVec 32).toInt : ℤ)) : ℝ) : EReal) = 0
    norm_num
  rw [h0]
  by_cases h : (3 ≤ R.val ∧ R.val - 3 < 384) ∧ 3 ≤ C.val ∧ C.val - 3 < 384
  · rw [dif_pos h, dif_pos (by omega)]
  · rw [dif_neg h, dif_neg (by omega)]

/-- The contraction of the patches with the weights. -/
abbrev dims : DotDims S8x15x7x7x192x192 S64x15x7x7 S8x192x192x64 := dot_S8x15x7x7x192x192_S64x15x7x7_S8x192x192x64_123_123_045_0_n_n

/-- The sizes of the contracted axes. -/
theorem contr_size : ∀ p : Fin 3, (![15, 7, 7] : Fin 3 → ℕ) p = dims.contr.size p := by
  intro p
  fin_cases p <;> rfl

/-- The contraction's indices, one for each triple of coordinates. -/
def contrE : (⟨3, ![15, 7, 7]⟩ : Shape).Idx ≃ dims.contr.Idx where
  toFun k := fun p => (k p).cast (contr_size p)
  invFun k := fun p => (k p).cast (contr_size p).symm
  left_inv _ := rfl
  right_inv _ := rfl

/-- The windows' index of a term of the contraction. -/
theorem lhs_eq (b : Fin 8) (o : Fin 64) (i j : Fin 192) (c : Fin 15) (u v : Fin 7) :
    dims.lhsIdx (ix4 b i j o) (contrE (ix3 c u v)) = ix6 b c u v i j := by
  funext a
  fin_cases a <;> rfl

/-- The weights' index of a term of the contraction. -/
theorem rhs_eq (b : Fin 8) (o : Fin 64) (i j : Fin 192) (c : Fin 15) (u v : Fin 7) :
    dims.rhsIdx (ix4 b i j o) (contrE (ix3 c u v)) = ix4 o c u v := by
  funext a
  fin_cases a <;> rfl

/-- The contraction as a sum over channel and tap. -/
theorem contract (P : S8x15x7x7x192x192.Idx → EReal) (w : S64x15x7x7.Idx → EReal) (b : Fin 8) (o : Fin 64) (i j : Fin 192) :
    Ideal.matmul dims P w (fun _ => 0) (ix4 b i j o) = ∑ c : Fin 15, ∑ u : Fin 7, ∑ v : Fin 7, P (ix6 b c u v i j) * w (ix4 o c u v) := by
  unfold Ideal.matmul
  rw [zero_add, ← Equiv.sum_comp contrE, sum_idx3]
  refine Finset.sum_congr rfl fun c _ => ?_
  refine Finset.sum_congr rfl fun u _ => ?_
  refine Finset.sum_congr rfl fun v _ => ?_
  rw [lhs_eq, rhs_eq]

/-- The reference's convolution at a pixel. -/
theorem fmap_apply (x : FVec Ideal S8x3x5x384x384 .f32) (w : FVec Ideal S64x15x7x7 .f32) (b : Fin 8) (o : Fin 64) (i j : Fin 192) :
    fmap x w (ix4 b o i j) = Spec.conv x w b o i.val j.val := by
  unfold fmap Spec.conv
  generalize hP : windows (rows (padded x)) = P
  pointwise
  subst hP
  rw [contract]
  refine Finset.sum_congr rfl fun ch _ => ?_
  refine Finset.sum_congr rfl fun u _ => ?_
  refine Finset.sum_congr rfl fun v _ => ?_
  rw [windows_apply, rows_apply, padded_apply, mul_comm]
  dsimp only
  rw [Nat.add_comm u.val, Nat.add_comm v.val]

variable (m : (ℓ : Loc nD τ sig) → Buf (Elt Ideal) ℓ) (c : Dev nD)

/-- The reference's first result is the convolution in tiles of eight rows. -/
theorem res0_eq : Value.res_main_v34 m c = shapeCast S8x64x24x8x192 (fmap (m ((c.tc : Thread nD τ).loc main_arg0)) (m ((c.tc : Thread nD τ).loc main_arg1))) shapeCasts_S8x64x192x192_S8x64x24x8x192 := by
  unfold Value.res_main_v34
  rfl

/-- The reference's sums. -/
def sums (f : FVec Ideal S8x64x192x192 .f32) : FVec Ideal S8x64x2 .f32 :=
  concatenate S8x64x2 2 [⟨S8x64x1, broadcastInDim S8x64x1 ![0, 1] bcast_S8x64_S8x64x1_0_1 (Host.reduceAdd f (constant (F := Ideal) S_ .f32 0x00000000#32) reducesTo_S8x64x192x192_S8x64_d2_3 h_S_)⟩,
    ⟨S8x64x1, broadcastInDim S8x64x1 ![0, 1] bcast_S8x64_S8x64x1_0_1 (Host.reduceAdd (mulf f f) (constant (F := Ideal) S_ .f32 0x00000000#32) reducesTo_S8x64x192x192_S8x64_d2_3 h_S_)⟩] concatenates_S8x64x1_S8x64x1_S8x64x2_d2

/-- The reference's second result is the convolution's sums. -/
theorem res1_eq : Value.res_main_v40 m c = sums (fmap (m ((c.tc : Thread nD τ).loc main_arg0)) (m ((c.tc : Thread nD τ).loc main_arg1))) := by
  unfold Value.res_main_v40
  rfl

/-- A sum of the reference at a clip and a channel. -/
theorem sums_apply (f : FVec Ideal S8x64x192x192 .f32) (b : Fin 8) (o : Fin 64) (e : Fin 2) :
    sums f (ix3 b o e) = if e.val = 0 then ∑ i : Fin 192, ∑ j : Fin 192, f (ix4 b o i j) else ∑ i : Fin 192, ∑ j : Fin 192, f (ix4 b o i j) * f (ix4 b o i j) := by
  unfold sums
  pointwise
  by_cases he : e.val = 0
  · rw [dif_pos (by omega), if_pos he]
  · rw [dif_neg (by omega), if_neg he]

/-- The tiled convolution at an index. -/
theorem tiles_apply (f : FVec Ideal S8x64x192x192 .f32) (b : Fin 8) (o : Fin 64) (k : Fin 24) (r : Fin 8) (j : Fin 192) :
    shapeCast S8x64x24x8x192 f shapeCasts_S8x64x192x192_S8x64x24x8x192 (ix5 b o k r j) = f (ix4 b o ⟨k.val * 8 + r.val, by omega⟩ j) := by
  pointwise

end Cert.GconvReferenceIdeal.Conv
-- ==== Proof.GconvClaim.lean ====
/- The gate's convolution: the call's two arrays are the reference's. -/
module

public import proofs.«01_k».proof.Defs
public import proofs.«01_k».proof.Proof.GconvArr
public import proofs.«01_k».proof.Proof.GconvRef
public import proofs.«01_k».proof.Proof.Gen.GconvIdeal.Frame

@[expose] public section

set_option maxRecDepth 16384

noncomputable section

namespace Cert.GconvClaim

open Idealize.ShloMosaic Idealize.ShloMosaic.TcCoe Idealize.SL.Sem

/-- The reference's map of the convolution, cut into tiles of eight rows, is the call's array. -/
theorem map_eq (x : FVec Ideal GconvIdeal.S8x3x5x384x384 .f32) (w : FVec Ideal GconvIdeal.S64x15x7x7 .f32) :
    shapeCast GconvReferenceIdeal.S8x64x24x8x192 (GconvReferenceIdeal.Conv.fmap x w) GconvReferenceIdeal.Facts₀.shapeCasts_S8x64x192x192_S8x64x24x8x192
      = fun z : GconvIdeal.S8x64x24x8x192.Idx => Spec.conv x w (z 0) (z 1) (8 * (z 2).val + (z 3).val) (z 4).val := by
  funext z
  revert z
  intro (z : GconvReferenceIdeal.S8x64x24x8x192.Idx)
  idx_vars z
  refine (GconvReferenceIdeal.Conv.tiles_apply _ z0 z1 z2 z3 z4).trans ((GconvReferenceIdeal.Conv.fmap_apply x w z0 z1 _ z4).trans ?_)
  show Spec.conv x w z0 z1 (z2.val * 8 + z3.val) z4.val = Spec.conv x w z0 z1 (8 * z2.val + z3.val) z4.val
  rw [Nat.mul_comm]

/-- The reference's sums are the call's. -/
theorem stat_eq (x : FVec Ideal GconvIdeal.S8x3x5x384x384 .f32) (w : FVec Ideal GconvIdeal.S64x15x7x7 .f32) :
    GconvReferenceIdeal.Conv.sums (GconvReferenceIdeal.Conv.fmap x w)
      = fun z : GconvIdeal.S8x64x2.Idx => GconvIdeal.Conv.stat (Spec.conv x w (z 0) (z 1)) (z 2) := by
  funext z
  revert z
  intro (z : GconvReferenceIdeal.S8x64x2.Idx)
  idx_vars z
  refine (GconvReferenceIdeal.Conv.sums_apply _ z0 z1 z2).trans ?_
  simp only [GconvReferenceIdeal.Conv.fmap_apply]
  rfl

/-- The reference's program runs, keeps its arguments and leaves every counter at zero. -/
theorem ref_frame : quiescent_GconvReferenceIdeal := fun m ρ _ =>
  (θ_run GconvReferenceIdeal.defs _ _).mono (fun r h => ⟨fun c => (h c).2.2, sem_eq_zero_of_no_sems (by decide) r.2⟩)
    (GconvReferenceIdeal.Value.run (F := Ideal) m ρ)

/-- The call with its host code and the reference leave the same two arrays. -/
theorem value : algebraic_GconvIdeal_GconvReferenceIdeal := fun m ρ m' ρ' _ hag =>
  ⟨fun c => fun z : GconvIdeal.S8x64x24x8x192.Idx =>
      Spec.conv (GconvIdeal.Conv.X0 m c) (GconvIdeal.Conv.W0 m c) (z 0) (z 1) (8 * (z 2).val + (z 3).val) (z 4).val,
    fun c => fun z : GconvIdeal.S8x64x2.Idx =>
      GconvIdeal.Conv.stat (Spec.conv (GconvIdeal.Conv.X0 m c) (GconvIdeal.Conv.W0 m c) (z 0) (z 1)) (z 2),
    (θ_run GconvIdeal.defs _ _).mono (fun _ h c => ⟨(h c).1.trans (GconvIdeal.Conv.final2 m c),
        (h c).2.1.trans (GconvIdeal.Conv.final3 m c), (h c).2.2⟩) (GconvIdeal.Value.run_blocks m ρ),
    (θ_run GconvReferenceIdeal.defs _ _).mono (fun _ h c => ⟨(h c).1.trans ((GconvReferenceIdeal.Conv.res0_eq m' c).trans
          ((congrArg₂ (fun x w => shapeCast GconvReferenceIdeal.S8x64x24x8x192 (GconvReferenceIdeal.Conv.fmap x w)
              GconvReferenceIdeal.Facts₀.shapeCasts_S8x64x192x192_S8x64x24x8x192) (hag c).1 (hag c).2).trans (map_eq _ _))),
        (h c).2.1.trans ((GconvReferenceIdeal.Conv.res1_eq m' c).trans
          ((congrArg₂ (fun x w => GconvReferenceIdeal.Conv.sums (GconvReferenceIdeal.Conv.fmap x w)) (hag c).1 (hag c).2).trans (stat_eq _ _))),
        (h c).2.2⟩) (GconvReferenceIdeal.Value.run (F := Ideal) m' ρ')⟩

end Cert.GconvClaim

end
-- ==== Proof.TailRun.lean ====
/- The launch of routing and experts with its two results: what the last host operations leave in them. -/
module

public import proofs.«01_k».proof.Proof.Gen.TailIdeal.Frame
public import Idealize.ShloMosaic.Lib.Pointwise

@[expose] public section

set_option maxRecDepth 16384

noncomputable section

namespace Cert.TailIdeal.Tail

open Cert.TailIdeal Cert.TailIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends, with the two results as the contents after the last host operations and the arguments as launched. -/
theorem run : θ_run defs (onTc (τ := τ) (main (F := Ideal))) ⟨m, fun _ => 0, ρ⟩ (fun r => ∀ c : Dev nD,
      r.2.mem ((c.tc : Thread nD τ).loc main_v16) = W5 m ρ c (Proc.devRef .tc main_v16) ∧
      r.2.mem ((c.tc : Thread nD τ).loc main_v17) = W5 m ρ c (Proc.devRef .tc main_v17) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v16 (by decide)),
      h c _ (mem_uc main_v17 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c)⟩)

end Cert.TailIdeal.Tail
-- ==== Proof.TailSpec.lean ====
/- The routing and the experts in plain sums: what both programs of the second pair are shown to compute. -/
module

public import proofs.«01_k».proof.Proof.Spec

@[expose] public section

noncomputable section

namespace Cert.Spec

open Idealize.ShloMosaic

/-- The expert of the greatest of three logits, the first of equal ones. -/
def pick (l : Fin 3 → EReal) : Fin 3 :=
  if l 1 ≤ l 0 ∧ l 2 ≤ l 0 then 0 else if l 0 < l 1 ∧ l 2 ≤ l 1 then 1 else 2

/-- The gate of expert `e`: one for the expert picked, zero for the others. -/
def hot (l : Fin 3 → EReal) (e : Fin 3) : EReal := if e = pick l then 1 else 0

/-- The logit of expert `e` for clip `b`. -/
def logit (f : (⟨3, ![8, 64, 1]⟩ : Shape).Idx → EReal) (w : (⟨2, ![3, 64]⟩ : Shape).Idx → EReal) (d : (⟨1, ![3]⟩ : Shape).Idx → EReal)
    (b : Fin 8) (e : Fin 3) : EReal :=
  ∑ k : Fin 64, f (ix3 b k 0) * w (ix2 e k) + d (ix1 e)

/-- The greatest of three logits. -/
def top (l : Fin 3 → EReal) : EReal := Finset.fold max ⊥ l Finset.univ

/-- The softmax of three logits. -/
def soft (l : Fin 3 → EReal) (e : Fin 3) : EReal :=
  Ideal.div (Ideal.exp (l e - top l)) (∑ x : Fin 3, Ideal.exp (l x - top l))

/-- The balance loss, without its coefficient: over the experts, the share of the clips an expert is picked for times its
    mean softmax. -/
def balance (L : Fin 8 → Fin 3 → EReal) : EReal :=
  ∑ e : Fin 3, ((∑ b : Fin 8, hot (L b) e) * ((1 / 8 : ℝ) : EReal)) * ((∑ b : Fin 8, soft (L b) e) * ((1 / 8 : ℝ) : EReal))

/-- One expert's map at a pixel: the four by four window of every channel against the expert's weights. -/
def expert (x : (⟨5, ![8, 3, 5, 384, 384]⟩ : Shape).Idx → EReal) (w : (⟨5, ![3, 5, 15, 4, 4]⟩ : Shape).Idx → EReal)
    (b : Fin 8) (e : Fin 3) (o : Fin 5) (i j : Fin 96) : EReal :=
  ∑ c : Fin 15, ∑ u : Fin 4, ∑ v : Fin 4,
    x (ix5 b ⟨c.val / 5, by omega⟩ ⟨c.val % 5, by omega⟩ ⟨i.val * 4 + u.val, by omega⟩ ⟨j.val * 4 + v.val, by omega⟩) * w (ix5 e o c u v)

/-- The heads: the map of the expert picked for the clip, and that expert's offset. -/
def heads (L : Fin 8 → Fin 3 → EReal) (x : (⟨5, ![8, 3, 5, 384, 384]⟩ : Shape).Idx → EReal)
    (w : (⟨5, ![3, 5, 15, 4, 4]⟩ : Shape).Idx → EReal) (d : (⟨2, ![3, 5]⟩ : Shape).Idx → EReal) (b : Fin 8) (o : Fin 5) (i j : Fin 96) : EReal :=
  expert x w b (pick (L b)) o i j + d (ix2 (pick (L b)) o)

/-- The gate of expert 0, by the comparisons. -/
theorem hot_zero (l : Fin 3 → EReal) : hot l 0 = if l 1 ≤ l 0 ∧ l 2 ≤ l 0 then 1 else 0 := by
  unfold hot pick
  split_ifs <;> first | rfl | contradiction

/-- The gate of expert 1, by the comparisons. -/
theorem hot_one (l : Fin 3 → EReal) : hot l 1 = if l 0 < l 1 ∧ l 2 ≤ l 1 then 1 else 0 := by
  unfold hot pick
  by_cases h0 : l 1 ≤ l 0 ∧ l 2 ≤ l 0
  · rw [if_pos h0, if_neg (by decide), if_neg fun h => absurd h.1 (not_lt.2 h0.1)]
  · rw [if_neg h0]
    split_ifs <;> first | rfl | contradiction

/-- The gate of expert 2, by the comparisons. -/
theorem hot_two (l : Fin 3 → EReal) : hot l 2 = if l 0 < l 2 ∧ l 1 < l 2 then 1 else 0 := by
  unfold hot pick
  by_cases h0 : l 1 ≤ l 0 ∧ l 2 ≤ l 0
  · rw [if_pos h0, if_neg (by decide), if_neg fun h => absurd h.1 (not_lt.2 h0.2)]
  · rw [if_neg h0]
    by_cases h1 : l 0 < l 1 ∧ l 2 ≤ l 1
    · rw [if_pos h1, if_neg (by decide), if_neg fun h => absurd h.2 (not_lt.2 h1.2)]
    · rw [if_neg h1, if_pos rfl, if_pos]
      rcases le_or_gt (l 1) (l 0) with h | h
      · have h2 : l 0 < l 2 := lt_of_not_ge fun q => h0 ⟨h, q⟩
        exact ⟨h2, lt_of_le_of_lt h h2⟩
      · have h2 : l 1 < l 2 := lt_of_not_ge fun q => h1 ⟨h, q⟩
        exact ⟨h.trans h2, h2⟩

/-- Gates of one expert and no other leave that expert's summand. -/
theorem sum_hot (l : Fin 3 → EReal) (g : Fin 3 → EReal) : ∑ e : Fin 3, hot l e * g e = g (pick l) := by
  unfold hot
  simp only [ite_mul, one_mul, zero_mul, Finset.sum_ite_eq', Finset.mem_univ, if_true]

/-- The 240 places of a patch are the channels and places of the window. -/
theorem sum_patch (G : Fin 15 → Fin 4 → Fin 4 → EReal) :
    ∑ q : Fin 240, G ⟨q.val / 16, by omega⟩ ⟨q.val / 4 % 4, by omega⟩ ⟨q.val % 4, by omega⟩
      = ∑ c : Fin 15, ∑ u : Fin 4, ∑ v : Fin 4, G c u v := by
  refine (Finset.sum_congr rfl fun q _ => ?_).trans ((sum_divmod 15 16 fun c a => G c ⟨a.val / 4, by omega⟩ ⟨a.val % 4, by omega⟩).trans
    (Finset.sum_congr rfl fun c _ => sum_divmod 4 4 fun u v => G c u v))
  have h1 : q.val / 4 % 4 = q.val % 16 / 4 := by omega
  have h2 : q.val % 4 = q.val % 16 % 4 := by omega
  exact congrArg₂ (G ⟨q.val / 16, by omega⟩) (Fin.ext h1) (Fin.ext h2)

/-- The word of minus infinity. -/
theorem word_bot : Ideal.ofBits .f32 0xFF800000#32 = (⊥ : EReal) := by
  simp [Ideal.ofBits, Ideal.ieee]

/-- The word of one eighth. -/
theorem word_eighth : Ideal.ofBits .f32 0x3E000000#32 = ((1 / 8 : ℝ) : EReal) := by
  simp [Ideal.ofBits, Ideal.ieee, -EReal.coe_mul]; norm_num

/-- The word of eight. -/
theorem word_eight : Ideal.ofBits .f32 0x41000000#32 = ((8 : ℝ) : EReal) := by
  simp [Ideal.ofBits, Ideal.ieee, -EReal.coe_mul]; norm_num

/-- Three times the word of one hundredth is the word of three hundredths. -/
theorem word_coef : Ideal.ofBits .f32 0x3CF5C28F#32 = Ideal.ofBits .f32 0x40400000#32 * Ideal.ofBits .f32 0x3C23D70A#32 := by
  simp [Ideal.ofBits, Ideal.ieee, -EReal.coe_mul]
  rw [← EReal.coe_mul]
  norm_num

end Cert.Spec
-- ==== Proof.TailEntry.lean ====
/- The arrays that routing and experts read, as the host code before each call leaves them. -/
module

public import proofs.«01_k».proof.Proof.Gen.TailIdeal.Frame
public import proofs.«01_k».proof.Proof.TailSpec
public import Idealize.ShloMosaic.Lib.StableHlo.RunRead

@[expose] public section

set_option maxRecDepth 16384

noncomputable section

namespace Cert.TailIdeal.Tail

open Cert.TailIdeal Cert.TailIdeal.Gen Idealize.ShloMosaic Idealize.ShloMosaic.TcCoe Idealize.SL.Sem

variable (m : (ℓ : Loc nD τ sig) → Buf (Elt Ideal) ℓ) (ρ : Dev nD → PrngReg) (c : Dev nD)

/-- The clips as the program finds them. -/
abbrev X0 : Vec Ideal S8x3x5x384x384 .f32 := m ((c : Thread nD τ).loc main_arg0)

/-- The pooled features as the program finds them. -/
abbrev F0 : Vec Ideal S8x64x1 .f32 := m ((c : Thread nD τ).loc main_arg1)

/-- The router's weights as the program finds them. -/
abbrev G0 : Vec Ideal S3x64 .f32 := m ((c : Thread nD τ).loc main_arg2)

/-- The router's offsets as the program finds them. -/
abbrev D0 : Vec Ideal S3 .f32 := m ((c : Thread nD τ).loc main_arg3)

/-- The experts' weights as the program finds them. -/
abbrev W0' : Vec Ideal S3x5x15x4x4 .f32 := m ((c : Thread nD τ).loc main_arg4)

/-- The experts' offsets as the program finds them. -/
abbrev B0 : Vec Ideal S3x5 .f32 := m ((c : Thread nD τ).loc main_arg5)

/-- The clips with channels and frames merged, as the first call finds them. -/
theorem W1_v0 : W1 m ρ c (Proc.devRef .tc main_v0) = shapeCast S8x15x384x384 (X0 m c) shapeCasts_S8x3x5x384x384_S8x15x384x384 := by
  unfold W1
  simp only [hostOps0, List.flatten_cons, List.flatten_nil, List.append_nil, List.cons_append, List.nil_append]
  after_reads_simp
  rfl

/-- The router's offsets as a row, as the first call finds them. -/
theorem W1_v1 : W1 m ρ c (Proc.devRef .tc main_v1) = shapeCast S1x3 (D0 m c) shapeCasts_S3_S1x3 := by
  unfold W1
  simp only [hostOps0, List.flatten_cons, List.flatten_nil, List.append_nil, List.cons_append, List.nil_append]
  after_reads_simp
  rfl

/-- The patches as the second call finds them. -/
theorem W3_v5 : W3 m ρ c (Proc.devRef .tc main_v5) = shapeCast S8x9216x240 (transpose S8x96x96x15x4x4 [0, 2, 4, 1, 3, 5]
      (shapeCast S8x15x96x4x96x4 (W2 m ρ c (Proc.devRef .tc main_v0) : Vec Ideal S8x15x384x384 .f32) shapeCasts_S8x15x384x384_S8x15x96x4x96x4)
      transposes_S8x15x96x4x96x4_S8x96x96x15x4x4_0_2_4_1_3_5) shapeCasts_S8x96x96x15x4x4_S8x9216x240 := by
  unfold W3
  simp only [hostOps1, List.flatten_cons, List.flatten_nil, List.append_nil, List.cons_append, List.nil_append]
  after_reads_simp
  rfl

/-- Clips with channels and frames merged and cut in windows of four by four. -/
theorem x_cast (Y : Vec Ideal S8x3x5x384x384 .f32) (b : Fin 8) (c : Fin 15) (i : Fin 96) (u : Fin 4) (j : Fin 96) (v : Fin 4) :
    shapeCast S8x15x96x4x96x4 (shapeCast S8x15x384x384 Y shapeCasts_S8x3x5x384x384_S8x15x384x384) shapeCasts_S8x15x384x384_S8x15x96x4x96x4 (ix6 b c i u j v)
      = Y (ix5 b ⟨c.val / 5, by omega⟩ ⟨c.val % 5, by omega⟩ ⟨i.val * 4 + u.val, by omega⟩ ⟨j.val * 4 + v.val, by omega⟩) := by
  pointwise

/-- The windows' axes in the patches' order. -/
theorem x_transpose (Y : Vec Ideal S8x15x96x4x96x4 .f32) (b : Fin 8) (c : Fin 15) (i : Fin 96) (u : Fin 4) (j : Fin 96) (v : Fin 4) :
    transpose S8x96x96x15x4x4 [0, 2, 4, 1, 3, 5] Y transposes_S8x15x96x4x96x4_S8x96x96x15x4x4_0_2_4_1_3_5 (ix6 b i j c u v) = Y (ix6 b c i u j v) := by
  pointwise

/-- A patch's places. -/
theorem x_patch (Y : Vec Ideal S8x96x96x15x4x4 .f32) (b : Fin 8) (p : Fin 9216) (q : Fin 240) :
    shapeCast S8x9216x240 Y shapeCasts_S8x96x96x15x4x4_S8x9216x240 (ix3 b p q)
      = Y (ix6 b ⟨p.val / 96, by omega⟩ ⟨p.val % 96, by omega⟩ ⟨q.val / 16, by omega⟩ ⟨q.val / 4 % 4, by omega⟩ ⟨q.val % 4, by omega⟩) := by
  pointwise

/-- One expert's weights as a matrix, as the second call finds them. -/
def wmat (Y : Vec Ideal S3x5x15x4x4 .f32) (e : Fin 3) (h : S3x240x5.Slices ![e.val, 0, 0] S1x240x5) : Vec Ideal S240x5 .f32 :=
  shapeCast S240x5 (extractStridedSlice S1x240x5 ![e.val, 0, 0] (transpose S3x240x5 [0, 2, 1] (shapeCast S3x5x240 Y shapeCasts_S3x5x15x4x4_S3x5x240)
    transposes_S3x5x240_S3x240x5_0_2_1) h) shapeCasts_S1x240x5_S240x5

/-- The matrix at an index. -/
theorem wmat_apply (Y : Vec Ideal S3x5x15x4x4 .f32) (e : Fin 3) (h) (q : Fin 240) (o : Fin 5) :
    wmat Y e h (ix2 q o) = Y (ix5 e o ⟨q.val / 16, by omega⟩ ⟨q.val / 4 % 4, by omega⟩ ⟨q.val % 4, by omega⟩) := by
  unfold wmat
  pointwise

/-- The first expert's matrix as the second call finds it. -/
theorem W3_v9 : W3 m ρ c (Proc.devRef .tc main_v9) = wmat (W2 m ρ c (Proc.devRef .tc main_arg4)) 0 slices_S3x240x5_S1x240x5_0_0_0 := by
  unfold W3
  simp only [hostOps1, List.flatten_cons, List.flatten_nil, List.append_nil, List.cons_append, List.nil_append]
  after_reads_simp
  rfl

/-- The second expert's matrix as the second call finds it. -/
theorem W3_v11 : W3 m ρ c (Proc.devRef .tc main_v11) = wmat (W2 m ρ c (Proc.devRef .tc main_arg4)) 1 slices_S3x240x5_S1x240x5_1_0_0 := by
  unfold W3
  simp only [hostOps1, List.flatten_cons, List.flatten_nil, List.append_nil, List.cons_append, List.nil_append]
  after_reads_simp
  rfl

/-- The third expert's matrix as the second call finds it. -/
theorem W3_v13 : W3 m ρ c (Proc.devRef .tc main_v13) = wmat (W2 m ρ c (Proc.devRef .tc main_arg4)) 2 slices_S3x240x5_S1x240x5_2_0_0 := by
  unfold W3
  simp only [hostOps1, List.flatten_cons, List.flatten_nil, List.append_nil, List.cons_append, List.nil_append]
  after_reads_simp
  rfl

/-- The heads' array at the end, from the second call's. -/
theorem W5_v16 : W5 m ρ c (Proc.devRef .tc main_v16) = transpose S8x5x96x96 [0, 3, 1, 2] (shapeCast S8x96x96x5
      (W4 m ρ c (Proc.devRef .tc main_v14) : Vec Ideal S8x9216x5 .f32) shapeCasts_S8x9216x5_S8x96x96x5) transposes_S8x96x96x5_S8x5x96x96_0_3_1_2 := by
  unfold W5
  simp only [hostOps2, List.flatten_cons, List.flatten_nil, List.append_nil, List.cons_append, List.nil_append]
  after_reads_simp
  rfl

/-- The loss at the end, from the first call's. -/
theorem W5_v17 : W5 m ρ c (Proc.devRef .tc main_v17) = shapeCast S_ (W4 m ρ c (Proc.devRef .tc main_v2_1) : Vec Ideal S1x1 .f32) shapeCasts_S1x1_S_ := by
  unfold W5
  simp only [hostOps2, List.flatten_cons, List.flatten_nil, List.append_nil, List.cons_append, List.nil_append]
  after_reads_simp
  rfl

/-- The heads' array at an index. -/
theorem heads_move (Y : Vec Ideal S8x9216x5 .f32) (b : Fin 8) (o : Fin 5) (i j : Fin 96) :
    transpose S8x5x96x96 [0, 3, 1, 2] (shapeCast S8x96x96x5 Y shapeCasts_S8x9216x5_S8x96x96x5) transposes_S8x96x96x5_S8x5x96x96_0_3_1_2 (ix4 b o i j)
      = Y (ix3 b ⟨i.val * 96 + j.val, by omega⟩ o) := by
  pointwise

/-- The loss as a number. -/
theorem loss_move (Y : Vec Ideal S1x1 .f32) : shapeCast S_ Y shapeCasts_S1x1_S_ ix0 = Y (ix2 0 0) := by
  pointwise

/-- The router's offsets at an index. -/
theorem row_move (Y : Vec Ideal S3 .f32) (e : Fin 3) : shapeCast S1x3 Y shapeCasts_S3_S1x3 (ix2 0 e) = Y (ix1 e) := by
  pointwise

end Cert.TailIdeal.Tail
-- ==== Proof.TailPay.lean ====
/- What the routing and the experts store, at an index. -/
module

public import proofs.«01_k».proof.Proof.Gen.TailIdeal.Skeleton
public import proofs.«01_k».proof.Proof.TailSpec

@[expose] public section

set_option maxRecDepth 16384

noncomputable section

namespace Cert.TailIdeal.Tail

open Cert.TailIdeal Cert.TailIdeal.Gen Idealize.ShloMosaic Idealize.ShloMosaic.TcCoe Idealize.SL.Sem

/-- Two comparisons joined, as a number. -/
theorem both (p q : Prop) [Decidable p] [Decidable q] :
    FloatOps.sitofp (F := Ideal) .f32 (BitVec.setWidth 32 (IntOp.andi (BitVec.ofBool (decide p)) (BitVec.ofBool (decide q))))
      = (if p ∧ q then 1 else 0 : EReal) := by
  have h1 : FloatOps.sitofp (F := Ideal) FTy.f32 1#32 = (1 : EReal) := by
    show (((((1#32 : BitVec 32).toInt : ℤ)) : ℝ) : EReal) = 1
    norm_num
  have h0 : FloatOps.sitofp (F := Ideal) FTy.f32 0#32 = (0 : EReal) := by
    show (((((0#32 : BitVec 32).toInt : ℤ)) : ℝ) : EReal) = 0
    norm_num
  by_cases hp : p <;> by_cases hq : q <;> simp only [hp, hq, decide_true, decide_false, and_self, and_false, false_and, if_true, if_false] <;>
    first | exact h1 | exact h0

/-- The logits. -/
theorem pay3_apply (v0 : Vec Ideal S8x64x1 .f32) (v2 : Vec Ideal S3x64 .f32) (v4 : Vec Ideal S1x3 .f32) (b : Fin 8) (e : Fin 3) :
    k0_pay3 v0 v2 v4 (ix2 b e) = ∑ k : Fin 64, v0 (ix3 b k 0) * v2 (ix2 e k) + v4 (ix2 0 e) := by
  pointwise [k0_pay3]

/-- The gates. -/
theorem pay4_apply (v0 : Vec Ideal S8x64x1 .f32) (v2 : Vec Ideal S3x64 .f32) (v4 : Vec Ideal S1x3 .f32) (b : Fin 8) (e : Fin 3) :
    k0_pay4 v0 v2 v4 (ix2 b e) = Spec.hot (fun e => k0_pay3 v0 v2 v4 (ix2 b e)) e := by
  unfold k0_pay4
  generalize k0_pay3 v0 v2 v4 = L
  pointwise
  match e with
  | 0 => exact (both (L (ix2 b 1) ≤ L (ix2 b 0)) (L (ix2 b 2) ≤ L (ix2 b 0))).trans (Spec.hot_zero fun e => L (ix2 b e)).symm
  | 1 => exact (both (L (ix2 b 0) < L (ix2 b 1)) (L (ix2 b 2) ≤ L (ix2 b 1))).trans (Spec.hot_one fun e => L (ix2 b e)).symm
  | 2 => exact (both (L (ix2 b 0) < L (ix2 b 2)) (L (ix2 b 1) < L (ix2 b 2))).trans (Spec.hot_two fun e => L (ix2 b e)).symm

/-- The products of the balance loss. -/
theorem pay5_apply (v0 : Vec Ideal S8x64x1 .f32) (v2 : Vec Ideal S3x64 .f32) (v4 : Vec Ideal S1x3 .f32) (e : Fin 3) :
    k0_pay5 v0 v2 v4 (ix2 0 e) = ((∑ b : Fin 8, Spec.hot (fun e => k0_pay3 v0 v2 v4 (ix2 b e)) e) * ((1 / 8 : ℝ) : EReal))
      * ((∑ b : Fin 8, Spec.soft (fun e => k0_pay3 v0 v2 v4 (ix2 b e)) e) * ((1 / 8 : ℝ) : EReal)) := by
  simp only [← pay4_apply]
  unfold k0_pay5
  generalize k0_pay3 v0 v2 v4 = L
  generalize k0_pay4 v0 v2 v4 = H
  pointwise
  rw [Spec.word_eighth, Spec.word_bot]
  rfl

/-- The loss. -/
theorem pay1_apply (v : FVec Ideal S1x3 .f32) :
    k0_pay1 v (ix2 0 0) = (∑ e : Fin 3, v (ix2 0 e)) * Ideal.ofBits .f32 0x3CF5C28F#32 := by
  pointwise [k0_pay1]

/-- The gates stored. -/
theorem pay2_apply (v : FVec Ideal S8x3 .f32) (b : Fin 8) (e : Fin 3) :
    k0_pay2 v (ix3 b 0 e) = v (ix2 b e) := by
  pointwise [k0_pay2]

/-- The heads, at a pixel. -/
theorem epay_apply (v0 : Vec Ideal S1x1x3 .f32) (v5 v9 v14 : Vec Ideal S240x5 .f32) (v19 : Vec Ideal S3x5 .f32) (v21 : Vec Ideal S1x9216x240 .f32) (p : Fin 9216) (o : Fin 5) :
    k1_pay1 v0 v5 v9 v14 v19 v21 (ix3 0 p o)
      = ∑ x : Fin 240, v21 (ix3 0 p x) * (v0 (ix3 0 0 0) * v5 (ix2 x o) + v0 (ix3 0 0 1) * v9 (ix2 x o) + v0 (ix3 0 0 2) * v14 (ix2 x o))
        + ∑ x : Fin 3, v0 (ix3 0 0 x) * v19 (ix2 x o) := by
  pointwise [k1_pay1]

/-- Under the gates of a pick, the heads are the picked expert's. -/
theorem epay_pick (l : Fin 3 → EReal) (v0 : Vec Ideal S1x1x3 .f32) (h0 : ∀ e, v0 (ix3 0 0 e) = Spec.hot l e) (w : Fin 3 → Vec Ideal S240x5 .f32)
    (v19 : Vec Ideal S3x5 .f32) (v21 : Vec Ideal S1x9216x240 .f32) (p : Fin 9216) (o : Fin 5) :
    k1_pay1 v0 (w 0) (w 1) (w 2) v19 v21 (ix3 0 p o)
      = ∑ x : Fin 240, v21 (ix3 0 p x) * w (Spec.pick l) (ix2 x o) + v19 (ix2 (Spec.pick l) o) := by
  rw [epay_apply]
  simp only [h0]
  refine congrArg₂ (fun a b : EReal => a + b) (Finset.sum_congr rfl fun x _ => congrArg (fun z : EReal => v21 (ix3 0 p x) * z) ?_) (Spec.sum_hot l _)
  rw [← Spec.sum_hot l fun e => w e (ix2 x o), Fin.sum_univ_three]

end Cert.TailIdeal.Tail
-- ==== Proof.TailArr.lean ====
/- What the two calls leave in their arrays, and the two results with the host code after them. -/
module

public import proofs.«01_k».proof.Proof.TailEntry
public import proofs.«01_k».proof.Proof.TailPay

@[expose] public section

set_option maxRecDepth 16384

noncomputable section

namespace Cert.TailIdeal.Tail

open Cert.TailIdeal Cert.TailIdeal.Gen Idealize.ShloMosaic Idealize.ShloMosaic.TcCoe Idealize.SL.Sem

variable (m : (ℓ : Loc nD τ sig) → Buf (Elt Ideal) ℓ) (ρ : Dev nD → PrngReg) (c : Dev nD)

/-- The logits of the program's arguments. -/
abbrev L0 (b : Fin 8) : Fin 3 → EReal := Spec.logit (F0 m c) (G0 m c) (D0 m c) b

/-- The block indices of the routing's windows. -/
theorem idxs0 : ∀ t : Fin cfg0.N, win0_0.index t = ![0, 0, 0] ∧ win0_1.index t = ![0, 0] ∧ win0_2.index t = ![0, 0]
    ∧ win0_3.index t = ![0, 0, 0] ∧ win0_4.index t = ![0, 0] :=
  (by decide +kernel : ∀ t : Fin grid0.N, win0_0.index t = ![0, 0, 0] ∧ win0_1.index t = ![0, 0] ∧ win0_2.index t = ![0, 0]
    ∧ win0_3.index t = ![0, 0, 0] ∧ win0_4.index t = ![0, 0])

/-- The block indices of the experts' windows. -/
theorem idxs1 : ∀ t : Fin cfg1.N, win1_0.index t = ![t.val, 0, 0] ∧ win1_1.index t = ![t.val, 0, 0] ∧ win1_2.index t = ![0, 0]
    ∧ win1_3.index t = ![0, 0] ∧ win1_4.index t = ![0, 0] ∧ win1_5.index t = ![0, 0] ∧ win1_6.index t = ![t.val, 0, 0] :=
  (by decide +kernel : ∀ t : Fin grid1.N, win1_0.index t = ![t.val, 0, 0] ∧ win1_1.index t = ![t.val, 0, 0] ∧ win1_2.index t = ![0, 0]
    ∧ win1_3.index t = ![0, 0] ∧ win1_4.index t = ![0, 0] ∧ win1_5.index t = ![0, 0] ∧ win1_6.index t = ![t.val, 0, 0])

/-- The features' block is the features. -/
theorem r0_feat (t : Fin cfg0.N) (b : Fin 8) (k : Fin 64) : iblk0 (V1 m ρ) c 0 t (ix3 b k 0) = F0 m c (ix3 b k 0) := by
  have h : iblk0 (V1 m ρ) c 0 t (ix3 b k 0) = V1 m ρ c main_arg1 (ix3 b k 0) := by
    blk_ext [iblk0, idxs0 t]
  rw [h]
  exact congrFun (W1_args m ρ c main_arg1 (by decide)) _

/-- The weights' block is the weights. -/
theorem r0_w (t : Fin cfg0.N) (e : Fin 3) (k : Fin 64) : iblk0 (V1 m ρ) c 1 t (ix2 e k) = G0 m c (ix2 e k) := by
  have h : iblk0 (V1 m ρ) c 1 t (ix2 e k) = V1 m ρ c main_arg2 (ix2 e k) := by
    blk_ext [iblk0, idxs0 t]
  rw [h]
  exact congrFun (W1_args m ρ c main_arg2 (by decide)) _

/-- The offsets' block is the offsets. -/
theorem r0_d (t : Fin cfg0.N) (e : Fin 3) : iblk0 (V1 m ρ) c 2 t (ix2 0 e) = D0 m c (ix1 e) := by
  have h : iblk0 (V1 m ρ) c 2 t (ix2 0 e) = V1 m ρ c main_v1 (ix2 0 e) := by
    blk_ext [iblk0, idxs0 t]
  rw [h]
  exact (congrFun (W1_v1 m ρ c) (ix2 0 e)).trans (row_move (D0 m c) e)

/-- The block's logits are the program's. -/
theorem r0_logit (t : Fin cfg0.N) (b : Fin 8) (e : Fin 3) :
    k0_pay3 (iblk0 (V1 m ρ) c 0 t) (iblk0 (V1 m ρ) c 1 t) (iblk0 (V1 m ρ) c 2 t) (ix2 b e) = L0 m c b e := by
  rw [pay3_apply]
  unfold L0 Spec.logit
  exact congrArg₂ (fun a b : EReal => a + b) (Finset.sum_congr rfl fun k _ => congrArg₂ (fun a b : EReal => a * b) (r0_feat m ρ c t b k) (r0_w m ρ c t e k))
    (r0_d m ρ c t e)

/-- What the routing stores of the gates. -/
theorem out3_apply (x0 : Vec Ideal S8x64x1 .f32) (x1 : Vec Ideal S3x64 .f32) (x2 : Vec Ideal S1x3 .f32) (b : Fin 8) (e : Fin 3) :
    out0_3 x0 x1 x2 (ix3 b 0 e) = Spec.hot (fun e => k0_pay3 x0 x1 x2 (ix2 b e)) e := by
  unfold out0_3
  rw [View.canon_cons_unit_lit _ _ _ (by decide), View.ld_unit_lit _ x0 (by decide), View.ld_unit_lit _ x1 (by decide), View.ld_unit_lit _ x2 (by decide)]
  exact (pay2_apply _ b e).trans (pay4_apply x0 x1 x2 b e)

/-- What the routing stores of the loss. -/
theorem out4_apply (x0 : Vec Ideal S8x64x1 .f32) (x1 : Vec Ideal S3x64 .f32) (x2 : Vec Ideal S1x3 .f32) :
    out0_4 x0 x1 x2 (ix2 0 0) = Spec.balance (fun b e => k0_pay3 x0 x1 x2 (ix2 b e)) * Ideal.ofBits .f32 0x3CF5C28F#32 := by
  unfold out0_4
  rw [View.canon_cons_unit_lit _ _ _ (by decide), View.ld_unit_lit _ x0 (by decide), View.ld_unit_lit _ x1 (by decide), View.ld_unit_lit _ x2 (by decide)]
  refine (pay1_apply _).trans (congrArg (fun z : EReal => z * _) ?_)
  exact Finset.sum_congr rfl fun e _ => pay5_apply x0 x1 x2 e

/-- What the experts store. -/
theorem out6_apply (x0 : Vec Ideal S1x9216x240 .f32) (x1 : Vec Ideal S1x1x3 .f32) (x2 x3 x4 : Vec Ideal S240x5 .f32) (x5 : Vec Ideal S3x5 .f32) :
    out1_6 x0 x1 x2 x3 x4 x5 = k1_pay1 x1 x2 x3 x4 x5 x0 := by
  unfold out1_6
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide), View.ld_unit_lit _ x5 (by decide)]

/-- The gates' array after the routing. -/
theorem arr3 : (dat0 (V1 m ρ) c).arrAt 3 cfg0.N = fun z : S8x1x3.Idx => Spec.hot (L0 m c (z 0)) (z 2) := by
  refine (dat0 (V1 m ρ) c).arrAt_eq_of_covers 3 _ (by decide +kernel) fun t hf y => ?_
  blk_simp
  rw [after0_3]
  revert y
  intro (y : S8x1x3.Idx)
  idx_vars y
  have e0 : ((View.whole main_v2_0).slice (win0_3.rect t)).emb (ix3 y0 y1 y2) 0 = (y0 : Fin 8) := Fin.ext (by
    blk_simp [idxs0 t])
  have e2 : ((View.whole main_v2_0).slice (win0_3.rect t)).emb (ix3 y0 y1 y2) 2 = (y2 : Fin 3) := Fin.ext (by
    blk_simp [idxs0 t])
  have hy : y1 = 0 := Subsingleton.elim _ _
  subst hy
  refine (out3_apply _ _ _ y0 y2).trans ?_
  refine Eq.trans ?_ (congrArg₂ (fun (b : Fin 8) (e : Fin 3) => Spec.hot (L0 m c b) e) e0 e2).symm
  exact congrArg (fun l => Spec.hot l y2) (funext fun e => r0_logit m ρ c t y0 e)

/-- The loss's array after the routing. -/
theorem arr4 : (dat0 (V1 m ρ) c).arrAt 4 cfg0.N = fun _ : S1x1.Idx => Spec.balance (L0 m c) * Ideal.ofBits .f32 0x3CF5C28F#32 := by
  refine (dat0 (V1 m ρ) c).arrAt_eq_of_covers 4 _ (by decide +kernel) fun t hf y => ?_
  blk_simp
  rw [after0_4]
  revert y
  intro (y : S1x1.Idx)
  idx_vars y
  have hy0 : y0 = 0 := Subsingleton.elim _ _
  have hy1 : y1 = 0 := Subsingleton.elim _ _
  subst hy0 hy1
  refine (out4_apply _ _ _).trans (congrArg (fun z : EReal => z * _) (congrArg Spec.balance ?_))
  exact funext fun b => funext fun e => r0_logit m ρ c t b e

/-- A grid point of the experts is a clip. -/
theorem pt_lt (t : Fin cfg1.N) : t.val < 8 := N_1 ▸ t.isLt

/-- The patches' block at a point: the clip's windows. -/
theorem r1_x (t : Fin cfg1.N) (p : Fin 9216) (q : Fin 240) :
    iblk1 (V3 m ρ) c 0 t (ix3 0 p q) = X0 m c (ix5 ⟨t.val, pt_lt t⟩ ⟨q.val / 16 / 5, by omega⟩ ⟨q.val / 16 % 5, by omega⟩
      ⟨p.val / 96 * 4 + q.val / 4 % 4, by omega⟩ ⟨p.val % 96 * 4 + q.val % 4, by omega⟩) := by
  have h : iblk1 (V3 m ρ) c 0 t (ix3 0 p q) = V3 m ρ c main_v5 (ix3 ⟨t.val, pt_lt t⟩ p q) := by
    blk_ext [iblk1, idxs1 t]
  have h0 : W2 m ρ c (Proc.devRef .tc main_v0) = shapeCast S8x15x384x384 (X0 m c) shapeCasts_S8x3x5x384x384_S8x15x384x384 :=
    (W2_of_ne m ρ c main_v0 (by decide)).trans (W1_v0 m ρ c)
  rw [h]
  refine (congrFun (W3_v5 m ρ c) _).trans ?_
  rw [h0, x_patch, x_transpose, x_cast]

/-- The gates' block at a point: the clip's gates. -/
theorem r1_g (t : Fin cfg1.N) (e : Fin 3) : iblk1 (V3 m ρ) c 1 t (ix3 0 0 e) = Spec.hot (L0 m c ⟨t.val, pt_lt t⟩) e := by
  have h : iblk1 (V3 m ρ) c 1 t (ix3 0 0 e) = V3 m ρ c main_v2_0 (ix3 ⟨t.val, pt_lt t⟩ 0 e) := by
    blk_ext [iblk1, idxs1 t]
  rw [h]
  exact congrFun ((W3_of m ρ c main_v2_0 (by decide)).trans ((W2_arr m ρ c 3).trans (arr3 m ρ c))) _

/-- The first expert's block. -/
theorem r1_w0 (t : Fin cfg1.N) : iblk1 (V3 m ρ) c 2 t = wmat (W0' m c) 0 slices_S3x240x5_S1x240x5_0_0_0 := by
  funext y
  revert y
  intro (y : S240x5.Idx)
  idx_vars y
  have h : iblk1 (V3 m ρ) c 2 t (ix2 y0 y1) = V3 m ρ c main_v9 (ix2 y0 y1) := by
    blk_ext [iblk1, idxs1 t]
  rw [h]
  refine (congrFun (W3_v9 m ρ c) _).trans ?_
  rw [W2_args m ρ c main_arg4 (by decide)]

/-- The second expert's block. -/
theorem r1_w1 (t : Fin cfg1.N) : iblk1 (V3 m ρ) c 3 t = wmat (W0' m c) 1 slices_S3x240x5_S1x240x5_1_0_0 := by
  funext y
  revert y
  intro (y : S240x5.Idx)
  idx_vars y
  have h : iblk1 (V3 m ρ) c 3 t (ix2 y0 y1) = V3 m ρ c main_v11 (ix2 y0 y1) := by
    blk_ext [iblk1, idxs1 t]
  rw [h]
  refine (congrFun (W3_v11 m ρ c) _).trans ?_
  rw [W2_args m ρ c main_arg4 (by decide)]

/-- The third expert's block. -/
theorem r1_w2 (t : Fin cfg1.N) : iblk1 (V3 m ρ) c 4 t = wmat (W0' m c) 2 slices_S3x240x5_S1x240x5_2_0_0 := by
  funext y
  revert y
  intro (y : S240x5.Idx)
  idx_vars y
  have h : iblk1 (V3 m ρ) c 4 t (ix2 y0 y1) = V3 m ρ c main_v13 (ix2 y0 y1) := by
    blk_ext [iblk1, idxs1 t]
  rw [h]
  refine (congrFun (W3_v13 m ρ c) _).trans ?_
  rw [W2_args m ρ c main_arg4 (by decide)]

/-- The offsets' block. -/
theorem r1_b (t : Fin cfg1.N) (e : Fin 3) (o : Fin 5) : iblk1 (V3 m ρ) c 5 t (ix2 e o) = B0 m c (ix2 e o) := by
  have h : iblk1 (V3 m ρ) c 5 t (ix2 e o) = V3 m ρ c main_arg5 (ix2 e o) := by
    blk_ext [iblk1, idxs1 t]
  rw [h]
  exact congrFun (W3_args m ρ c main_arg5 (by decide)) _

/-- The three matrices, by expert. -/
def mats (Y : Vec Ideal S3x5x15x4x4 .f32) : Fin 3 → Vec Ideal S240x5 .f32 :=
  ![wmat Y 0 slices_S3x240x5_S1x240x5_0_0_0, wmat Y 1 slices_S3x240x5_S1x240x5_1_0_0, wmat Y 2 slices_S3x240x5_S1x240x5_2_0_0]

/-- A matrix at an index. -/
theorem mats_apply (Y : Vec Ideal S3x5x15x4x4 .f32) (e : Fin 3) (q : Fin 240) (o : Fin 5) :
    mats Y e (ix2 q o) = Y (ix5 e o ⟨q.val / 16, by omega⟩ ⟨q.val / 4 % 4, by omega⟩ ⟨q.val % 4, by omega⟩) := by
  match e with
  | 0 => exact wmat_apply Y 0 slices_S3x240x5_S1x240x5_0_0_0 q o
  | 1 => exact wmat_apply Y 1 slices_S3x240x5_S1x240x5_1_0_0 q o
  | 2 => exact wmat_apply Y 2 slices_S3x240x5_S1x240x5_2_0_0 q o

/-- The heads of a clip at a pixel counted along the rows. -/
def headAt (b : Fin 8) (p : Fin 9216) (o : Fin 5) : EReal :=
  Spec.heads (L0 m c) (X0 m c) (W0' m c) (B0 m c) b o ⟨p.val / 96, by omega⟩ ⟨p.val % 96, by omega⟩

/-- What a grid point of the experts stores. -/
theorem point_apply (t : Fin cfg1.N) (p : Fin 9216) (o : Fin 5) :
    out1_6 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (ix3 0 p o)
      = headAt m c ⟨t.val, pt_lt t⟩ p o := by
  rw [out6_apply, r1_w0, r1_w1, r1_w2]
  refine (epay_pick (L0 m c ⟨t.val, pt_lt t⟩) _ (r1_g m ρ c t) (mats (W0' m c)) _ _ p o).trans ?_
  unfold headAt Spec.heads Spec.expert
  refine congrArg₂ (fun a b : EReal => a + b) ?_ (r1_b m ρ c t _ o)
  rw [← Spec.sum_patch]
  exact Finset.sum_congr rfl fun q _ => congrArg₂ (fun a b : EReal => a * b) (r1_x m ρ c t p q) (mats_apply _ _ q o)

/-- The heads' array after the experts. -/
theorem arr6 : (dat1 (V3 m ρ) c).arrAt 6 cfg1.N = fun z : S8x9216x5.Idx => headAt m c (z 0) (z 1) (z 2) := by
  refine (dat1 (V3 m ρ) c).arrAt_eq_of_covers 6 _ (by decide +kernel) fun t hf y => ?_
  blk_simp
  rw [after1_6]
  revert y
  intro (y : S1x9216x5.Idx)
  idx_vars y
  have e0 : ((View.whole main_v14).slice (win1_6.rect t)).emb (ix3 y0 y1 y2) 0 = (⟨t.val, pt_lt t⟩ : Fin 8) := Fin.ext (by
    blk_simp [idxs1 t])
  have e1 : ((View.whole main_v14).slice (win1_6.rect t)).emb (ix3 y0 y1 y2) 1 = (y1 : Fin 9216) := Fin.ext (by
    blk_simp [idxs1 t])
  have e2 : ((View.whole main_v14).slice (win1_6.rect t)).emb (ix3 y0 y1 y2) 2 = (y2 : Fin 5) := Fin.ext (by
    blk_simp [idxs1 t])
  have hy : y0 = 0 := Subsingleton.elim _ _
  subst hy
  refine (point_apply m ρ c t y1 y2).trans ?_
  exact (congrArg₂ (fun (b : Fin 8) (p : Fin 9216) => headAt m c b p y2) e0 e1).symm.trans (congrArg (fun z : Fin 5 => headAt m c _ _ z) e2.symm)

/-- The heads the program returns. -/
theorem final16 : W5 m ρ c (Proc.devRef .tc main_v16)
    = fun z : S8x5x96x96.Idx => Spec.heads (L0 m c) (X0 m c) (W0' m c) (B0 m c) (z 0) (z 1) (z 2) (z 3) := by
  have h : W4 m ρ c (Proc.devRef .tc main_v14) = fun z : S8x9216x5.Idx => headAt m c (z 0) (z 1) (z 2) :=
    (W4_arr m ρ c 6).trans (arr6 m ρ c)
  rw [W5_v16, h]
  funext z
  revert z
  intro (z : S8x5x96x96.Idx)
  idx_vars z
  refine (heads_move _ z0 z1 z2 z3).trans ?_
  have h2 : (z2.val * 96 + z3.val) / 96 = z2.val := by omega
  have h3 : (z2.val * 96 + z3.val) % 96 = z3.val := by omega
  exact congrArg₂ (Spec.heads (L0 m c) (X0 m c) (W0' m c) (B0 m c) z0 z1) (Fin.ext h2) (Fin.ext h3)

/-- The loss the program returns. -/
theorem final17 : W5 m ρ c (Proc.devRef .tc main_v17) = fun _ : S_.Idx => Spec.balance (L0 m c) * Ideal.ofBits .f32 0x3CF5C28F#32 := by
  have h : W4 m ρ c (Proc.devRef .tc main_v2_1) = fun _ : S1x1.Idx => Spec.balance (L0 m c) * Ideal.ofBits .f32 0x3CF5C28F#32 :=
    (W4_of m ρ c main_v2_1 (by decide)).trans ((W3_of m ρ c main_v2_1 (by decide)).trans ((W2_arr m ρ c 4).trans (arr4 m ρ c)))
  rw [W5_v17, h]
  rfl

end Cert.TailIdeal.Tail
-- ==== Proof.TailRef.lean ====
/- The reference of routing and experts, at an index. -/
module

public import proofs.«01_k».proof.Proof.Gen.TailReferenceIdeal.Run
public import proofs.«01_k».proof.Proof.TailSpec
public import Idealize.ShloMosaic.Lib.Routing.OpsSet

@[expose] public section

set_option maxRecDepth 16384

noncomputable section

namespace Cert.TailReferenceIdeal.Tail

open Cert.TailReferenceIdeal Cert.TailReferenceIdeal.Gen Idealize.ShloMosaic Idealize.ShloMosaic.TcCoe Idealize.SL.Sem

/-- The reference's logits. -/
def logits (f : FVec Ideal S8x64x1 .f32) (w : FVec Ideal S3x64 .f32) (d : FVec Ideal S3 .f32) : FVec Ideal S8x3 .f32 :=
  addf (Host.dotGeneral dot_S8x64_S64x3_S8x3_1_0_0_1_n_n none (shapeCast S8x64 f shapeCasts_S8x64x1_S8x64) (transpose S64x3 [1, 0] w transposes_S3x64_S64x3_1_0))
    (broadcastInDim S8x3 ![0, 1] bcast_S1x3_S8x3_0_1 (broadcastInDim S1x3 ![1] bcast_S3_S1x3_1 d))

/-- The reference's choice, as words. -/
def chosen (L : FVec Ideal S8x3 .f32) : IVec S8x1 32 := (Host.topK S8x1 1 (FloatOps.cmpfTotal .gt) L sliceFits_S8x3_S8x1).2

/-- The places at which the reference sets its gates to one. -/
def places (L : FVec Ideal S8x3 .f32) : IVec S8x1x2 32 :=
  concatenate S8x1x2 2 [⟨S8x1x1, (broadcastInDim S8x1x1 ![0, 1] bcast_S8x1_S8x1x1_0_1 (select (cmpi .slt (broadcastInDim S8x1 ![0] bcast_S8_S8x1_0 (iotaInDim S8 32 0)) (broadcastInDim S8x1 ![] bcast_S_S8x1 (constantI S_ 32 0#32))) (addi (broadcastInDim S8x1 ![0] bcast_S8_S8x1_0 (iotaInDim S8 32 0)) (broadcastInDim S8x1 ![] bcast_S_S8x1 (constantI S_ 32 8#32))) (broadcastInDim S8x1 ![0] bcast_S8_S8x1_0 (iotaInDim S8 32 0))))⟩,
    ⟨S8x1x1, (broadcastInDim S8x1x1 ![0, 1] bcast_S8x1_S8x1x1_0_1 (select (cmpi .slt (chosen L) (broadcastInDim S8x1 ![] bcast_S_S8x1 (constantI S_ 32 0#32))) (addi (chosen L) (broadcastInDim S8x1 ![] bcast_S_S8x1 (constantI S_ 32 3#32))) (chosen L)))⟩] concatenates_S8x1x1_S8x1x1_S8x1x2_d2

/-- The reference's gates. -/
def gates (L : FVec Ideal S8x3 .f32) : FVec Ideal S8x3 .f32 :=
  Host.scatter scatter_S8x3_S8x1x2_S8x1_n_01_01_2 (fun _ b => b) (broadcastInDim S8x3 ![] bcast_S_S8x3 (constant S_ .f32 0x00000000#32)) (places L)
    (broadcastInDim S8x1 ![] bcast_S_S8x1 (constant S_ .f32 0x3F800000#32))

/-- The reference's logits less their greatest. -/
def shifted (L : FVec Ideal S8x3 .f32) : FVec Ideal S8x3 .f32 :=
  subf L (broadcastInDim S8x3 ![0, 1] bcast_S8x1_S8x3_0_1 (broadcastInDim S8x1 ![0] bcast_S8_S8x1_0 (maximumf (broadcastInDim S8 ![] bcast_S_S8 (constant S_ .f32 0xFF800000#32))
    (Host.reduce FloatOps.maximumf L (constant S_ .f32 0xFF800000#32) reducesTo_S8x3_S8_d1 h_S_))))

/-- The reference's softmax. -/
def softmax (L : FVec Ideal S8x3 .f32) : FVec Ideal S8x3 .f32 :=
  Host.divf (Host.exp (shifted L)) (broadcastInDim S8x3 ![0, 1] bcast_S8x1_S8x3_0_1 (broadcastInDim S8x1 ![0] bcast_S8_S8x1_0
    (Host.reduceAdd (Host.exp (shifted L)) (constant S_ .f32 0x00000000#32) reducesTo_S8x3_S8_d1 h_S_)))

/-- The reference's mean over the clips. -/
def mean (G : FVec Ideal S8x3 .f32) : FVec Ideal S3 .f32 :=
  Host.divf (Host.reduceAdd G (constant S_ .f32 0x00000000#32) reducesTo_S8x3_S3_d0 h_S_) (broadcastInDim S3 ![] bcast_S_S3 (constant S_ .f32 0x41000000#32))

/-- The reference's loss. -/
def loss (L : FVec Ideal S8x3 .f32) : FVec Ideal S_ .f32 :=
  mulf (constant S_ .f32 0x3C23D70A#32) (mulf (Host.reduceAdd (mulf (mean (gates L)) (mean (softmax L))) (constant S_ .f32 0x00000000#32) reducesTo_S3_S_d0 h_S_)
    (constant S_ .f32 0x40400000#32))

/-- The reference's maps of all experts. -/
def maps (x : FVec Ideal S8x3x5x384x384 .f32) (w : FVec Ideal S3x5x15x4x4 .f32) : FVec Ideal S8x96x96x3x5 .f32 :=
  Host.dotGeneral dot_S8x15x96x4x96x4_S3x5x15x4x4_S8x96x96x3x5_135_234_024_01_n_n none
    (shapeCast S8x15x96x4x96x4 (shapeCast S8x15x384x384 x shapeCasts_S8x3x5x384x384_S8x15x384x384) shapeCasts_S8x15x384x384_S8x15x96x4x96x4) w

/-- The reference's heads. -/
def heads (G : FVec Ideal S8x3 .f32) (M : FVec Ideal S8x96x96x3x5 .f32) (d : FVec Ideal S3x5 .f32) : FVec Ideal S8x5x96x96 .f32 :=
  Host.reduceAdd (mulf (broadcastInDim S3x8x5x96x96 ![0, 1, 2, 3, 4] bcast_S3x8x1x1x1_S3x8x5x96x96_0_1_2_3_4 (broadcastInDim S3x8x1x1x1 ![0, 1] bcast_S3x8_S3x8x1x1x1_0_1 (transpose S3x8 [1, 0] G transposes_S8x3_S3x8_1_0)))
    (addf (transpose S3x8x5x96x96 [3, 0, 4, 1, 2] M transposes_S8x96x96x3x5_S3x8x5x96x96_3_0_4_1_2)
      (broadcastInDim S3x8x5x96x96 ![0, 1, 2, 3, 4] bcast_S3x1x5x1x1_S3x8x5x96x96_0_1_2_3_4 (broadcastInDim S3x1x5x1x1 ![0, 2] bcast_S3x5_S3x1x5x1x1_0_2 d))))
    (constant S_ .f32 0x00000000#32) reducesTo_S3x8x5x96x96_S8x5x96x96_d0 h_S_

/-- The logits at an index. -/
theorem logits_apply (f : FVec Ideal S8x64x1 .f32) (w : FVec Ideal S3x64 .f32) (d : FVec Ideal S3 .f32) (b : Fin 8) (e : Fin 3) :
    logits f w d (ix2 b e) = Spec.logit f w d b e := by
  unfold logits Spec.logit
  pointwise

/-- The experts of every clip in the order of their logits, the greatest first. -/
def order (L : FVec Ideal S8x3 .f32) : IVec S8x3 32 :=
  (Host.sort2 S8x3 1 (fun l r => FloatOps.cmpfTotal (F := Ideal) (φ := .f32) .gt l.1 r.1) L (iotaInDim S8x3 32 1)).2

/-- The choice is the first of that order. -/
theorem chosen_order (L : FVec Ideal S8x3 .f32) : chosen L = extractStridedSlice S8x1 (fun _ => 0) (order L) sliceFits_S8x3_S8x1 := rfl

/-- What a stable sort of three puts first. -/
theorem first_of_three (before : Fin 3 → Fin 3 → Bool) :
    sortedFrom before 0 = if before 2 1 then (if before 2 0 then 2 else 0) else if before 1 0 then 1 else 0 := by
  have h : (sortPositions 3 before).head? = some (if before 2 1 then (if before 2 0 then 2 else 0) else if before 1 0 then 1 else 0) := by
    show (insertBefore before 0 (insertBefore before 1 [2])).head? = _
    cases h1 : before 2 1 <;> cases h2 : before 2 0 <;> cases h3 : before 1 0 <;> simp [insertBefore, h1, h2, h3]
  unfold sortedFrom
  have h' := List.head?_eq_getElem? (l := sortPositions 3 before) ▸ h
  exact (List.getElem?_eq_some_iff.1 h').2

/-- The chosen expert is the pick. -/
theorem chosen_apply (L : FVec Ideal S8x3 .f32) (b : Fin 8) : chosen L (ix2 b 0) = BitVec.ofNat 32 (Spec.pick fun e => L (ix2 b e)).val := by
  have h : chosen L (ix2 b 0) = BitVec.ofNat 32 (sortedFrom (fun k k' : Fin 3 =>
      FloatOps.cmpfTotal (F := Ideal) (φ := .f32) .gt (L (ix2 b k)) (L (ix2 b k')) == 1#1) 0).val := by
    have hu (k : Fin 3) : (ix2 b 0 : S8x3.Idx).along 1 k = ix2 b k := by
      funext a
      fin_cases a <;> rfl
    have ho : order L (ix2 b 0) = iotaInDim S8x3 32 1 ((ix2 b 0 : S8x3.Idx).along 1 (sortedFrom (fun k k' : Fin 3 =>
        FloatOps.cmpfTotal (F := Ideal) (φ := .f32) .gt (L ((ix2 b 0 : S8x3.Idx).along 1 k)) (L ((ix2 b 0 : S8x3.Idx).along 1 k')) == 1#1) (0 : Fin 3))) := rfl
    simp only [hu] at ho
    rw [chosen_order]
    refine Eq.trans ?_ ho
    generalize order L = T
    pointwise
  have hc (k k' : Fin 3) : (FloatOps.cmpfTotal (F := Ideal) (φ := .f32) .gt (L (ix2 b k)) (L (ix2 b k')) == 1#1) = decide (L (ix2 b k') < L (ix2 b k)) := by
    show (BitVec.ofBool (decide (L (ix2 b k') < L (ix2 b k))) == 1#1) = _
    cases decide (L (ix2 b k') < L (ix2 b k)) <;> rfl
  rw [h, first_of_three]
  simp only [hc, decide_eq_true_eq]
  unfold Spec.pick
  dsimp only
  have hp (p q r : EReal) : (if q < r then if p < r then (2 : Fin 3) else 0 else if p < q then 1 else 0)
      = if q ≤ p ∧ r ≤ p then 0 else if p < q ∧ r ≤ q then 1 else 2 := by
    rcases lt_or_ge q r with h1 | h1
    · rw [if_pos h1, if_neg (c := p < q ∧ r ≤ q) fun h => absurd h.2 (not_le.2 h1)]
      rcases lt_or_ge p r with h2 | h2
      · rw [if_pos h2, if_neg fun h => absurd h.2 (not_le.2 h2)]
      · rw [if_neg (not_lt.2 h2), if_pos ⟨h1.le.trans h2, h2⟩]
    · rw [if_neg (not_lt.2 h1)]
      rcases lt_or_ge p q with h2 | h2
      · rw [if_pos h2, if_neg fun h => absurd h.1 (not_le.2 h2), if_pos ⟨h2, h1⟩]
      · rw [if_neg (not_lt.2 h2), if_pos ⟨h2, h1.trans h2⟩]
  exact congrArg (fun k : Fin 3 => BitVec.ofNat 32 k.val) (hp (L (ix2 b 0)) (L (ix2 b 1)) (L (ix2 b 2)))

/-- The places, first words: the clips. -/
theorem places_zero (L : FVec Ideal S8x3 .f32) (b : Fin 8) : places L (ix3 b 0 0) = BitVec.ofNat 32 b.val := by
  unfold places
  generalize chosen L = C
  pointwise
  revert b
  decide

/-- The places, second words: the picks. -/
theorem places_one (L : FVec Ideal S8x3 .f32) (b : Fin 8) : places L (ix3 b 0 1) = BitVec.ofNat 32 (Spec.pick fun e => L (ix2 b e)).val := by
  unfold places
  have h := chosen_apply L b
  generalize Spec.pick (fun e => L (ix2 b e)) = k at *
  generalize chosen L = C at *
  pointwise
  rw [h]
  clear h
  revert k
  decide

/-- The reference's gates are the picks. -/
theorem gates_apply (L : FVec Ideal S8x3 .f32) (b : Fin 8) (e : Fin 3) : gates L (ix2 b e) = Spec.hot (fun e => L (ix2 b e)) e := by
  have hl (a : Fin 8) : scatter_S8x3_S8x1x2_S8x1_n_01_01_2.resultIdx? (ix2 a 0) (places L) = some (ix2 b e)
      ↔ a = b ∧ e = Spec.pick fun e => L (ix2 b e) := by
    refine (Routing.scatter_lands2 (R := 8) (C := 3) (A := 8) (B := 1) _ rfl rfl rfl (places L) a 0 b e).trans ?_
    change (places L (ix3 a 0 0)).toInt = (b.val : ℤ) ∧ (places L (ix3 a 0 1)).toInt = (e.val : ℤ) ↔ _
    rw [places_zero, places_one]
    have h8 : ∀ a b : Fin 8, (BitVec.ofNat 32 a.val).toInt = (b.val : ℤ) ↔ a = b := by decide
    have h3 : ∀ a b : Fin 3, (BitVec.ofNat 32 a.val).toInt = (b.val : ℤ) ↔ b = a := by decide
    rw [h8, h3]
    constructor
    · rintro ⟨rfl, h⟩
      exact ⟨rfl, h⟩
    · rintro ⟨rfl, h⟩
      exact ⟨rfl, h⟩
  have h2 (z : S8x1.Idx) : z = ix2 (z 0) 0 := by
    idx_vars z
    exact congrArg (ix2 z0) (Subsingleton.elim z1 0)
  unfold gates Spec.hot
  by_cases he : e = Spec.pick fun e => L (ix2 b e)
  · rw [if_pos he]
    refine Routing.scatter_set_hit _ _ _ _ (ix2 b e) 1 (fun z _ => ?_) (ix2 b 0) ((hl b).2 ⟨rfl, he⟩)
    pointwise
  · rw [if_neg he]
    refine (Routing.scatter_set_miss _ _ _ _ (ix2 b e) (fun z hz => ?_)).trans ?_
    · rw [h2 z] at hz
      exact he ((hl _).1 hz).2
    · pointwise

/-- The reference's softmax at an index. -/
theorem softmax_apply (L : FVec Ideal S8x3 .f32) (b : Fin 8) (e : Fin 3) : softmax L (ix2 b e) = Spec.soft (fun e => L (ix2 b e)) e := by
  have h (e : Fin 3) : shifted L (ix2 b e) = L (ix2 b e) - Spec.top fun e => L (ix2 b e) := by
    unfold shifted Spec.top
    pointwise
    rw [Spec.word_bot, max_eq_right bot_le]
  unfold softmax Spec.soft
  simp only [← h]
  generalize shifted L = S
  pointwise

/-- The reference's mean at an expert. -/
theorem mean_apply (G : FVec Ideal S8x3 .f32) (e : Fin 3) : mean G (ix1 e) = (∑ b : Fin 8, G (ix2 b e)) * ((1 / 8 : ℝ) : EReal) := by
  unfold mean
  pointwise
  rw [Spec.word_eight, Ideal.div_coe (by norm_num)]

/-- The reference's loss. -/
theorem loss_apply (L : FVec Ideal S8x3 .f32) :
    loss L ix0 = Spec.balance (fun b e => L (ix2 b e)) * Ideal.ofBits .f32 0x3CF5C28F#32 := by
  unfold loss Spec.balance
  simp only [← gates_apply, ← softmax_apply, ← mean_apply]
  generalize mean (gates L) = A
  generalize mean (softmax L) = B
  pointwise
  rw [Spec.word_coef, mul_comm, mul_assoc]

/-- The reference's heads, from gates and maps, at an index. -/
theorem heads_apply (G : FVec Ideal S8x3 .f32) (M : FVec Ideal S8x96x96x3x5 .f32) (d : FVec Ideal S3x5 .f32) (b : Fin 8) (o : Fin 5) (i j : Fin 96) :
    heads G M d (ix4 b o i j) = ∑ e : Fin 3, G (ix2 b e) * (M (ix5 b i j e o) + d (ix2 e o)) := by
  unfold heads
  pointwise

/-- The contraction of the patches with the experts' weights. -/
abbrev dims : DotDims S8x15x96x4x96x4 S3x5x15x4x4 S8x96x96x3x5 := dot_S8x15x96x4x96x4_S3x5x15x4x4_S8x96x96x3x5_135_234_024_01_n_n

/-- The contracted axes are the channel and the two places in the window. -/
theorem contr_size : ∀ p : Fin 3, (![15, 4, 4] : Fin 3 → ℕ) p = dims.contr.size p := by
  intro p
  fin_cases p <;> rfl

/-- The contraction's indices, one for each triple of coordinates. -/
def contrE : (⟨3, ![15, 4, 4]⟩ : Shape).Idx ≃ dims.contr.Idx where
  toFun k := fun p => (k p).cast (contr_size p)
  invFun k := fun p => (k p).cast (contr_size p).symm
  left_inv _ := rfl
  right_inv _ := rfl

/-- The patch's element that a summand reads. -/
theorem lhs_eq (b : Fin 8) (e : Fin 3) (o : Fin 5) (i j : Fin 96) (c : Fin 15) (u v : Fin 4) :
    dims.lhsIdx (ix5 b i j e o) (contrE (ix3 c u v)) = ix6 b c i u j v := by
  funext a
  fin_cases a <;> rfl

/-- The weight that a summand reads. -/
theorem rhs_eq (b : Fin 8) (e : Fin 3) (o : Fin 5) (i j : Fin 96) (c : Fin 15) (u v : Fin 4) :
    dims.rhsIdx (ix5 b i j e o) (contrE (ix3 c u v)) = ix5 e o c u v := by
  funext a
  fin_cases a <;> rfl

/-- The contraction at an index, as a sum over channel and window. -/
theorem contract (P : S8x15x96x4x96x4.Idx → EReal) (w : S3x5x15x4x4.Idx → EReal) (b : Fin 8) (e : Fin 3) (o : Fin 5) (i j : Fin 96) :
    Ideal.matmul dims P w (fun _ => 0) (ix5 b i j e o) = ∑ c : Fin 15, ∑ u : Fin 4, ∑ v : Fin 4, P (ix6 b c i u j v) * w (ix5 e o c u v) := by
  unfold Ideal.matmul
  rw [zero_add, ← Equiv.sum_comp contrE, sum_idx3]
  refine Finset.sum_congr rfl fun c _ => ?_
  refine Finset.sum_congr rfl fun u _ => ?_
  refine Finset.sum_congr rfl fun v _ => ?_
  rw [lhs_eq, rhs_eq]

/-- The clips cut into windows, at an index. -/
theorem cut_apply (x : FVec Ideal S8x3x5x384x384 .f32) (b : Fin 8) (c : Fin 15) (i : Fin 96) (u : Fin 4) (j : Fin 96) (v : Fin 4) :
    shapeCast S8x15x96x4x96x4 (shapeCast S8x15x384x384 x shapeCasts_S8x3x5x384x384_S8x15x384x384) shapeCasts_S8x15x384x384_S8x15x96x4x96x4 (ix6 b c i u j v)
      = x (ix5 b ⟨c.val / 5, by omega⟩ ⟨c.val % 5, by omega⟩ ⟨i.val * 4 + u.val, by omega⟩ ⟨j.val * 4 + v.val, by omega⟩) := by
  pointwise

/-- The reference's maps at an index. -/
theorem maps_apply (x : FVec Ideal S8x3x5x384x384 .f32) (w : FVec Ideal S3x5x15x4x4 .f32) (b : Fin 8) (e : Fin 3) (o : Fin 5) (i j : Fin 96) :
    maps x w (ix5 b i j e o) = Spec.expert x w b e o i j := by
  unfold maps Spec.expert
  generalize hP : shapeCast S8x15x96x4x96x4 (shapeCast S8x15x384x384 x shapeCasts_S8x3x5x384x384_S8x15x384x384) shapeCasts_S8x15x384x384_S8x15x96x4x96x4 = P
  pointwise
  subst hP
  rw [contract]
  refine Finset.sum_congr rfl fun c _ => ?_
  refine Finset.sum_congr rfl fun u _ => ?_
  refine Finset.sum_congr rfl fun v _ => ?_
  rw [cut_apply]

/-- The reference's heads are those of the expert picked. -/
theorem heads_eq (f : FVec Ideal S8x64x1 .f32) (g : FVec Ideal S3x64 .f32) (h : FVec Ideal S3 .f32)
    (x : FVec Ideal S8x3x5x384x384 .f32) (w : FVec Ideal S3x5x15x4x4 .f32) (d : FVec Ideal S3x5 .f32) (b : Fin 8) (o : Fin 5) (i j : Fin 96) :
    heads (gates (logits f g h)) (maps x w) d (ix4 b o i j) = Spec.heads (fun b => Spec.logit f g h b) x w d b o i j := by
  have hl (b : Fin 8) : (fun e => logits f g h (ix2 b e)) = Spec.logit f g h b := funext fun e => logits_apply f g h b e
  rw [heads_apply]
  simp only [gates_apply, maps_apply, hl]
  exact Spec.sum_hot _ fun e => Spec.expert x w b e o i j + d (ix2 e o)

/-- The reference's loss is the balance loss with its coefficient. -/
theorem loss_eq (f : FVec Ideal S8x64x1 .f32) (g : FVec Ideal S3x64 .f32) (h : FVec Ideal S3 .f32) :
    loss (logits f g h) = fun _ : S_.Idx => Spec.balance (fun b => Spec.logit f g h b) * Ideal.ofBits .f32 0x3CF5C28F#32 := by
  have hl (b : Fin 8) : (fun e => logits f g h (ix2 b e)) = Spec.logit f g h b := funext fun e => logits_apply f g h b e
  funext z
  rw [Subsingleton.elim z ix0, loss_apply]
  exact congrArg (fun l => Spec.balance l * Ideal.ofBits .f32 0x3CF5C28F#32) (funext hl)

variable (m : (ℓ : Loc nD τ sig) → Buf (Elt Ideal) ℓ) (c : Dev nD)

/-- The loss the reference leaves is the one above, of its arguments. -/
theorem res1_eq : Value.res_main_v56 m c = loss (logits (m ((c.tc : Thread nD τ).loc main_arg1)) (m ((c.tc : Thread nD τ).loc main_arg2)) (m ((c.tc : Thread nD τ).loc main_arg3))) := by
  unfold Value.res_main_v56
  rfl

end Cert.TailReferenceIdeal.Tail
-- ==== Proof.TailClaim.lean ====
/- Routing and experts: the calls' heads and loss are the reference's. -/
module

public import proofs.«01_k».proof.Defs
public import proofs.«01_k».proof.Proof.TailRun
public import proofs.«01_k».proof.Proof.TailArr
public import proofs.«01_k».proof.Proof.TailRef
public import proofs.«01_k».proof.Proof.Gen.TailIdeal.Frame

@[expose] public section

set_option maxRecDepth 16384

noncomputable section

namespace Cert.TailClaim

open Idealize.ShloMosaic Idealize.ShloMosaic.TcCoe Idealize.SL.Sem

/-- The reference's heads as an array. -/
theorem heads_eq (x : FVec Ideal TailIdeal.S8x3x5x384x384 .f32) (f : FVec Ideal TailIdeal.S8x64x1 .f32) (g : FVec Ideal TailIdeal.S3x64 .f32)
    (h : FVec Ideal TailIdeal.S3 .f32) (w : FVec Ideal TailIdeal.S3x5x15x4x4 .f32) (d : FVec Ideal TailIdeal.S3x5 .f32) :
    TailReferenceIdeal.Tail.heads (TailReferenceIdeal.Tail.gates (TailReferenceIdeal.Tail.logits f g h)) (TailReferenceIdeal.Tail.maps x w) d
      = fun z : TailIdeal.S8x5x96x96.Idx => Spec.heads (fun b => Spec.logit f g h b) x w d (z 0) (z 1) (z 2) (z 3) := by
  funext z
  revert z
  intro (z : TailReferenceIdeal.S8x5x96x96.Idx)
  idx_vars z
  exact TailReferenceIdeal.Tail.heads_eq f g h x w d z0 z1 z2 z3

/-- The calls with their host code and the reference leave the same heads and the same loss. -/
theorem value : algebraic_TailIdeal_TailReferenceIdeal := fun m ρ m' ρ' _ hag =>
  ⟨fun c => fun z : TailIdeal.S8x5x96x96.Idx => Spec.heads (TailIdeal.Tail.L0 m c) (TailIdeal.Tail.X0 m c) (TailIdeal.Tail.W0' m c)
      (TailIdeal.Tail.B0 m c) (z 0) (z 1) (z 2) (z 3),
    fun c => fun _ : TailIdeal.S_.Idx => Spec.balance (TailIdeal.Tail.L0 m c) * Ideal.ofBits .f32 0x3CF5C28F#32,
    (θ_run TailIdeal.defs _ _).mono (fun _ h c => ⟨(h c).1.trans (TailIdeal.Tail.final16 m ρ c),
        (h c).2.1.trans (TailIdeal.Tail.final17 m ρ c), (h c).2.2⟩) (TailIdeal.Tail.run m ρ),
    (θ_run TailReferenceIdeal.defs _ _).mono (fun _ h c => by
      obtain ⟨h0, h1, hk⟩ := h c
      obtain ⟨a0, a1, a2, a3, a4, a5⟩ := hag c
      refine ⟨h0.trans ?_, h1.trans ?_, hk⟩
      · refine Eq.trans ?_ (heads_eq (TailIdeal.Tail.X0 m c) (TailIdeal.Tail.F0 m c) (TailIdeal.Tail.G0 m c) (TailIdeal.Tail.D0 m c)
          (TailIdeal.Tail.W0' m c) (TailIdeal.Tail.B0 m c))
        rw [a0, a1, a2, a3, a4, a5]
        rfl
      · refine (TailReferenceIdeal.Tail.res1_eq m' c).trans ?_
        rw [a1, a2, a3]
        exact TailReferenceIdeal.Tail.loss_eq (TailIdeal.Tail.F0 m c) (TailIdeal.Tail.G0 m c) (TailIdeal.Tail.D0 m c))
      (TailReferenceIdeal.Value.run (F := Ideal) m' ρ')⟩

end Cert.TailClaim

end
-- ==== Proof.WholeRun.lean ====
/- The launch of the whole kernel with its two results: what the last host operations leave in them. -/
module

public import proofs.«01_k».proof.Proof.Gen.KernelIdeal.Frame
public import Idealize.ShloMosaic.Lib.Pointwise

@[expose] public section

set_option maxRecDepth 16384

noncomputable section

namespace Cert.KernelIdeal.Whole

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends, with the two results as the contents after the last host operations and the arguments as launched. -/
theorem run : θ_run defs (onTc (τ := τ) (main (F := Ideal))) ⟨m, fun _ => 0, ρ⟩ (fun r => ∀ c : Dev nD,
      r.2.mem ((c.tc : Thread nD τ).loc main_v26) = W11 m ρ c (Proc.devRef .tc main_v26) ∧
      r.2.mem ((c.tc : Thread nD τ).loc main_v27) = W11 m ρ c (Proc.devRef .tc main_v27) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => fun c =>
      ⟨h c _ (mem_uc main_v26 (by decide)),
      h c _ (mem_uc main_v27 (by decide)),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c)⟩)

end Cert.KernelIdeal.Whole
-- ==== Proof.KTail.lean ====
/- Routing and experts inside the whole kernel: what the last two calls leave, from the pooled features the second call leaves. -/
module

public import proofs.«01_k».proof.Proof.TailArr
public import proofs.«01_k».proof.Proof.Gen.KernelIdeal.Frame
public import Idealize.ShloMosaic.Lib.StableHlo.RunRead

@[expose] public section

set_option maxRecDepth 16384

noncomputable section

namespace Cert.KernelIdeal.Tail

open Cert Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The pooled features as the second call leaves them. -/
abbrev F0 : Vec Ideal S8x64x1 .f32 := W6 m ρ c (Proc.devRef .tc main_v10)

/-- The clips as the program finds them. -/
abbrev X0 : Vec Ideal S8x3x5x384x384 .f32 := m ((c : Thread nD τ).loc main_arg0)

/-- The router's weights as the program finds them. -/
abbrev G0 : Vec Ideal S3x64 .f32 := m ((c : Thread nD τ).loc main_arg4)

/-- The router's offsets as the program finds them. -/
abbrev D0 : Vec Ideal S3 .f32 := m ((c : Thread nD τ).loc main_arg5)

/-- The experts' weights as the program finds them. -/
abbrev W0' : Vec Ideal S3x5x15x4x4 .f32 := m ((c : Thread nD τ).loc main_arg6)

/-- The experts' offsets as the program finds them. -/
abbrev B0 : Vec Ideal S3x5 .f32 := m ((c : Thread nD τ).loc main_arg7)

/-- The clips with channels and frames merged, as the first call finds them. -/
theorem W7_v0 : W7 m ρ c (Proc.devRef .tc main_v0) = shapeCast S8x15x384x384 (X0 m c) shapeCasts_S8x3x5x384x384_S8x15x384x384 := by
  unfold W7
  simp only [hostOps2, List.flatten_cons, List.flatten_nil, List.append_nil, List.cons_append, List.nil_append]
  after_reads_simp
  rfl

/-- The router's offsets as a row, as the first call finds them. -/
theorem W7_v1 : W7 m ρ c (Proc.devRef .tc main_v11) = shapeCast S1x3 (D0 m c) shapeCasts_S3_S1x3 := by
  unfold W7
  simp only [hostOps2, List.flatten_cons, List.flatten_nil, List.append_nil, List.cons_append, List.nil_append]
  after_reads_simp
  rfl

/-- The patches as the second call finds them. -/
theorem W9_v5 : W9 m ρ c (Proc.devRef .tc main_v15) = shapeCast S8x9216x240 (transpose S8x96x96x15x4x4 [0, 2, 4, 1, 3, 5]
      (shapeCast S8x15x96x4x96x4 (W8 m ρ c (Proc.devRef .tc main_v0) : Vec Ideal S8x15x384x384 .f32) shapeCasts_S8x15x384x384_S8x15x96x4x96x4)
      transposes_S8x15x96x4x96x4_S8x96x96x15x4x4_0_2_4_1_3_5) shapeCasts_S8x96x96x15x4x4_S8x9216x240 := by
  unfold W9
  simp only [hostOps3, List.flatten_cons, List.flatten_nil, List.append_nil, List.cons_append, List.nil_append]
  after_reads_simp
  rfl

/-- The first expert's matrix as the second call finds it. -/
theorem W9_v9 : W9 m ρ c (Proc.devRef .tc main_v19) = TailIdeal.Tail.wmat (W8 m ρ c (Proc.devRef .tc main_arg6)) 0 slices_S3x240x5_S1x240x5_0_0_0 := by
  unfold W9
  simp only [hostOps3, List.flatten_cons, List.flatten_nil, List.append_nil, List.cons_append, List.nil_append]
  after_reads_simp
  rfl

/-- The second expert's matrix as the second call finds it. -/
theorem W9_v11 : W9 m ρ c (Proc.devRef .tc main_v21) = TailIdeal.Tail.wmat (W8 m ρ c (Proc.devRef .tc main_arg6)) 1 slices_S3x240x5_S1x240x5_1_0_0 := by
  unfold W9
  simp only [hostOps3, List.flatten_cons, List.flatten_nil, List.append_nil, List.cons_append, List.nil_append]
  after_reads_simp
  rfl

/-- The third expert's matrix as the second call finds it. -/
theorem W9_v13 : W9 m ρ c (Proc.devRef .tc main_v23) = TailIdeal.Tail.wmat (W8 m ρ c (Proc.devRef .tc main_arg6)) 2 slices_S3x240x5_S1x240x5_2_0_0 := by
  unfold W9
  simp only [hostOps3, List.flatten_cons, List.flatten_nil, List.append_nil, List.cons_append, List.nil_append]
  after_reads_simp
  rfl

/-- The heads' array at the end, from the second call's. -/
theorem W11_v16 : W11 m ρ c (Proc.devRef .tc main_v26) = transpose S8x5x96x96 [0, 3, 1, 2] (shapeCast S8x96x96x5
      (W10 m ρ c (Proc.devRef .tc main_v24) : Vec Ideal S8x9216x5 .f32) shapeCasts_S8x9216x5_S8x96x96x5) transposes_S8x96x96x5_S8x5x96x96_0_3_1_2 := by
  unfold W11
  simp only [hostOps4, List.flatten_cons, List.flatten_nil, List.append_nil, List.cons_append, List.nil_append]
  after_reads_simp
  rfl

/-- The loss at the end, from the first call's. -/
theorem W11_v17 : W11 m ρ c (Proc.devRef .tc main_v27) = shapeCast S_ (W10 m ρ c (Proc.devRef .tc main_v12_1) : Vec Ideal S1x1 .f32) shapeCasts_S1x1_S_ := by
  unfold W11
  simp only [hostOps4, List.flatten_cons, List.flatten_nil, List.append_nil, List.cons_append, List.nil_append]
  after_reads_simp
  rfl

/-- The logits of the program's arguments. -/
abbrev L0 (b : Fin 8) : Fin 3 → EReal := Spec.logit (F0 m ρ c) (G0 m c) (D0 m c) b

/-- The block indices of the routing's windows. -/
theorem idxs0 : ∀ t : Fin cfg2.N, win2_0.index t = ![0, 0, 0] ∧ win2_1.index t = ![0, 0] ∧ win2_2.index t = ![0, 0]
    ∧ win2_3.index t = ![0, 0, 0] ∧ win2_4.index t = ![0, 0] :=
  (by decide +kernel : ∀ t : Fin grid2.N, win2_0.index t = ![0, 0, 0] ∧ win2_1.index t = ![0, 0] ∧ win2_2.index t = ![0, 0]
    ∧ win2_3.index t = ![0, 0, 0] ∧ win2_4.index t = ![0, 0])

/-- The block indices of the experts' windows. -/
theorem idxs1 : ∀ t : Fin cfg3.N, win3_0.index t = ![t.val, 0, 0] ∧ win3_1.index t = ![t.val, 0, 0] ∧ win3_2.index t = ![0, 0]
    ∧ win3_3.index t = ![0, 0] ∧ win3_4.index t = ![0, 0] ∧ win3_5.index t = ![0, 0] ∧ win3_6.index t = ![t.val, 0, 0] :=
  (by decide +kernel : ∀ t : Fin grid3.N, win3_0.index t = ![t.val, 0, 0] ∧ win3_1.index t = ![t.val, 0, 0] ∧ win3_2.index t = ![0, 0]
    ∧ win3_3.index t = ![0, 0] ∧ win3_4.index t = ![0, 0] ∧ win3_5.index t = ![0, 0] ∧ win3_6.index t = ![t.val, 0, 0])

/-- The features' block is the features. -/
theorem r0_feat (t : Fin cfg2.N) (b : Fin 8) (k : Fin 64) : iblk2 (V7 m ρ) c 0 t (ix3 b k 0) = F0 m ρ c (ix3 b k 0) := by
  have h : iblk2 (V7 m ρ) c 0 t (ix3 b k 0) = V7 m ρ c main_v10 (ix3 b k 0) := by
    blk_ext [iblk2, idxs0 t]
  rw [h]
  exact congrFun (W7_of m ρ c main_v10 (by decide)) _

/-- The weights' block is the weights. -/
theorem r0_w (t : Fin cfg2.N) (e : Fin 3) (k : Fin 64) : iblk2 (V7 m ρ) c 1 t (ix2 e k) = G0 m c (ix2 e k) := by
  have h : iblk2 (V7 m ρ) c 1 t (ix2 e k) = V7 m ρ c main_arg4 (ix2 e k) := by
    blk_ext [iblk2, idxs0 t]
  rw [h]
  exact congrFun (W7_args m ρ c main_arg4 (by decide)) _

/-- The offsets' block is the offsets. -/
theorem r0_d (t : Fin cfg2.N) (e : Fin 3) : iblk2 (V7 m ρ) c 2 t (ix2 0 e) = D0 m c (ix1 e) := by
  have h : iblk2 (V7 m ρ) c 2 t (ix2 0 e) = V7 m ρ c main_v11 (ix2 0 e) := by
    blk_ext [iblk2, idxs0 t]
  rw [h]
  exact (congrFun (W7_v1 m ρ c) (ix2 0 e)).trans (TailIdeal.Tail.row_move (D0 m c) e)

/-- The block's logits are the program's. -/
theorem r0_logit (t : Fin cfg2.N) (b : Fin 8) (e : Fin 3) :
    TailIdeal.Gen.k0_pay3 (iblk2 (V7 m ρ) c 0 t) (iblk2 (V7 m ρ) c 1 t) (iblk2 (V7 m ρ) c 2 t) (ix2 b e) = L0 m ρ c b e := by
  rw [TailIdeal.Tail.pay3_apply]
  unfold L0 Spec.logit
  exact congrArg₂ (fun a b : EReal => a + b) (Finset.sum_congr rfl fun k _ => congrArg₂ (fun a b : EReal => a * b) (r0_feat m ρ c t b k) (r0_w m ρ c t e k))
    (r0_d m ρ c t e)

/-- The logits' payload is that of the routing alone. -/
theorem gpay3_eq (x0 : Vec Ideal S8x64x1 .f32) (x1 : Vec Ideal S3x64 .f32) (x2 : Vec Ideal S1x3 .f32) :
    k2_pay3 x0 x1 x2 = TailIdeal.Gen.k0_pay3 x0 x1 x2 := by
  funext y
  idx_vars y
  rw [TailIdeal.Tail.pay3_apply]
  pointwise [k2_pay3]

/-- The gates' payload is that of the routing alone. -/
theorem gpay4_eq (x0 : Vec Ideal S8x64x1 .f32) (x1 : Vec Ideal S3x64 .f32) (x2 : Vec Ideal S1x3 .f32) :
    k2_pay4 x0 x1 x2 = TailIdeal.Gen.k0_pay4 x0 x1 x2 := by
  unfold k2_pay4 TailIdeal.Gen.k0_pay4
  rw [gpay3_eq]

/-- The terms of the loss are those of the routing alone. -/
theorem gpay5_eq (x0 : Vec Ideal S8x64x1 .f32) (x1 : Vec Ideal S3x64 .f32) (x2 : Vec Ideal S1x3 .f32) :
    k2_pay5 x0 x1 x2 = TailIdeal.Gen.k0_pay5 x0 x1 x2 := by
  unfold k2_pay5 TailIdeal.Gen.k0_pay5
  rw [gpay3_eq, gpay4_eq]

/-- The experts' payload is that of the experts alone. -/
theorem epay_eq : @k3_pay1 Ideal _ = @TailIdeal.Gen.k1_pay1 Ideal _ := rfl

/-- The stored loss is that of the routing alone. -/
theorem gpay1_eq (v : FVec Ideal S1x3 .f32) : k2_pay1 v = TailIdeal.Gen.k0_pay1 v := rfl

/-- The stored gates are those of the routing alone. -/
theorem gpay2_eq (v : FVec Ideal S8x3 .f32) : k2_pay2 v = TailIdeal.Gen.k0_pay2 v := rfl
/-- What the routing stores of the gates. -/
theorem out3_apply (x0 : Vec Ideal S8x64x1 .f32) (x1 : Vec Ideal S3x64 .f32) (x2 : Vec Ideal S1x3 .f32) (b : Fin 8) (e : Fin 3) :
    out2_3 x0 x1 x2 (ix3 b 0 e) = Spec.hot (fun e => TailIdeal.Gen.k0_pay3 x0 x1 x2 (ix2 b e)) e := by
  unfold out2_3
  rw [View.canon_cons_unit_lit _ _ _ (by decide), View.ld_unit_lit _ x0 (by decide), View.ld_unit_lit _ x1 (by decide), View.ld_unit_lit _ x2 (by decide)]
  rw [gpay2_eq, gpay4_eq]
  exact (TailIdeal.Tail.pay2_apply _ b e).trans (TailIdeal.Tail.pay4_apply x0 x1 x2 b e)

/-- What the routing stores of the loss. -/
theorem out4_apply (x0 : Vec Ideal S8x64x1 .f32) (x1 : Vec Ideal S3x64 .f32) (x2 : Vec Ideal S1x3 .f32) :
    out2_4 x0 x1 x2 (ix2 0 0) = Spec.balance (fun b e => TailIdeal.Gen.k0_pay3 x0 x1 x2 (ix2 b e)) * Ideal.ofBits .f32 0x3CF5C28F#32 := by
  unfold out2_4
  rw [View.canon_cons_unit_lit _ _ _ (by decide), View.ld_unit_lit _ x0 (by decide), View.ld_unit_lit _ x1 (by decide), View.ld_unit_lit _ x2 (by decide)]
  rw [gpay1_eq, gpay5_eq]
  refine (TailIdeal.Tail.pay1_apply _).trans (congrArg (fun z : EReal => z * _) ?_)
  exact Finset.sum_congr rfl fun e _ => TailIdeal.Tail.pay5_apply x0 x1 x2 e

/-- What the experts store. -/
theorem out6_apply (x0 : Vec Ideal S1x9216x240 .f32) (x1 : Vec Ideal S1x1x3 .f32) (x2 x3 x4 : Vec Ideal S240x5 .f32) (x5 : Vec Ideal S3x5 .f32) :
    out3_6 x0 x1 x2 x3 x4 x5 = TailIdeal.Gen.k1_pay1 x1 x2 x3 x4 x5 x0 := by
  unfold out3_6
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide), View.ld_unit_lit _ x5 (by decide)]
  rw [epay_eq]

/-- The gates' array after the routing. -/
theorem arr3 : (dat2 (V7 m ρ) c).arrAt 3 cfg2.N = fun z : S8x1x3.Idx => Spec.hot (L0 m ρ c (z 0)) (z 2) := by
  refine (dat2 (V7 m ρ) c).arrAt_eq_of_covers 3 _ (by decide +kernel) fun t hf y => ?_
  blk_simp
  rw [after2_3]
  revert y
  intro (y : S8x1x3.Idx)
  idx_vars y
  have e0 : ((View.whole main_v12_0).slice (win2_3.rect t)).emb (ix3 y0 y1 y2) 0 = (y0 : Fin 8) := Fin.ext (by
    blk_simp [idxs0 t])
  have e2 : ((View.whole main_v12_0).slice (win2_3.rect t)).emb (ix3 y0 y1 y2) 2 = (y2 : Fin 3) := Fin.ext (by
    blk_simp [idxs0 t])
  have hy : y1 = 0 := Subsingleton.elim _ _
  subst hy
  refine (out3_apply _ _ _ y0 y2).trans ?_
  refine Eq.trans ?_ (congrArg₂ (fun (b : Fin 8) (e : Fin 3) => Spec.hot (L0 m ρ c b) e) e0 e2).symm
  exact congrArg (fun l => Spec.hot l y2) (funext fun e => r0_logit m ρ c t y0 e)

/-- The loss's array after the routing. -/
theorem arr4 : (dat2 (V7 m ρ) c).arrAt 4 cfg2.N = fun _ : S1x1.Idx => Spec.balance (L0 m ρ c) * Ideal.ofBits .f32 0x3CF5C28F#32 := by
  refine (dat2 (V7 m ρ) c).arrAt_eq_of_covers 4 _ (by decide +kernel) fun t hf y => ?_
  blk_simp
  rw [after2_4]
  revert y
  intro (y : S1x1.Idx)
  idx_vars y
  have hy0 : y0 = 0 := Subsingleton.elim _ _
  have hy1 : y1 = 0 := Subsingleton.elim _ _
  subst hy0 hy1
  refine (out4_apply _ _ _).trans (congrArg (fun z : EReal => z * _) (congrArg Spec.balance ?_))
  exact funext fun b => funext fun e => r0_logit m ρ c t b e

/-- A grid point of the experts is a clip. -/
theorem pt_lt (t : Fin cfg3.N) : t.val < 8 := N_3 ▸ t.isLt

/-- The patches' block at a point: the clip's windows. -/
theorem r1_x (t : Fin cfg3.N) (p : Fin 9216) (q : Fin 240) :
    iblk3 (V9 m ρ) c 0 t (ix3 0 p q) = X0 m c (ix5 ⟨t.val, pt_lt t⟩ ⟨q.val / 16 / 5, by omega⟩ ⟨q.val / 16 % 5, by omega⟩
      ⟨p.val / 96 * 4 + q.val / 4 % 4, by omega⟩ ⟨p.val % 96 * 4 + q.val % 4, by omega⟩) := by
  have h : iblk3 (V9 m ρ) c 0 t (ix3 0 p q) = V9 m ρ c main_v15 (ix3 ⟨t.val, pt_lt t⟩ p q) := by
    blk_ext [iblk3, idxs1 t]
  have h0 : W8 m ρ c (Proc.devRef .tc main_v0) = shapeCast S8x15x384x384 (X0 m c) shapeCasts_S8x3x5x384x384_S8x15x384x384 :=
    (W8_of_ne m ρ c main_v0 (by decide)).trans (W7_v0 m ρ c)
  rw [h]
  refine (congrFun (W9_v5 m ρ c) _).trans ?_
  rw [h0, TailIdeal.Tail.x_patch, TailIdeal.Tail.x_transpose, TailIdeal.Tail.x_cast]

/-- The gates' block at a point: the clip's gates. -/
theorem r1_g (t : Fin cfg3.N) (e : Fin 3) : iblk3 (V9 m ρ) c 1 t (ix3 0 0 e) = Spec.hot (L0 m ρ c ⟨t.val, pt_lt t⟩) e := by
  have h : iblk3 (V9 m ρ) c 1 t (ix3 0 0 e) = V9 m ρ c main_v12_0 (ix3 ⟨t.val, pt_lt t⟩ 0 e) := by
    blk_ext [iblk3, idxs1 t]
  rw [h]
  exact congrFun ((W9_of m ρ c main_v12_0 (by decide)).trans ((W8_arr m ρ c 3).trans (arr3 m ρ c))) _

/-- The first expert's block. -/
theorem r1_w0 (t : Fin cfg3.N) : iblk3 (V9 m ρ) c 2 t = TailIdeal.Tail.wmat (W0' m c) 0 slices_S3x240x5_S1x240x5_0_0_0 := by
  funext y
  revert y
  intro (y : S240x5.Idx)
  idx_vars y
  have h : iblk3 (V9 m ρ) c 2 t (ix2 y0 y1) = V9 m ρ c main_v19 (ix2 y0 y1) := by
    blk_ext [iblk3, idxs1 t]
  rw [h]
  refine (congrFun (W9_v9 m ρ c) _).trans ?_
  rw [W8_args m ρ c main_arg6 (by decide)]

/-- The second expert's block. -/
theorem r1_w1 (t : Fin cfg3.N) : iblk3 (V9 m ρ) c 3 t = TailIdeal.Tail.wmat (W0' m c) 1 slices_S3x240x5_S1x240x5_1_0_0 := by
  funext y
  revert y
  intro (y : S240x5.Idx)
  idx_vars y
  have h : iblk3 (V9 m ρ) c 3 t (ix2 y0 y1) = V9 m ρ c main_v21 (ix2 y0 y1) := by
    blk_ext [iblk3, idxs1 t]
  rw [h]
  refine (congrFun (W9_v11 m ρ c) _).trans ?_
  rw [W8_args m ρ c main_arg6 (by decide)]

/-- The third expert's block. -/
theorem r1_w2 (t : Fin cfg3.N) : iblk3 (V9 m ρ) c 4 t = TailIdeal.Tail.wmat (W0' m c) 2 slices_S3x240x5_S1x240x5_2_0_0 := by
  funext y
  revert y
  intro (y : S240x5.Idx)
  idx_vars y
  have h : iblk3 (V9 m ρ) c 4 t (ix2 y0 y1) = V9 m ρ c main_v23 (ix2 y0 y1) := by
    blk_ext [iblk3, idxs1 t]
  rw [h]
  refine (congrFun (W9_v13 m ρ c) _).trans ?_
  rw [W8_args m ρ c main_arg6 (by decide)]

/-- The offsets' block. -/
theorem r1_b (t : Fin cfg3.N) (e : Fin 3) (o : Fin 5) : iblk3 (V9 m ρ) c 5 t (ix2 e o) = B0 m c (ix2 e o) := by
  have h : iblk3 (V9 m ρ) c 5 t (ix2 e o) = V9 m ρ c main_arg7 (ix2 e o) := by
    blk_ext [iblk3, idxs1 t]
  rw [h]
  exact congrFun (W9_args m ρ c main_arg7 (by decide)) _

/-- The heads of a clip at a pixel counted along the rows. -/
def headAt (b : Fin 8) (p : Fin 9216) (o : Fin 5) : EReal :=
  Spec.heads (L0 m ρ c) (X0 m c) (W0' m c) (B0 m c) b o ⟨p.val / 96, by omega⟩ ⟨p.val % 96, by omega⟩

/-- What a grid point of the experts stores. -/
theorem point_apply (t : Fin cfg3.N) (p : Fin 9216) (o : Fin 5) :
    out3_6 (iblk3 (V9 m ρ) c 0 t) (iblk3 (V9 m ρ) c 1 t) (iblk3 (V9 m ρ) c 2 t) (iblk3 (V9 m ρ) c 3 t) (iblk3 (V9 m ρ) c 4 t) (iblk3 (V9 m ρ) c 5 t) (ix3 0 p o)
      = headAt m ρ c ⟨t.val, pt_lt t⟩ p o := by
  rw [out6_apply, r1_w0, r1_w1, r1_w2]
  refine (TailIdeal.Tail.epay_pick (L0 m ρ c ⟨t.val, pt_lt t⟩) _ (r1_g m ρ c t) (TailIdeal.Tail.mats (W0' m c)) _ _ p o).trans ?_
  unfold headAt Spec.heads Spec.expert
  refine congrArg₂ (fun a b : EReal => a + b) ?_ (r1_b m ρ c t _ o)
  rw [← Spec.sum_patch]
  exact Finset.sum_congr rfl fun q _ => congrArg₂ (fun a b : EReal => a * b) (r1_x m ρ c t p q) (TailIdeal.Tail.mats_apply _ _ q o)

/-- The heads' array after the experts. -/
theorem arr6 : (dat3 (V9 m ρ) c).arrAt 6 cfg3.N = fun z : S8x9216x5.Idx => headAt m ρ c (z 0) (z 1) (z 2) := by
  refine (dat3 (V9 m ρ) c).arrAt_eq_of_covers 6 _ (by decide +kernel) fun t hf y => ?_
  blk_simp
  rw [after3_6]
  revert y
  intro (y : S1x9216x5.Idx)
  idx_vars y
  have e0 : ((View.whole main_v24).slice (win3_6.rect t)).emb (ix3 y0 y1 y2) 0 = (⟨t.val, pt_lt t⟩ : Fin 8) := Fin.ext (by
    blk_simp [idxs1 t])
  have e1 : ((View.whole main_v24).slice (win3_6.rect t)).emb (ix3 y0 y1 y2) 1 = (y1 : Fin 9216) := Fin.ext (by
    blk_simp [idxs1 t])
  have e2 : ((View.whole main_v24).slice (win3_6.rect t)).emb (ix3 y0 y1 y2) 2 = (y2 : Fin 5) := Fin.ext (by
    blk_simp [idxs1 t])
  have hy : y0 = 0 := Subsingleton.elim _ _
  subst hy
  refine (point_apply m ρ c t y1 y2).trans ?_
  exact (congrArg₂ (fun (b : Fin 8) (p : Fin 9216) => headAt m ρ c b p y2) e0 e1).symm.trans (congrArg (fun z : Fin 5 => headAt m ρ c _ _ z) e2.symm)

/-- The heads the program returns. -/
theorem final16 : W11 m ρ c (Proc.devRef .tc main_v26)
    = fun z : S8x5x96x96.Idx => Spec.heads (L0 m ρ c) (X0 m c) (W0' m c) (B0 m c) (z 0) (z 1) (z 2) (z 3) := by
  have h : W10 m ρ c (Proc.devRef .tc main_v24) = fun z : S8x9216x5.Idx => headAt m ρ c (z 0) (z 1) (z 2) :=
    (W10_arr m ρ c 6).trans (arr6 m ρ c)
  rw [W11_v16, h]
  funext z
  revert z
  intro (z : S8x5x96x96.Idx)
  idx_vars z
  refine (TailIdeal.Tail.heads_move _ z0 z1 z2 z3).trans ?_
  have h2 : (z2.val * 96 + z3.val) / 96 = z2.val := by omega
  have h3 : (z2.val * 96 + z3.val) % 96 = z3.val := by omega
  exact congrArg₂ (Spec.heads (L0 m ρ c) (X0 m c) (W0' m c) (B0 m c) z0 z1) (Fin.ext h2) (Fin.ext h3)

/-- The loss the program returns. -/
theorem final17 : W11 m ρ c (Proc.devRef .tc main_v27) = fun _ : S_.Idx => Spec.balance (L0 m ρ c) * Ideal.ofBits .f32 0x3CF5C28F#32 := by
  have h : W10 m ρ c (Proc.devRef .tc main_v12_1) = fun _ : S1x1.Idx => Spec.balance (L0 m ρ c) * Ideal.ofBits .f32 0x3CF5C28F#32 :=
    (W10_of m ρ c main_v12_1 (by decide)).trans ((W9_of m ρ c main_v12_1 (by decide)).trans ((W8_arr m ρ c 4).trans (arr4 m ρ c)))
  rw [W11_v17, h]
  rfl

end Cert.KernelIdeal.Tail
-- ==== Proof.KConv.lean ====
/- The gate's convolution inside the whole kernel: its body is that of the convolution alone, so are its trips, and what it stores follows. -/
module

public import proofs.«01_k».proof.Proof.GconvArr
public import proofs.«01_k».proof.Proof.Gen.KernelIdeal.Frame

@[expose] public section

set_option maxRecDepth 16384

noncomputable section

namespace Cert.KernelIdeal.Conv

open Cert Cert.KernelIdeal Cert.KernelIdeal.Gen Idealize.ShloMosaic Idealize.ShloMosaic.TcCoe Idealize.SL.Sem

/-- What a trip adds to the sums: the payload of the gate's convolution alone. -/
theorem tripR_eq (𝒱 : Variants) (c : Dev nD) (bd : Option 𝒱.V) (i : grid0.Coords) (arg1 : Memref sig .tc .vmem S1x2x2x15x25x8x196 .f32) (harg1 : arg1.IsWhole) (arg2 : Memref sig .tc .vmem S64x735 .f32) (harg2 : arg2.IsWhole) (arg3 : Memref sig .tc .vmem S1x64x24x8x192 .f32) (harg3 : arg3.IsWhole) (arg4 : Memref sig .tc .vmem S1x64x2 .f32) (harg4 : arg4.IsWhole) (v0 : Vec Ideal S64x735 .f32) (X : Vec Ideal S1x2x2x15x25x8x196 .f32) (k : Fin k0_t1_loop.trips) (acc : FVec Ideal S64x2 .f32) :
    tripR_k0_t1 𝒱 c bd i arg1 harg1 arg2 harg2 arg3 harg3 arg4 harg4 v0 (harg1.unread X) k acc = GconvIdeal.Gen.k0_pay5 acc (GconvIdeal.Conv.trip v0 X k) := by
  unfold tripR_k0_t1 trip_k0_t1
  dsimp only
  sl_unfold_run_names
  simp only [View.readAt_eq_ld, harg1.read_unread]
  unfold GconvIdeal.Conv.trip
  rw [← GconvIdeal.Conv.patches_eq]
  rfl

/-- What a trip stores: the payload of the gate's convolution alone. -/
theorem tripL_eq (𝒱 : Variants) (c : Dev nD) (bd : Option 𝒱.V) (i : grid0.Coords) (arg1 : Memref sig .tc .vmem S1x2x2x15x25x8x196 .f32) (harg1 : arg1.IsWhole) (arg2 : Memref sig .tc .vmem S64x735 .f32) (harg2 : arg2.IsWhole) (arg3 : Memref sig .tc .vmem S1x64x24x8x192 .f32) (harg3 : arg3.IsWhole) (arg4 : Memref sig .tc .vmem S1x64x2 .f32) (harg4 : arg4.IsWhole) (v0 : Vec Ideal S64x735 .f32) (X : Vec Ideal S1x2x2x15x25x8x196 .f32) (k : Fin k0_t1_loop.trips) (acc : FVec Ideal S64x2 .f32) :
    tripL_k0_t1 𝒱 c bd i arg1 harg1 arg2 harg2 arg3 harg3 arg4 harg4 v0 (harg1.unread X) k acc
      = [⟨Rect.unit (k0_off5 k) S1x64x1x8x192.size (k0_off5_inb k), GconvIdeal.Gen.k0_pay4 (GconvIdeal.Conv.trip v0 X k)⟩] := by
  unfold tripL_k0_t1 trip_k0_t1
  dsimp only
  sl_unfold_run_names
  simp only [View.readAt_eq_ld, harg1.read_unread]
  unfold GconvIdeal.Conv.trip
  rw [← GconvIdeal.Conv.patches_eq]
  rfl

variable (𝒱 : Variants) (c : Dev nD) (bd : Option 𝒱.V) (i : grid0.Coords) (arg1 : Memref sig .tc .vmem S1x2x2x15x25x8x196 .f32) (harg1 : arg1.IsWhole) (arg2 : Memref sig .tc .vmem S64x735 .f32) (harg2 : arg2.IsWhole) (arg3 : Memref sig .tc .vmem S1x64x24x8x192 .f32) (harg3 : arg3.IsWhole) (arg4 : Memref sig .tc .vmem S1x64x2 .f32) (harg4 : arg4.IsWhole)
  (v0 : Vec Ideal S64x735 .f32) (X : Vec Ideal S1x2x2x15x25x8x196 .f32)

/-- The sums carried after `n` trips. -/
theorem st_sums (n : ℕ) (hn : n ≤ k0_t1_loop.trips) (o : Fin 64) (e : Fin 2) :
    (st_k0_t1 𝒱 c bd i arg1 harg1 arg2 harg2 arg3 harg3 arg4 harg4 v0 (harg1.unread X) (k0_pay1 (F := Ideal)) n).1 (ix2 o e)
      = ∑ k ∈ Finset.range n, GconvIdeal.Conv.part v0 X o e k := by
  induction n with
  | zero =>
    rw [st_k0_t1_zero]
    pointwise [k0_pay1]
    rfl
  | succ n ih =>
    rw [st_k0_t1_succ _ _ _ _ _ _ _ _ _ _ _ _ _ _ _ ⟨n, hn⟩]
    dsimp only
    rw [tripR_eq, GconvIdeal.Conv.pay5_apply, ih (by omega), Finset.sum_range_succ]
    unfold GconvIdeal.Conv.part
    rw [dif_pos (show n < k0_t1_loop.trips from hn)]

/-- Every stored piece is some trip's product. -/
theorem st_pieces (n : ℕ) (hn : n ≤ k0_t1_loop.trips) :
    ∀ p ∈ (st_k0_t1 𝒱 c bd i arg1 harg1 arg2 harg2 arg3 harg3 arg4 harg4 v0 (harg1.unread X) (k0_pay1 (F := Ideal)) n).2,
      ∃ k : Fin k0_t1_loop.trips, p = ⟨Rect.unit (k0_off5 k) S1x64x1x8x192.size (k0_off5_inb k), GconvIdeal.Gen.k0_pay4 (GconvIdeal.Conv.trip v0 X k)⟩ := by
  induction n with
  | zero => intro p hp; exact absurd hp List.not_mem_nil
  | succ n ih =>
    rw [st_k0_t1_succ _ _ _ _ _ _ _ _ _ _ _ _ _ _ _ ⟨n, hn⟩]
    dsimp only
    rw [tripL_eq]
    intro p hp
    rcases List.mem_append.mp hp with hp | hp
    · exact ⟨⟨n, hn⟩, List.mem_singleton.mp hp⟩
    · exact ih (by omega) p hp

/-- The stored sums at a channel. -/
theorem pay6_apply (v : FVec Ideal S64x2 .f32) (o : Fin 64) (e : Fin 2) : k0_pay6 v (ix3 0 o e) = v (ix2 o e) := by
  pointwise [k0_pay6]

/-- The weights as the body loads them. -/
theorem load_w (W : Vec Ideal S64x735 .f32) (h) :
    View.ld W (Rect.unit ![0, 0] ![64, 735] h) = W := by
  funext y
  idx_vars y
  pointwise

/-- What the body leaves of the product in its first output block. -/
theorem out2_apply (o : Fin 64) (k : Fin k0_t1_loop.trips) (r : Fin 8) (w : Fin 192) :
    out0_A_2 c i arg1 harg1 arg2 harg2 arg3 harg3 arg4 harg4 X v0 (ix5 0 o ⟨k.val, GconvIdeal.Conv.trip_lt k⟩ r w)
      = GconvIdeal.Conv.trip v0 X k (ix2 o ⟨r.val * 192 + w.val, by omega⟩) := by
  unfold out0_A_2
  rw [View.read_writes_junk_eq_canon]
  refine View.canon_eq_of_allAt _ _ _ (cover0_A_2 c _ _ _ _ _ _ _ _ _ _ _ _) ?_
  unfold kernelRun0_A
  dsimp only
  sl_unfold_run_names
  simp only [View.readAt_eq_ld, harg2.read_unread, load_w]
  intro p hp x hx
  obtain ⟨k', rfl⟩ := st_pieces _ _ _ _ _ _ _ _ _ _ _ _ _ _ _ (le_refl _) p hp
  have e (a : Fin 5) := (ValueKit.rect_emb_unit_val (s := S1x64x24x8x192) (k0_off5 k') S1x64x1x8x192.size (k0_off5_inb k') x a).symm.trans (congrArg (fun z : S1x64x24x8x192.Idx => (z a).val) hx)
  have e1 := e 1; have e2 := e 2; have e3 := e 3; have e4 := e 4
  clear e hx hp
  revert x
  intro (x : S1x64x1x8x192.Idx) e1 e2 e3 e4
  idx_vars x
  simp only [k0_off5_eq] at e1 e2 e3 e4

  obtain rfl : x1 = o := Fin.ext (by simpa using e1)
  obtain rfl : k' = k := Fin.ext (by simpa using e2)
  obtain rfl : x3 = r := Fin.ext (by simpa using e3)
  obtain rfl : x4 = w := Fin.ext (by simpa using e4)
  rw [show x0 = 0 from Subsingleton.elim _ _, show x2 = 0 from Subsingleton.elim _ _]
  exact GconvIdeal.Conv.pay4_apply _ _ _ _

/-- The sums that the body leaves in its second output block. -/
theorem out3_apply (o : Fin 64) (e : Fin 2) :
    out0_A_3 c i arg1 harg1 arg2 harg2 arg3 harg3 arg4 harg4 X v0 (ix3 0 o e) = ∑ k ∈ Finset.range 24, GconvIdeal.Conv.part v0 X o e k := by
  unfold out0_A_3
  rw [View.read_writes_junk_eq_canon]
  unfold kernelRun0_A
  dsimp only
  sl_unfold_run_names
  simp only [View.readAt_eq_ld, harg2.read_unread, load_w]
  canon_tiles x h
  revert x
  intro (x : S1x64x2.Idx) h0 _ h1 _ h2 _
  idx_vars x
  obtain rfl : o = x1 := Fin.ext h1
  obtain rfl : e = x2 := Fin.ext h2
  rw [show x0 = 0 from Subsingleton.elim _ _, pay6_apply, st_sums]
  · rfl
  · exact le_refl _

end Cert.KernelIdeal.Conv
-- ==== Proof.KConvArr.lean ====
/- The convolution and its sums as the first call of the whole kernel leaves them. -/
module

public import proofs.«01_k».proof.Proof.KConv
public import Idealize.ShloMosaic.Lib.StableHlo.RunRead

@[expose] public section

set_option maxRecDepth 16384

noncomputable section

namespace Cert.KernelIdeal.Conv

open Cert Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The weights as the region finds them. -/
theorem V_w : V3 m ρ c main_v6 = shapeCast S64x735 (transpose S64x7x7x15 [0, 2, 3, 1] (m ((c : Thread nD τ).loc main_arg1) : Vec Ideal S64x15x7x7 .f32) transposes_S64x15x7x7_S64x7x7x15_0_2_3_1) shapeCasts_S64x7x7x15_S64x735 := by
  unfold V3 W3 W2 W1 W0
  simp only [hostOps0, hostOps0_1, hostOps0_2, List.flatten_cons, List.flatten_nil, List.append_nil, List.cons_append, List.nil_append]
  after_reads_simp
  rfl

/-- The image as the region finds it. -/
theorem V_x : V3 m ρ c main_v4 = shapeCast S8x2x2x15x25x8x196 (transpose S8x2x2x15x200x196 [0, 3, 5, 1, 2, 4] (shapeCast S8x15x200x2x196x2
      (pad S8x15x400x392 ![0, 0, 4, 4] ![0, 0, 12, 4] ![0, 0, 0, 0] (shapeCast S8x15x384x384 (m ((c : Thread nD τ).loc main_arg0) : Vec Ideal S8x3x5x384x384 .f32) shapeCasts_S8x3x5x384x384_S8x15x384x384)
        (sitofp (F := Ideal) .f32 (constantI S_ 32 0#32)) pads_S8x15x384x384_S8x15x400x392_000_000_4120_440 h_S_)
      shapeCasts_S8x15x400x392_S8x15x200x2x196x2) transposes_S8x15x200x2x196x2_S8x2x2x15x200x196_0_3_5_1_2_4) shapeCasts_S8x2x2x15x200x196_S8x2x2x15x25x8x196 := by
  unfold V3 W3 W2 W1 W0
  simp only [hostOps0, hostOps0_1, hostOps0_2, List.flatten_cons, List.flatten_nil, List.append_nil, List.cons_append, List.nil_append]
  after_reads_simp
  simp only [StableHlo.TRef.toBuf, StableHlo.TRef.ofBuf, cast_cast, cast_eq]
  rfl

/-- The block indices of the four windows. -/
theorem idxs : ∀ t : Fin cfg0.N, win0_0.index t = ![t.val, 0, 0, 0, 0, 0, 0] ∧ win0_1.index t = ![0, 0]
    ∧ win0_2.index t = ![t.val, 0, 0, 0, 0] ∧ win0_3.index t = ![t.val, 0, 0] :=
  (by decide +kernel : ∀ t : Fin grid0.N, win0_0.index t = ![t.val, 0, 0, 0, 0, 0, 0] ∧ win0_1.index t = ![0, 0]
    ∧ win0_2.index t = ![t.val, 0, 0, 0, 0] ∧ win0_3.index t = ![t.val, 0, 0])

/-- There are eight grid points. -/
theorem pt_lt (t : Fin cfg0.N) : t.val < 8 := N_0 ▸ t.isLt

/-- The weights' block at an index. -/
theorem iblk1_apply (t : Fin cfg0.N) (o : Fin 64) (q : Fin 735) :
    iblk0 (V3 m ρ) c 1 t (ix2 o q) = (m ((c : Thread nD τ).loc main_arg1) : Vec Ideal S64x15x7x7 .f32) (ix4 o ⟨q.val % 15, by omega⟩ ⟨q.val / 15 / 7, by omega⟩ ⟨q.val / 15 % 7, by omega⟩) := by
  have h : iblk0 (V3 m ρ) c 1 t (ix2 o q) = V3 m ρ c main_v6 (ix2 o q) := by
    blk_ext [iblk0, idxs t]
  rw [h, V_w]
  pointwise
  congr 1
  refine congrArg (fun z : Fin 7 => ix4 o (⟨q.val % 15, by omega⟩ : Fin 15) z (⟨q.val / 15 % 7, by omega⟩ : Fin 7)) (Fin.ext ?_)
  show q.val / 105 = q.val / 15 / 7
  omega

/-- Where an element of the image's block sits in the image. -/
theorem emb0 (t : Fin cfg0.N) (p q : Fin 2) (ch : Fin 15) (g : Fin 25) (s : Fin 8) (w : Fin 196) :
    (win0_0.blk t).view.emb (ix7 (n0 := 1) 0 p q ch g s w) = (ix7 ⟨t.val, pt_lt t⟩ p q ch g s w : S8x2x2x15x25x8x196.Idx) := by
  have h (y : (win0_0.xblock (grid0.coords t)).Idx) (a : Fin 7) :
    ((win0_0.blk t).view.emb y a).val = win0_0.index t a * win0_0.size a + (y a).val := Pipeline.Window.rect_emb_val win0_0 t y a rfl
  refine funext fun a => Fin.ext ((h _ a).trans ?_)
  rw [(idxs t).1]
  match a with
  | 0 => exact Nat.mul_one _
  | 1 => exact (congrArg (· + p.val) (Nat.zero_mul _)).trans (Nat.zero_add _)
  | 2 => exact (congrArg (· + q.val) (Nat.zero_mul _)).trans (Nat.zero_add _)
  | 3 => exact (congrArg (· + ch.val) (Nat.zero_mul _)).trans (Nat.zero_add _)
  | 4 => exact (congrArg (· + g.val) (Nat.zero_mul _)).trans (Nat.zero_add _)
  | 5 => exact (congrArg (· + s.val) (Nat.zero_mul _)).trans (Nat.zero_add _)
  | 6 => exact (congrArg (· + w.val) (Nat.zero_mul _)).trans (Nat.zero_add _)

/-- The block of the first operand at a grid point is what its window reads from the array of the call. -/
theorem iblk0_eq (t : Fin cfg0.N) (y : ((cfg0.win 0).xblock (cfg0.grid.coords t)).Idx) :
    iblk0 (V3 m ρ) c 0 t y = ((cfg0.win 0).blk t).view.read (Elt Ideal) (V3 m ρ c (Pipeline.arrRef spec0 0)) y := rfl

/-- A block of the first operand at an index is its array at the block's place. -/
theorem read0 (t : Fin cfg0.N) (y : ((cfg0.win 0).xblock (cfg0.grid.coords t)).Idx) (Y : S8x2x2x15x25x8x196.Idx → EReal) :
    ((cfg0.win 0).blk t).view.read (Elt Ideal) Y y = Y (((cfg0.win 0).blk t).view.emb y) := rfl

/-- The first operand of the call is the host code's array. -/
theorem V_arr0 : V3 m ρ c (Pipeline.arrRef spec0 0) = V3 m ρ c main_v4 := rfl

/-- The image's block at an index: the four phases of the padded image of the grid point's clip. -/
theorem iblk0_apply (t : Fin cfg0.N) (p q : Fin 2) (ch : Fin 15) (g : Fin 25) (s : Fin 8) (w : Fin 196) :
    iblk0 (V3 m ρ) c 0 t (ix7 0 p q ch g s w)
      = Spec.img (m ((c : Thread nD τ).loc main_arg0) : Vec Ideal S8x3x5x384x384 .f32) ⟨t.val, pt_lt t⟩ ch
          (2 * (8 * g.val + s.val) + p.val - 1) (2 * w.val + q.val - 1) := by
  refine (iblk0_eq m ρ c t _).trans ((read0 t _ _).trans ?_)
  refine (congrArg (V3 m ρ c (Pipeline.arrRef spec0 0)) (emb0 t p q ch g s w)).trans ?_
  rw [V_arr0, V_x, GconvIdeal.Conv.x_cast1, GconvIdeal.Conv.x_transpose, GconvIdeal.Conv.x_cast2, GconvIdeal.Conv.x_pad]
  dsimp only
  rw [Nat.mul_comm g.val 8, Nat.mul_comm _ 2, Nat.mul_comm _ 2]

/-- The clips as the program finds them. -/
abbrev X0 : Vec Ideal S8x3x5x384x384 .f32 := m ((c : Thread nD τ).loc main_arg0)

/-- The gate's weights as the program finds them. -/
abbrev W0 : Vec Ideal S64x15x7x7 .f32 := m ((c : Thread nD τ).loc main_arg1)

/-- A trip's product is the convolution, at the trip's rows. -/
theorem trip_conv (t : Fin cfg0.N) (k : Fin k0_t1_loop.trips) (o : Fin 64) (j : Fin 1536) :
    GconvIdeal.Conv.trip (iblk0 (V3 m ρ) c 1 t) (iblk0 (V3 m ρ) c 0 t) k (ix2 o j)
      = Spec.conv (X0 m c) (W0 m c) ⟨t.val, pt_lt t⟩ o (8 * k.val + j.val / 192) (j.val % 192) := by
  refine (GconvIdeal.Conv.trip_apply (iblk0 (V3 m ρ) c 1 t) (iblk0 (V3 m ρ) c 0 t) (fun ch R C => Spec.img (X0 m c) ⟨t.val, pt_lt t⟩ ch (R - 1) (C - 1))
    (fun p q ch g s w => iblk0_apply m ρ c t p q ch g s w) k o j).trans ?_
  unfold Spec.conv
  refine (Finset.sum_congr rfl fun q _ => congrArg (fun z : EReal => z * (_ : EReal)) (iblk1_apply m ρ c t o q)).trans ?_
  simp only [Nat.add_sub_cancel]
  exact Spec.sum_taps fun ch u v => W0 m c (ix4 o ch u v)
    * Spec.img (X0 m c) ⟨t.val, pt_lt t⟩ ch (2 * (8 * k.val + j.val / 192) + u.val) (2 * (j.val % 192) + v.val)

/-- The convolution's array after the run. -/
theorem final2 : (dat0 (V3 m ρ) c).arrAt 2 cfg0.N
    = fun z : S8x64x24x8x192.Idx => Spec.conv (X0 m c) (W0 m c) (z 0) (z 1) (8 * (z 2).val + (z 3).val) (z 4).val := by
  refine (dat0 (V3 m ρ) c).arrAt_eq_of_covers 2 _ (by decide +kernel) fun t hf y => ?_
  blk_simp
  rw [after0_2]
  unfold outsAt0
  dsimp only
  revert y
  intro (y : S1x64x24x8x192.Idx)
  idx_vars y
  have e0 : ((View.whole main_v7_0).slice (win0_2.rect t)).emb (ix5 y0 y1 y2 y3 y4) 0 = (⟨t.val, pt_lt t⟩ : Fin 8) := Fin.ext (by
    blk_simp [idxs t])
  have e1 : ((View.whole main_v7_0).slice (win0_2.rect t)).emb (ix5 y0 y1 y2 y3 y4) 1 = (y1 : Fin 64) := Fin.ext (by
    blk_simp [idxs t])
  refine Eq.trans ?_ (congrArg₂ (fun (b : Fin 8) (o : Fin 64) => Spec.conv (X0 m c) (W0 m c) b o
      (8 * (win0_2.index t 2 * 24 + y2.val) + (win0_2.index t 3 * 8 + y3.val)) (win0_2.index t 4 * 192 + y4.val)) e0 e1).symm
  rw [(idxs t).2.2.1]
  have hy : y0 = 0 := Subsingleton.elim _ _
  subst hy
  refine (out2_apply c _ _ _ _ _ _ _ _ _ _ _ y1 ⟨y2.val, GconvIdeal.Conv.trips_eq.symm ▸ y2.isLt⟩ y3 y4).trans ((trip_conv m ρ c t _ y1 _).trans ?_)
  have h3 := y3.isLt
  have h4 := y4.isLt
  congr 1
  · show 8 * y2.val + (y3.val * 192 + y4.val) / 192 = 8 * (0 * 24 + y2.val) + (0 * 8 + y3.val)
    omega
  · show (y3.val * 192 + y4.val) % 192 = 0 * 192 + y4.val
    omega

/-- What a grid point adds up, over its whole map. -/
theorem parts_sum (t : Fin cfg0.N) (o : Fin 64) (e : Fin 2) :
    ∑ k ∈ Finset.range 24, GconvIdeal.Conv.part (iblk0 (V3 m ρ) c 1 t) (iblk0 (V3 m ρ) c 0 t) o e k = GconvIdeal.Conv.stat (Spec.conv (X0 m c) (W0 m c) ⟨t.val, pt_lt t⟩ o) e := by
  unfold GconvIdeal.Conv.stat
  have hk (k : ℕ) (hk : k ∈ Finset.range 24) : GconvIdeal.Conv.part (iblk0 (V3 m ρ) c 1 t) (iblk0 (V3 m ρ) c 0 t) o e k
      = if e.val = 0 then ∑ j : Fin 1536, Spec.conv (X0 m c) (W0 m c) ⟨t.val, pt_lt t⟩ o (8 * k + j.val / 192) (j.val % 192)
        else ∑ j : Fin 1536, Spec.conv (X0 m c) (W0 m c) ⟨t.val, pt_lt t⟩ o (8 * k + j.val / 192) (j.val % 192)
          * Spec.conv (X0 m c) (W0 m c) ⟨t.val, pt_lt t⟩ o (8 * k + j.val / 192) (j.val % 192) := by
    unfold GconvIdeal.Conv.part
    rw [dif_pos (GconvIdeal.Conv.trips_eq.symm ▸ Finset.mem_range.mp hk)]
    simp only [trip_conv]
  rw [Finset.sum_congr rfl hk]
  split_ifs
  · exact Spec.sum_tiles _
  · exact Spec.sum_tiles fun i j => Spec.conv (X0 m c) (W0 m c) ⟨t.val, pt_lt t⟩ o i j * Spec.conv (X0 m c) (W0 m c) ⟨t.val, pt_lt t⟩ o i j

/-- The sums' array after the run. -/
theorem final3 : (dat0 (V3 m ρ) c).arrAt 3 cfg0.N
    = fun z : S8x64x2.Idx => GconvIdeal.Conv.stat (Spec.conv (X0 m c) (W0 m c) (z 0) (z 1)) (z 2) := by
  refine (dat0 (V3 m ρ) c).arrAt_eq_of_covers 3 _ (by decide +kernel) fun t hf y => ?_
  blk_simp
  rw [after0_3]
  unfold outsAt0
  dsimp only
  revert y
  intro (y : S1x64x2.Idx)
  idx_vars y
  have e0 : ((View.whole main_v7_1).slice (win0_3.rect t)).emb (ix3 y0 y1 y2) 0 = (⟨t.val, pt_lt t⟩ : Fin 8) := Fin.ext (by
    blk_simp [idxs t])
  have e1 : ((View.whole main_v7_1).slice (win0_3.rect t)).emb (ix3 y0 y1 y2) 1 = (y1 : Fin 64) := Fin.ext (by
    blk_simp [idxs t])
  have e2 : ((View.whole main_v7_1).slice (win0_3.rect t)).emb (ix3 y0 y1 y2) 2 = (y2 : Fin 2) := Fin.ext (by
    blk_simp [idxs t])
  have hy : y0 = 0 := Subsingleton.elim _ _
  subst hy
  refine ((out3_apply c _ _ _ _ _ _ _ _ _ _ _ y1 y2).trans (parts_sum m ρ c t y1 y2)).trans ?_
  exact ((congrArg₂ (fun (b : Fin 8) (o : Fin 64) => GconvIdeal.Conv.stat (Spec.conv (X0 m c) (W0 m c) b o) y2) e0 e1).symm.trans
    (congrArg (fun z : Fin 2 => GconvIdeal.Conv.stat _ z) e2.symm))

end Cert.KernelIdeal.Conv
-- ==== Proof.GateSpec.lean ====
/- The gate between the convolution and the routing, as functions of the convolution's map: normalisation by the batch's own
   statistics, pooling and the mean, with the padding of the kernel and with that of the reference. -/
module

public import proofs.«01_k».proof.Proof.Spec
public import Idealize.ShloMosaic.Lib.Pointwise

@[expose] public section

noncomputable section

namespace Cert.Spec

open Idealize.ShloMosaic

/-- A sum over all the pixels of all the clips. -/
def total (h : Fin 8 → ℕ → ℕ → EReal) : EReal := ∑ b : Fin 8, ∑ i : Fin 192, ∑ j : Fin 192, h b i.val j.val

/-- The number of pixels of all the clips, inverted. -/
abbrev invN : EReal := ((1 / 294912 : ℝ) : EReal)

/-- The small number that keeps the variance away from zero. -/
abbrev eps : EReal := Ideal.ofBits .f32 0x3727C5AC#32

/-- The mean of a map over all the clips. -/
def mu (f : Fin 8 → ℕ → ℕ → EReal) : EReal := total f * invN

/-- The reference's variance, the mean of the squared distances from the mean. -/
def var (f : Fin 8 → ℕ → ℕ → EReal) : EReal := total (fun b i j => (f b i j - mu f) * (f b i j - mu f)) * invN

/-- The reference's normalisation of a value. -/
def norm (f : Fin 8 → ℕ → ℕ → EReal) (γ β y : EReal) : EReal := Ideal.div (y - mu f) (Ideal.sqrt (var f + eps)) * γ + β

/-- The kernel's padded map: its columns are padded with zeros after the normalisation, its top row with a zero before it. -/
def padK (y : ℕ → ℕ → EReal) (sc sh : EReal) (R C : ℕ) : EReal :=
  if 1 ≤ C ∧ C < 193 then max ((if R = 0 then 0 else y (R - 1) (C - 1)) * sc + sh) 0 else 0

/-- The largest of three neighbours in a row. -/
def cols (p : ℕ → ℕ → EReal) (R c : ℕ) : EReal := max (max (p R c) (p R (c + 1))) (p R (c + 2))

/-- The kernel's largest value of a window of three by three. -/
def win (p : ℕ → ℕ → EReal) (i c : ℕ) : EReal := max (max (cols p (2 * i) c) (cols p (2 * i + 1) c)) (cols p (2 * i + 2) c)

/-- The kernel's scale from a channel's sum and sum of squares. -/
def scaleOf (s0 s1 γ : EReal) : EReal := γ * Ideal.rsqrt (s1 * invN - s0 * invN * (s0 * invN) + eps)

/-- The kernel's shift from a channel's sum and sum of squares. -/
def shiftOf (s0 s1 γ β : EReal) : EReal := β - s0 * invN * scaleOf s0 s1 γ

/-- The number of pooled pixels, inverted. -/
abbrev invP : EReal := ((1 / 9216 : ℝ) : EReal)

/-- The kernel's mean of a pooled map. -/
def pooled (p : ℕ → ℕ → EReal) : EReal := (∑ i : Fin 96, ∑ j : Fin 96, win p i.val (2 * j.val)) * invP

/-- The kernel's pooled feature of a clip, from a channel's maps of all the clips. -/
def feat (f : Fin 8 → ℕ → ℕ → EReal) (γ β : EReal) (b : Fin 8) : EReal :=
  pooled (padK (f b) (scaleOf (total f) (total fun b i j => f b i j * f b i j) γ)
    (shiftOf (total f) (total fun b i j => f b i j * f b i j) γ β))

/-- The reference's padded map: values below every number around the map. -/
def padR (z : ℕ → ℕ → EReal) (R C : ℕ) : EReal := if (1 ≤ R ∧ R < 193) ∧ 1 ≤ C ∧ C < 193 then z (R - 1) (C - 1) else ⊥

/-- The reference's largest value of a window of three by three. -/
def win9 (p : ℕ → ℕ → EReal) (i j : ℕ) : EReal :=
  max (max (max (max (max (max (max (max (p (2 * i) (2 * j)) (p (2 * i) (2 * j + 1))) (p (2 * i) (2 * j + 2)))
    (p (2 * i + 1) (2 * j))) (p (2 * i + 1) (2 * j + 1))) (p (2 * i + 1) (2 * j + 2)))
    (p (2 * i + 2) (2 * j))) (p (2 * i + 2) (2 * j + 1))) (p (2 * i + 2) (2 * j + 2))

/-- The reference's normalised map of a clip, cut at zero and padded. -/
def mapR (f : Fin 8 → ℕ → ℕ → EReal) (γ β : EReal) (b : Fin 8) : ℕ → ℕ → EReal := padR fun i j => max (norm f γ β (f b i j)) 0

/-- The reference's pooled feature of a clip. -/
def featR (f : Fin 8 → ℕ → ℕ → EReal) (γ β : EReal) (b : Fin 8) : EReal :=
  (∑ i : Fin 96, ∑ j : Fin 96, win9 (mapR f γ β b) i.val j.val) * invP

/-- A sum over the even columns. -/
theorem sum_even (g : ℕ → EReal) : ∑ c : Fin 192, g c.val * (if c.val % 2 = 0 then 1 else 0) = ∑ j : Fin 96, g (2 * j.val) := by
  rw [Fin.sum_univ_eq_sum_range (fun c => g c * (if c % 2 = 0 then (1 : EReal) else 0)) 192, Fin.sum_univ_eq_sum_range (fun j => g (2 * j)) 96]
  have h (n : ℕ) : ∑ c ∈ Finset.range (2 * n), g c * (if c % 2 = 0 then (1 : EReal) else 0) = ∑ j ∈ Finset.range n, g (2 * j) := by
    induction n with
    | zero => rfl
    | succ n ih =>
      rw [show 2 * (n + 1) = 2 * n + 1 + 1 from rfl, Finset.sum_range_succ, Finset.sum_range_succ, ih, Finset.sum_range_succ,
        if_pos (by omega), if_neg (by omega), mul_one, mul_zero, add_zero]
  exact h 96

end Cert.Spec
-- ==== Proof.KPool.lean ====
/- The pooling call's body: what it adds in a trip, what it stores, at an index. -/
module

public import proofs.«01_k».proof.Proof.GateSpec
public import proofs.«01_k».proof.Proof.Gen.KernelIdeal.Frame

@[expose] public section

set_option maxRecDepth 16384

noncomputable section

namespace Cert.KernelIdeal.Pool

open Cert Cert.KernelIdeal Cert.KernelIdeal.Gen Idealize.ShloMosaic Idealize.ShloMosaic.TcCoe Idealize.SL.Sem

/-- The nine rows of a trip, the row above them first. -/
def rows (k : Fin k1_t1_loop.trips) (a b : Vec Ideal S1x64x1x8x192 .f32) : FVec Ideal S64x9x192 .f32 :=
  concatenate S64x9x192 1 [⟨S64x1x192, Scalar.select (Scalar.cmpi .eq (Scf.iv 0#32 1#32 k) 0#32) (broadcast S64x1x192 (Scalar.ofBits .f32 0x00000000#32))
      (extractStridedSlice S64x1x192 ![0, 7, 0] (shapeCast S64x8x192 (shapeCast S64x1x8x192 b shapeCasts_S1x64x1x8x192_S64x1x8x192) shapeCasts_S64x1x8x192_S64x8x192) slices_S64x8x192_o0_7_0_S64x1x192)⟩,
    ⟨S64x8x192, shapeCast S64x8x192 (shapeCast S64x1x8x192 a shapeCasts_S1x64x1x8x192_S64x1x8x192) shapeCasts_S64x1x8x192_S64x8x192⟩] concatenates_S64x1x192_S64x8x192_S64x9x192_d1

/-- Rows normalised and cut at zero. -/
def norms (v21 v22 : FVec Ideal S64x1x1 .f32) (z : FVec Ideal S64x9x192 .f32) : FVec Ideal S64x9x192 .f32 :=
  maximumf (addf (mulf z (broadcastTo S64x9x192 v21 broadcasts_S64x1x1_S64x9x192)) (broadcastTo S64x9x192 v22 broadcasts_S64x1x1_S64x9x192))
    (broadcast S64x9x192 (Scalar.ofBits .f32 0x00000000#32))

/-- Rows with a column of zeros on either side. -/
def pads (z : FVec Ideal S64x9x192 .f32) : FVec Ideal S64x9x194 .f32 :=
  concatenate S64x9x194 2 [⟨S64x9x193, concatenate S64x9x193 2 [⟨S64x9x1, broadcast S64x9x1 (Scalar.sitofp .f32 0#32)⟩, ⟨S64x9x192, z⟩] concatenates_S64x9x1_S64x9x192_S64x9x193_d2⟩,
    ⟨S64x9x1, broadcast S64x9x1 (Scalar.sitofp .f32 0#32)⟩] concatenates_S64x9x193_S64x9x1_S64x9x194_d2

/-- Rows' largest of three neighbours. -/
def tops (z : FVec Ideal S64x9x194 .f32) : FVec Ideal S64x9x192 .f32 :=
  maximumf (maximumf (extractStridedSlice S64x9x192 ![0, 0, 0] z slices_S64x9x194_o0_0_0_S64x9x192) (extractStridedSlice S64x9x192 ![0, 0, 1] z slices_S64x9x194_o0_0_1_S64x9x192))
    (extractStridedSlice S64x9x192 ![0, 0, 2] z slices_S64x9x194_o0_0_2_S64x9x192)

/-- A trip's row maxima are those of its nine normalised and padded rows. -/
theorem pay2_eq (v21 v22 : FVec Ideal S64x1x1 .f32) (k : Fin k1_t1_loop.trips) (a b : Vec Ideal S1x64x1x8x192 .f32) :
    k1_pay2 v21 v22 0#32 1#32 k a b = tops (pads (norms v21 v22 (rows k a b))) := rfl

/-- The integer zero, as a float, is zero. -/
theorem zero_eq : FloatOps.sitofp (F := Ideal) FTy.f32 0#32 = (0 : EReal) := by
  show (((((0#32 : BitVec 32).toInt : ℤ)) : ℝ) : EReal) = 0
  norm_num

/-- There are 24 trips. -/
theorem trips_eq : k1_t1_loop.trips = 24 := by decide +kernel

/-- The first trip, and no other, is marked. -/
theorem sel_eq : ∀ k : Fin k1_t1_loop.trips, Scalar.cmpi .eq (Scf.iv 0#32 1#32 k) 0#32 = if k.val = 0 then 1#1 else 0#1 := by decide +kernel

/-- The rows with a column of zeros on both sides, at a column. -/
theorem pads_apply (z : FVec Ideal S64x9x192 .f32) (o : Fin 64) (r : Fin 9) (C : Fin 194) :
    pads z (ix3 o r C) = if h : 1 ≤ C.val ∧ C.val < 193 then z (ix3 o r ⟨C.val - 1, by omega⟩) else (0 : EReal) := by
  pointwise [pads]
  by_cases h1 : C.val < 193
  · by_cases h2 : C.val < 1
    · rw [dif_pos h1, dif_pos h2, dif_neg (by omega)]
      exact zero_eq
    · rw [dif_pos h1, dif_neg h2, dif_pos ⟨by omega, h1⟩]
  · rw [dif_neg h1, dif_neg (by omega)]
    exact zero_eq

/-- The nine rows of a trip: the previous group's last row, a zero at the first trip, and the group's eight. -/
theorem rows_apply (k : Fin k1_t1_loop.trips) (a b : Vec Ideal S1x64x1x8x192 .f32) (o : Fin 64) (r : Fin 9) (c : Fin 192) :
    rows k a b (ix3 o r c) = if h : r.val = 0 then (if k.val = 0 then (0 : EReal) else b (ix5 0 o 0 7 c)) else a (ix5 0 o 0 ⟨r.val - 1, by omega⟩ c) := by
  unfold rows
  rw [sel_eq]
  by_cases hr : r.val = 0
  · rw [dif_pos hr]
    split_ifs <;> pointwise
    · rw [dif_pos (by omega)]
    · rw [dif_pos (by omega)]
      exact congrArg (fun n : Fin 8 => b (ix5 0 o 0 n c)) (Fin.ext (by dsimp only; omega))
  · rw [dif_neg hr]
    split_ifs <;> pointwise
    · rw [dif_neg (by omega)]
    · rw [dif_neg (by omega)]

/-- A normalised value, cut at zero. -/
theorem norms_apply (v21 v22 : FVec Ideal S64x1x1 .f32) (z : FVec Ideal S64x9x192 .f32) (o : Fin 64) (r : Fin 9) (c : Fin 192) :
    norms v21 v22 z (ix3 o r c) = max (z (ix3 o r c) * v21 (ix3 o 0 0) + v22 (ix3 o 0 0)) 0 := by
  pointwise [norms]

/-- The largest of three neighbours in a row. -/
theorem tops_apply (z : FVec Ideal S64x9x194 .f32) (o : Fin 64) (r : Fin 9) (c : Fin 192) :
    tops z (ix3 o r c) = max (max (z (ix3 o r ⟨c.val, by omega⟩)) (z (ix3 o r ⟨c.val + 1, by omega⟩))) (z (ix3 o r ⟨c.val + 2, by omega⟩)) := by
  pointwise [tops]
  have h1 : (⟨1 + c.val, by omega⟩ : Fin 194) = ⟨c.val + 1, by omega⟩ := Fin.ext (Nat.add_comm _ _)
  have h2 : (⟨2 + c.val, by omega⟩ : Fin 194) = ⟨c.val + 2, by omega⟩ := Fin.ext (Nat.add_comm _ _)
  rw [h1, h2]

/-- The sums after a trip: the sums before and the four windows of the trip. -/
theorem pay3_apply (v21 v22 : FVec Ideal S64x1x1 .f32) (k : Fin k1_t1_loop.trips) (acc : FVec Ideal S64x192 .f32) (a b : Vec Ideal S1x64x1x8x192 .f32) (o : Fin 64) (c : Fin 192) (z : FVec Ideal S64x9x192 .f32) (hz : k1_pay2 v21 v22 0#32 1#32 k a b = z) :
    k1_pay10 z (k1_pay3 v21 v22 0#32 1#32 k acc a b) (ix2 o c)
      = acc (ix2 o c) + max (max (z (ix3 o 0 c)) (z (ix3 o 1 c))) (z (ix3 o 2 c)) + max (max (z (ix3 o 2 c)) (z (ix3 o 3 c))) (z (ix3 o 4 c))
        + max (max (z (ix3 o 4 c)) (z (ix3 o 5 c))) (z (ix3 o 6 c)) + max (max (z (ix3 o 6 c)) (z (ix3 o 7 c))) (z (ix3 o 8 c)) := by
  unfold k1_pay10 k1_pay3
  rw [hz]
  pointwise

/-- A trip's rows are the kernel's padded map's, each with its neighbours. -/
theorem pay2_apply (v21 v22 : FVec Ideal S64x1x1 .f32) (k : Fin k1_t1_loop.trips) (a b : Vec Ideal S1x64x1x8x192 .f32) (o : Fin 64)
    (y : ℕ → ℕ → EReal) (ha : ∀ (s : Fin 8) (w : Fin 192), a (ix5 0 o 0 s w) = y (8 * k.val + s.val) w.val)
    (hb : k.val ≠ 0 → ∀ w : Fin 192, b (ix5 0 o 0 7 w) = y (8 * k.val - 1) w.val) (r : Fin 9) (c : Fin 192) :
    k1_pay2 v21 v22 0#32 1#32 k a b (ix3 o r c) = Spec.cols (Spec.padK y (v21 (ix3 o 0 0)) (v22 (ix3 o 0 0))) (8 * k.val + r.val) c.val := by
  have hp (C : Fin 194) : pads (norms v21 v22 (rows k a b)) (ix3 o r C)
      = Spec.padK y (v21 (ix3 o 0 0)) (v22 (ix3 o 0 0)) (8 * k.val + r.val) C.val := by
    rw [pads_apply]
    unfold Spec.padK
    by_cases h : 1 ≤ C.val ∧ C.val < 193
    · rw [dif_pos h, if_pos h, norms_apply, rows_apply]
      by_cases hr : r.val = 0
      · by_cases hk : k.val = 0
        · rw [dif_pos hr, if_pos hk, if_pos (by omega)]
        · rw [dif_pos hr, if_neg hk, if_neg (by omega), hb hk, hr]
          rfl
      · rw [dif_neg hr, if_neg (by omega), ha, show 8 * k.val + r.val - 1 = 8 * k.val + (r.val - 1) by omega]
    · rw [dif_neg h, if_neg h]
  rw [pay2_eq, tops_apply, hp, hp, hp]
  rfl

/-- A channel's scale. -/
theorem pay7_apply (v0 : Vec Ideal S8x64x2 .f32) (v11 : Vec Ideal S64x1 .f32) (o : Fin 64) :
    k1_pay7 v0 v11 (ix3 o 0 0) = Spec.scaleOf (∑ b : Fin 8, v0 (ix3 b o 0)) (∑ b : Fin 8, v0 (ix3 b o 1)) (v11 (ix2 o 0)) := by
  pointwise [k1_pay7, k1_pay6, k1_pay5, k1_pay4]
  rfl

/-- A channel's shift. -/
theorem pay8_apply (v0 : Vec Ideal S8x64x2 .f32) (v11 v17 : Vec Ideal S64x1 .f32) (o : Fin 64) :
    k1_pay8 v0 v11 v17 (ix3 o 0 0) = Spec.shiftOf (∑ b : Fin 8, v0 (ix3 b o 0)) (∑ b : Fin 8, v0 (ix3 b o 1)) (v11 (ix2 o 0)) (v17 (ix2 o 0)) := by
  pointwise [k1_pay8, k1_pay6, k1_pay5, k1_pay4]
  rfl

/-- The mask of the even columns. -/
theorem mask : ∀ x : Fin 192, BitVec.setWidth 32 (IntOp.cmpi CmpIPredicate.eq
    (Scalar.select (IntOp.andi (IntOp.xori (IntOp.cmpi CmpIPredicate.slt (IntOp.remsi ArithUnit.vector (BitVec.ofNat 32 x.val)
          (Scalar.select (Scalar.cmpi CmpIPredicate.eq 2#32 0#32) 1#32 2#32)) 0#32)
        (Scalar.cmpi CmpIPredicate.slt (Scalar.select (Scalar.cmpi CmpIPredicate.eq 2#32 0#32) 1#32 2#32) 0#32))
      (IntOp.cmpi CmpIPredicate.ne (IntOp.remsi ArithUnit.vector (BitVec.ofNat 32 x.val)
          (Scalar.select (Scalar.cmpi CmpIPredicate.eq 2#32 0#32) 1#32 2#32)) 0#32))
      (IntOp.addi (IntOp.remsi ArithUnit.vector (BitVec.ofNat 32 x.val) (Scalar.select (Scalar.cmpi CmpIPredicate.eq 2#32 0#32) 1#32 2#32))
        (Scalar.select (Scalar.cmpi CmpIPredicate.eq 2#32 0#32) 1#32 2#32))
      (IntOp.remsi ArithUnit.vector (BitVec.ofNat 32 x.val) (Scalar.select (Scalar.cmpi CmpIPredicate.eq 2#32 0#32) 1#32 2#32))) 0#32)
    = if x.val % 2 = 0 then 1#32 else 0#32 := by decide +kernel

/-- The stored feature: the sum over the even columns, times the inverse of the number of pooled pixels. -/
theorem pay1_apply (v : FVec Ideal S64x192 .f32) (o : Fin 64) :
    k1_pay1 v (Scalar.select (Scalar.cmpi .eq 2#32 0#32) 1#32 2#32) k1_pay11 k1_pay12 k1_pay13 k1_pay14 (ix3 0 o 0)
      = (∑ c : Fin 192, v (ix2 o c) * (if c.val % 2 = 0 then 1 else 0)) * Spec.invP := by
  pointwise [k1_pay1, k1_pay11, k1_pay12, k1_pay13, k1_pay14]
  simp only [mask]
  refine congrArg (fun z : EReal => z * Spec.invP) (Finset.sum_congr rfl fun c _ => congrArg (fun z : EReal => v (ix2 o c) * z) ?_)
  by_cases h : c.val % 2 = 0
  · rw [if_pos h, if_pos h]
    show (((((1#32 : BitVec 32).toInt : ℤ)) : ℝ) : EReal) = 1
    norm_num
  · rw [if_neg h, if_neg h]
    exact zero_eq

/-- There are 24 trips. -/
theorem trip_lt (k : Fin k1_t1_loop.trips) : k.val < 24 := trips_eq ▸ k.isLt

/-- Where a trip's previous group begins. -/
theorem off2_eq : ∀ k : Fin k1_t1_loop.trips, k1_off2 k = ![0, 0, k.val - 1, 0, 0] := by decide +kernel

/-- A trip's block of eight rows. -/
theorem ld1_apply (X : Vec Ideal S1x64x24x8x192 .f32) (k : Fin k1_t1_loop.trips) (o : Fin 64) (s : Fin 8) (w : Fin 192) :
    View.ld X (Rect.unit (k1_off1 k) S1x64x1x8x192.size (k1_off1_inb k)) (ix5 0 o 0 s w) = X (ix5 0 o ⟨k.val, trip_lt k⟩ s w) := by
  pointwise
  congr 1
  simp only [k1_off1_eq]
  idx_ext

/-- The block above a trip's. -/
theorem ld2_apply (X : Vec Ideal S1x64x24x8x192 .f32) (k : Fin k1_t1_loop.trips) (o : Fin 64) (s : Fin 8) (w : Fin 192) :
    View.ld X (Rect.unit (k1_off2 k) S1x64x1x8x192.size (k1_off2_inb k)) (ix5 0 o 0 s w) = X (ix5 0 o ⟨k.val - 1, by have := trip_lt k; omega⟩ s w) := by
  pointwise
  congr 1
  simp only [off2_eq]
  idx_ext

section loop

variable (𝒱 : Variants) (c : Dev nD) (bd : Option 𝒱.V) (i : grid1.Coords) (arg1 : Memref sig .tc .vmem S1x64x24x8x192 .f32) (harg1 : arg1.IsWhole) (arg2 : Memref sig .tc .vmem S8x64x2 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S1x64x1 .f32) (harg5 : arg5.IsWhole)
  (v0 : Vec Ideal S8x64x2 .f32) (v11 v17 : Vec Ideal S64x1 .f32) (X : Vec Ideal S1x64x24x8x192 .f32)

/-- What a trip makes of the sums before it, from the block it reads. -/
def tripOf (v0 : Vec Ideal S8x64x2 .f32) (v11 v17 : Vec Ideal S64x1 .f32) (k : Fin k1_t1_loop.trips) (acc : FVec Ideal S64x192 .f32)
    (X : Vec Ideal S1x64x24x8x192 .f32) : FVec Ideal S64x192 .f32 :=
  k1_pay10 (k1_pay2 (k1_pay7 v0 v11) (k1_pay8 v0 v11 v17) 0#32 1#32 k
      (View.ld X (Rect.unit (k1_off1 k) S1x64x1x8x192.size (k1_off1_inb k))) (View.ld X (Rect.unit (k1_off2 k) S1x64x1x8x192.size (k1_off2_inb k))))
    (k1_pay3 (k1_pay7 v0 v11) (k1_pay8 v0 v11 v17) 0#32 1#32 k acc
      (View.ld X (Rect.unit (k1_off1 k) S1x64x1x8x192.size (k1_off1_inb k))) (View.ld X (Rect.unit (k1_off2 k) S1x64x1x8x192.size (k1_off2_inb k))))

/-- A trip adds the windows of its rows. -/
theorem tripR_eq (k : Fin k1_t1_loop.trips) (acc : FVec Ideal S64x192 .f32) :
    tripR_k1_t1 𝒱 c bd i arg1 harg1 arg2 harg2 arg3 harg3 arg4 harg4 arg5 harg5 v0 v11 v17 (harg1.unread X) k acc = tripOf v0 v11 v17 k acc X := by
  have hX : arg1.view.read (Elt Ideal) (harg1.unread X) = X := harg1.read_unread X
  refine Eq.trans ?_ (congrArg (tripOf v0 v11 v17 k acc) hX)
  unfold tripR_k1_t1 trip_k1_t1 tripOf
  dsimp only
  sl_unfold_run_names
  rfl

/-- The kernel's padded map of a block's channel. -/
def mapK (y : ℕ → ℕ → EReal) (o : Fin 64) : ℕ → ℕ → EReal := Spec.padK y (k1_pay7 v0 v11 (ix3 o 0 0)) (k1_pay8 v0 v11 v17 (ix3 o 0 0))

/-- After some trips the sums are over the windows of their rows. -/
theorem st_sums (y : Fin 64 → ℕ → ℕ → EReal) (hy : ∀ (o : Fin 64) (t : Fin 24) (s : Fin 8) (w : Fin 192), X (ix5 0 o t s w) = y o (8 * t.val + s.val) w.val)
    (o : Fin 64) (w : Fin 192) : ∀ n : ℕ, n ≤ 24 → st_k1_t1 𝒱 c bd i arg1 harg1 arg2 harg2 arg3 harg3 arg4 harg4 arg5 harg5 v0 v11 v17 (harg1.unread X) k1_pay9 n (ix2 o w)
      = ∑ r ∈ Finset.range (4 * n), Spec.win (mapK v0 v11 v17 (y o) o) r w.val := by
  intro n
  induction n with
  | zero =>
    intro _
    rw [st_k1_t1_zero]
    pointwise [k1_pay9]
    rfl
  | succ n ih =>
    intro hn
    have hlt : n < k1_t1_loop.trips := trips_eq.symm ▸ hn
    refine (congrFun (st_k1_t1_succ 𝒱 c bd i arg1 harg1 arg2 harg2 arg3 harg3 arg4 harg4 arg5 harg5 v0 v11 v17 (harg1.unread X) k1_pay9 ⟨n, hlt⟩) _).trans ?_
    rw [tripR_eq]
    unfold tripOf
    rw [pay3_apply _ _ _ _ _ _ _ _ _ rfl]
    have hc (r : Fin 9) := pay2_apply (k1_pay7 v0 v11) (k1_pay8 v0 v11 v17) ⟨n, hlt⟩
      (View.ld X (Rect.unit (k1_off1 ⟨n, hlt⟩) S1x64x1x8x192.size (k1_off1_inb ⟨n, hlt⟩)))
      (View.ld X (Rect.unit (k1_off2 ⟨n, hlt⟩) S1x64x1x8x192.size (k1_off2_inb ⟨n, hlt⟩))) o (y o)
      (fun s w => (ld1_apply X ⟨n, hlt⟩ o s w).trans (hy o _ s w))
      (fun hk w => (ld2_apply X ⟨n, hlt⟩ o 7 w).trans ((hy o _ 7 w).trans (congrArg (fun R => y o R w.val)
        (show 8 * (n - 1) + 7 = 8 * n - 1 by dsimp only at hk; omega)))) r w
    rw [hc, hc, hc, hc, hc, hc, hc, hc, hc, ih (by omega)]
    rw [show 4 * (n + 1) = 4 * n + 1 + 1 + 1 + 1 by omega, Finset.sum_range_succ, Finset.sum_range_succ, Finset.sum_range_succ, Finset.sum_range_succ]
    unfold Spec.win
    rw [show 2 * (4 * n) = 8 * n by omega, show 2 * (4 * n + 1) = 8 * n + 2 by omega, show 2 * (4 * n + 1 + 1) = 8 * n + 4 by omega,
      show 2 * (4 * n + 1 + 1 + 1) = 8 * n + 6 by omega]
    rfl

end loop

/-- The sums as the body loads them. -/
theorem load0 (W : Vec Ideal S8x64x2 .f32) (h) : View.ld W (Rect.unit ![0, 0, 0] ![8, 64, 2] h) = W := by
  funext y
  idx_vars y
  pointwise

/-- A column as the body loads it. -/
theorem load1 (W : Vec Ideal S64x1 .f32) (h) : View.ld W (Rect.unit ![0, 0] ![64, 1] h) = W := by
  funext y
  idx_vars y
  rw [show y1 = 0 from Subsingleton.elim _ _]
  pointwise

/-- What the body stores: the mean of each channel's pooled map. -/
theorem out4_apply (c : Dev nD) (i : grid1.Coords) (arg1 : Memref sig .tc .vmem S1x64x24x8x192 .f32) (harg1 : arg1.IsWhole) (arg2 : Memref sig .tc .vmem S8x64x2 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S1x64x1 .f32) (harg5 : arg5.IsWhole)
    (X : Vec Ideal S1x64x24x8x192 .f32) (v0 : Vec Ideal S8x64x2 .f32) (v11 v17 : Vec Ideal S64x1 .f32)
    (y : Fin 64 → ℕ → ℕ → EReal) (hy : ∀ (o : Fin 64) (t : Fin 24) (s : Fin 8) (w : Fin 192), X (ix5 0 o t s w) = y o (8 * t.val + s.val) w.val) (o : Fin 64) :
    out1_A_4 c i arg1 harg1 arg2 harg2 arg3 harg3 arg4 harg4 arg5 harg5 X v0 v11 v17 (ix3 0 o 0)
      = Spec.pooled (mapK v0 v11 v17 (y o) o) := by
  unfold out1_A_4
  rw [View.read_writes_junk_eq_canon]
  unfold kernelRun1_A
  dsimp only
  sl_unfold_run_names
  simp only [View.readAt_eq_ld, harg2.read_unread, harg3.read_unread, harg4.read_unread]
  canon_tiles x h
  revert x
  intro (x : S1x64x1.Idx) h0 _ h1 _ h2 _
  idx_vars x
  obtain rfl : o = x1 := Fin.ext h1
  rw [show x0 = 0 from Subsingleton.elim _ _, show x2 = 0 from Subsingleton.elim _ _]
  rw [load0, load1, load1]
  refine (pay1_apply _ o).trans ?_
  unfold Spec.pooled
  refine congrArg (fun z : EReal => z * Spec.invP) ?_
  have hs (w : Fin 192) := st_sums Variants.none c none i arg1 harg1 arg2 harg2 arg3 harg3 arg4 harg4 arg5 harg5 v0 v11 v17 X y hy o w 24 (le_refl _)
  refine (Finset.sum_congr rfl fun w _ => congrArg (fun z : EReal => z * (if w.val % 2 = 0 then (1 : EReal) else 0)) (hs w)).trans ?_
  refine (Spec.sum_even fun w => ∑ r ∈ Finset.range 96, Spec.win (mapK v0 v11 v17 (y o) o) r w).trans ?_
  rw [Finset.sum_comm' (t' := Finset.range 96) (s' := fun _ => Finset.univ) (by simp)]
  exact Finset.sum_range _

end Cert.KernelIdeal.Pool
-- ==== Proof.KPoolArr.lean ====
/- The pooled features as the second call of the whole kernel leaves them. -/
module

public import proofs.«01_k».proof.Proof.KConvArr
public import proofs.«01_k».proof.Proof.KPool

@[expose] public section

set_option maxRecDepth 16384

noncomputable section

namespace Cert.KernelIdeal.Pool

open Cert Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The normalisation's scales as the program finds them. -/
abbrev Ga0 : Vec Ideal S64 .f32 := m ((c : Thread nD τ).loc main_arg2)

/-- The normalisation's offsets as the program finds them. -/
abbrev Be0 : Vec Ideal S64 .f32 := m ((c : Thread nD τ).loc main_arg3)

/-- The convolution's map of a clip and a channel. -/
abbrev cmap (b : Fin 8) (o : Fin 64) : ℕ → ℕ → EReal := Spec.conv (Conv.X0 m c) (Conv.W0 m c) b o

/-- The scales as a column, as the second call finds them. -/
theorem W5_v8 : W5 m ρ c (Proc.devRef .tc main_v8) = shapeCast S64x1 (W4 m ρ c (Proc.devRef .tc main_arg2) : Vec Ideal S64 .f32) shapeCasts_S64_S64x1 := by
  unfold W5
  simp only [hostOps1, List.flatten_cons, List.flatten_nil, List.append_nil, List.cons_append, List.nil_append]
  after_reads_simp
  rfl

/-- The offsets as a column, as the second call finds them. -/
theorem W5_v9 : W5 m ρ c (Proc.devRef .tc main_v9) = shapeCast S64x1 (W4 m ρ c (Proc.devRef .tc main_arg3) : Vec Ideal S64 .f32) shapeCasts_S64_S64x1 := by
  unfold W5
  simp only [hostOps1, List.flatten_cons, List.flatten_nil, List.append_nil, List.cons_append, List.nil_append]
  after_reads_simp
  rfl

/-- A column at an index. -/
theorem col_move (Y : Vec Ideal S64 .f32) (o : Fin 64) : shapeCast S64x1 Y shapeCasts_S64_S64x1 (ix2 o 0) = Y (ix1 o) := by
  pointwise

/-- The block indices of the pooling's windows. -/
theorem idxs : ∀ t : Fin cfg1.N, win1_0.index t = ![t.val, 0, 0, 0, 0] ∧ win1_1.index t = ![0, 0, 0]
    ∧ win1_2.index t = ![0, 0] ∧ win1_3.index t = ![0, 0] ∧ win1_4.index t = ![t.val, 0, 0] :=
  (by decide +kernel : ∀ t : Fin grid1.N, win1_0.index t = ![t.val, 0, 0, 0, 0] ∧ win1_1.index t = ![0, 0, 0]
    ∧ win1_2.index t = ![0, 0] ∧ win1_3.index t = ![0, 0] ∧ win1_4.index t = ![t.val, 0, 0])

/-- There are eight grid points. -/
theorem pt_lt (t : Fin cfg1.N) : t.val < 8 := N_1 ▸ t.isLt

/-- The convolution's block at a point. -/
theorem b_x (t : Fin cfg1.N) (o : Fin 64) (r : Fin 24) (s : Fin 8) (w : Fin 192) :
    iblk1 (V5 m ρ) c 0 t (ix5 0 o r s w) = cmap m c ⟨t.val, pt_lt t⟩ o (8 * r.val + s.val) w.val := by
  have h : iblk1 (V5 m ρ) c 0 t (ix5 0 o r s w) = V5 m ρ c main_v7_0 (ix5 ⟨t.val, pt_lt t⟩ o r s w) := by
    blk_ext [iblk1, idxs t]
  rw [h]
  exact congrFun ((W5_of m ρ c main_v7_0 (by decide)).trans ((W4_arr m ρ c 2).trans (Conv.final2 m ρ c))) _

/-- The sums' block at a point. -/
theorem b_s (t : Fin cfg1.N) (b : Fin 8) (o : Fin 64) (e : Fin 2) :
    iblk1 (V5 m ρ) c 1 t (ix3 b o e) = GconvIdeal.Conv.stat (cmap m c b o) e := by
  have h : iblk1 (V5 m ρ) c 1 t (ix3 b o e) = V5 m ρ c main_v7_1 (ix3 b o e) := by
    blk_ext [iblk1, idxs t]
  rw [h]
  exact congrFun ((W5_of m ρ c main_v7_1 (by decide)).trans ((W4_arr m ρ c 3).trans (Conv.final3 m ρ c))) _

/-- The scales' block at a point. -/
theorem b_g (t : Fin cfg1.N) (o : Fin 64) : iblk1 (V5 m ρ) c 2 t (ix2 o 0) = Ga0 m c (ix1 o) := by
  have h : iblk1 (V5 m ρ) c 2 t (ix2 o 0) = V5 m ρ c main_v8 (ix2 o 0) := by
    blk_ext [iblk1, idxs t]
  rw [h]
  refine (congrFun (W5_v8 m ρ c) (ix2 o 0)).trans ?_
  rw [W4_args m ρ c main_arg2 (by decide)]
  exact col_move _ o

/-- The offsets' block at a point. -/
theorem b_b (t : Fin cfg1.N) (o : Fin 64) : iblk1 (V5 m ρ) c 3 t (ix2 o 0) = Be0 m c (ix1 o) := by
  have h : iblk1 (V5 m ρ) c 3 t (ix2 o 0) = V5 m ρ c main_v9 (ix2 o 0) := by
    blk_ext [iblk1, idxs t]
  rw [h]
  refine (congrFun (W5_v9 m ρ c) (ix2 o 0)).trans ?_
  rw [W4_args m ρ c main_arg3 (by decide)]
  exact col_move _ o

/-- What a grid point of the pooling stores. -/
theorem point_apply (t : Fin cfg1.N) (o : Fin 64) :
    outsAt1 (V5 m ρ) c t (ix3 0 o 0)
      = Spec.feat (fun b => cmap m c b o) (Ga0 m c (ix1 o)) (Be0 m c (ix1 o)) ⟨t.val, pt_lt t⟩ := by
  unfold outsAt1
  refine (out4_apply c _ _ _ _ _ _ _ _ _ _ _ _ _ _ _ (fun o => cmap m c ⟨t.val, pt_lt t⟩ o) (fun o r s w => b_x m ρ c t o r s w) o).trans ?_
  unfold mapK
  rw [pay7_apply, pay8_apply]
  simp only [b_s, b_g, b_b]
  rfl

/-- The pooled features' array after the pooling. -/
theorem arr4 : (dat1 (V5 m ρ) c).arrAt 4 cfg1.N
    = fun z : S8x64x1.Idx => Spec.feat (fun b => cmap m c b (z 1)) (Ga0 m c (ix1 (z 1))) (Be0 m c (ix1 (z 1))) (z 0) := by
  refine (dat1 (V5 m ρ) c).arrAt_eq_of_covers 4 _ (by decide +kernel) fun t hf y => ?_
  blk_simp
  rw [after1_4]
  revert y
  intro (y : S1x64x1.Idx)
  idx_vars y
  have e0 : ((View.whole main_v10).slice (win1_4.rect t)).emb (ix3 y0 y1 y2) 0 = (⟨t.val, pt_lt t⟩ : Fin 8) := Fin.ext (by
    blk_simp [idxs t])
  have e1 : ((View.whole main_v10).slice (win1_4.rect t)).emb (ix3 y0 y1 y2) 1 = (y1 : Fin 64) := Fin.ext (by
    blk_simp [idxs t])
  have hy : y0 = 0 := Subsingleton.elim _ _
  have hy2 : y2 = 0 := Subsingleton.elim _ _
  subst hy hy2
  refine (point_apply m ρ c t y1).trans ?_
  exact (congrArg₂ (fun (b : Fin 8) (o : Fin 64) => Spec.feat (fun b => cmap m c b o) (Ga0 m c (ix1 o)) (Be0 m c (ix1 o)) b) e0 e1).symm

/-- The pooled features the second call leaves. -/
theorem feat_eq : W6 m ρ c (Proc.devRef .tc main_v10)
    = fun z : S8x64x1.Idx => Spec.feat (fun b => cmap m c b (z 1)) (Ga0 m c (ix1 (z 1))) (Be0 m c (ix1 (z 1))) (z 0) :=
  (W6_arr m ρ c 4).trans (arr4 m ρ c)

end Cert.KernelIdeal.Pool
-- ==== Proof.GateReal.lean ====
/- The kernel's pooled feature is the reference's where the map and its scale are numbers and the top padding row does not win. -/
module

public import proofs.«01_k».proof.Proof.GateSpec

@[expose] public section

set_option maxRecDepth 16384

noncomputable section

namespace Cert.Spec

open Idealize.ShloMosaic

/-- A sum of numbers is a number. -/
theorem coe_total {ι : Type} (s : Finset ι) (r : ι → ℝ) : ∑ i ∈ s, ((r i : ℝ) : EReal) = ((∑ i ∈ s, r i : ℝ) : EReal) := by
  classical
  induction s using Finset.induction_on with
  | empty => simp
  | insert a s ha ih => rw [Finset.sum_insert ha, Finset.sum_insert ha, ih, EReal.coe_add]

/-- The sum of a map of numbers over all its pixels, as a number. -/
def totalR (r : Fin 8 → ℕ → ℕ → ℝ) : ℝ := ∑ b : Fin 8, ∑ i : Fin 192, ∑ j : Fin 192, r b i.val j.val

/-- The sum of a map of numbers is the number `totalR`. -/
theorem total_coe (f : Fin 8 → ℕ → ℕ → EReal) (r : Fin 8 → ℕ → ℕ → ℝ) (h : ∀ (b : Fin 8) (i j : Fin 192), f b i.val j.val = ((r b i.val j.val : ℝ) : EReal)) :
    total f = ((totalR r : ℝ) : EReal) := by
  unfold total totalR
  rw [← coe_total]
  refine Finset.sum_congr rfl fun b _ => ?_
  rw [← coe_total]
  refine Finset.sum_congr rfl fun i _ => ?_
  rw [← coe_total]
  exact Finset.sum_congr rfl fun j _ => h b i j

/-- The mean squared distance from the mean is the mean square less the squared mean. -/
theorem spread_eq (r : Fin 8 → ℕ → ℕ → ℝ) (m : ℝ) (hm : m = totalR r * (1 / 294912)) :
    totalR (fun b i j => (r b i j - m) * (r b i j - m)) * (1 / 294912) = totalR (fun b i j => r b i j * r b i j) * (1 / 294912) - m * m := by
  have h : totalR (fun b i j => (r b i j - m) * (r b i j - m)) = totalR (fun b i j => r b i j * r b i j) - 2 * m * totalR r + 294912 * (m * m) := by
    unfold totalR
    have e (b : Fin 8) (i j : Fin 192) : (r b i.val j.val - m) * (r b i.val j.val - m) = r b i.val j.val * r b i.val j.val - 2 * m * r b i.val j.val + m * m := by ring
    simp only [e, Finset.sum_add_distrib, Finset.sum_sub_distrib, ← Finset.mul_sum, Finset.sum_const, Finset.card_univ, Fintype.card_fin, nsmul_eq_mul]
    push_cast
    ring
  rw [h, show totalR r = 294912 * m by rw [hm]; ring]
  ring

/-- A sum of numbers that are at least zero is at least zero. -/
theorem totalR_nonneg (r : Fin 8 → ℕ → ℕ → ℝ) (h : ∀ b i j, 0 ≤ r b i j) : 0 ≤ totalR r :=
  Finset.sum_nonneg fun _ _ => Finset.sum_nonneg fun _ _ => Finset.sum_nonneg fun _ _ => h _ _ _

/-- The small number is a positive number. -/
theorem eps_pos : ∃ e : ℝ, 0 < e ∧ eps = ((e : ℝ) : EReal) := by
  refine ⟨_, ?_, by simp only [eps, Ideal.ofBits, Ideal.ieee]; simp [-EReal.coe_mul]; rfl⟩
  positivity

section numbers

variable (f : Fin 8 → ℕ → ℕ → EReal) (γ β : EReal)

/-- The kernel's scale and shift normalise a number as the reference does, for a map of numbers and a scale that is one. -/
theorem norm_eq (hf : ∀ (b : Fin 8) (i j : Fin 192), ∃ r : ℝ, f b i.val j.val = ((r : ℝ) : EReal)) (hγ : ∃ g : ℝ, γ = ((g : ℝ) : EReal)) (y : ℝ) :
    ((y : ℝ) : EReal) * scaleOf (total f) (total fun b i j => f b i j * f b i j) γ + shiftOf (total f) (total fun b i j => f b i j * f b i j) γ β
      = norm f γ β ((y : ℝ) : EReal) := by
  obtain ⟨g, rfl⟩ := hγ
  obtain ⟨e, he, hee⟩ := eps_pos
  have hr (b : Fin 8) (i j : Fin 192) : f b i.val j.val = (((f b i.val j.val).toReal : ℝ) : EReal) := by
    obtain ⟨r, h⟩ := hf b i j
    rw [h, EReal.toReal_coe]
  have hs := total_coe f (fun b i j => (f b i j).toReal) hr
  have hq := total_coe (fun b i j => f b i j * f b i j) (fun b i j => (f b i j).toReal * (f b i j).toReal) fun b i j => by
    rw [EReal.coe_mul, ← hr]
  generalize hm : totalR (fun b i j => (f b i j).toReal) * (1 / 294912) = m
  have hmu : mu f = ((m : ℝ) : EReal) := by rw [mu, hs, ← EReal.coe_mul, hm]
  have hv := total_coe (fun b i j => (f b i j - mu f) * (f b i j - mu f)) (fun b i j => ((f b i j).toReal - m) * ((f b i j).toReal - m)) fun b i j => by
    rw [EReal.coe_mul, EReal.coe_sub, ← hr, hmu]
  generalize hw : totalR (fun b i j => ((f b i j).toReal - m) * ((f b i j).toReal - m)) * (1 / 294912) = v
  have hv0 : 0 ≤ v := by
    rw [← hw]
    exact mul_nonneg (totalR_nonneg _ fun _ _ _ => mul_self_nonneg _) (by norm_num)
  have hvar : var f = ((v : ℝ) : EReal) := by rw [var, hv, ← EReal.coe_mul, hw]
  have hsq : total (fun b i j => f b i j * f b i j) * invN - total f * invN * (total f * invN) = ((v : ℝ) : EReal) := by
    rw [show total f * invN = ((m : ℝ) : EReal) from hmu, hq, ← EReal.coe_mul, ← EReal.coe_mul, ← EReal.coe_sub, ← spread_eq _ m hm.symm, hw]
  have hp : 0 < v + e := by linarith
  have hk : Real.sqrt (v + e) ≠ 0 := (Real.sqrt_pos.mpr hp).ne'
  have hsc : scaleOf (total f) (total fun b i j => f b i j * f b i j) ((g : ℝ) : EReal) = ((g * (Real.sqrt (v + e))⁻¹ : ℝ) : EReal) := by
    rw [scaleOf, hsq, hee, ← EReal.coe_add, Ideal.rsqrt_coe, if_neg (not_lt.mpr hp.le), if_neg hp.ne', ← EReal.coe_mul]
  rw [shiftOf, hsc, show total f * invN = ((m : ℝ) : EReal) from hmu, norm, hmu, hvar, hee, ← EReal.coe_add, Ideal.sqrt_coe, if_neg (not_lt.mpr hp.le),
    Ideal.div_coe hk, ← EReal.coe_sub, ← EReal.coe_mul, ← EReal.coe_mul, ← EReal.coe_mul, ← EReal.coe_mul]
  induction β with
  | bot => simp
  | top => rw [EReal.top_sub_coe, EReal.coe_add_top, EReal.coe_add_top]
  | coe β =>
    rw [← EReal.coe_sub, ← EReal.coe_add, ← EReal.coe_add]
    congr 1
    field_simp
    ring

end numbers

/-- Each value of a window is at most its largest value. -/
theorem le_win9 (p : ℕ → ℕ → EReal) (i j u v : ℕ) (hu : u < 3) (hv : v < 3) : p (2 * i + u) (2 * j + v) ≤ win9 p i j := by
  unfold win9
  interval_cases u <;> interval_cases v <;> simp

/-- The largest value of a window is at most what each of its values is at most. -/
theorem win9_le (p : ℕ → ℕ → EReal) (i j : ℕ) (x : EReal) (h : ∀ u v, u < 3 → v < 3 → p (2 * i + u) (2 * j + v) ≤ x) : win9 p i j ≤ x := by
  unfold win9
  simp only [max_le_iff]
  exact ⟨⟨⟨⟨⟨⟨⟨⟨h 0 0 (by omega) (by omega), h 0 1 (by omega) (by omega)⟩, h 0 2 (by omega) (by omega)⟩, h 1 0 (by omega) (by omega)⟩, h 1 1 (by omega) (by omega)⟩,
    h 1 2 (by omega) (by omega)⟩, h 2 0 (by omega) (by omega)⟩, h 2 1 (by omega) (by omega)⟩, h 2 2 (by omega) (by omega)⟩

/-- The kernel's order of taking a window's largest value gives the reference's. -/
theorem win_eq_win9 (p : ℕ → ℕ → EReal) (i j : ℕ) : win p i (2 * j) = win9 p i j := by
  unfold win cols win9
  simp only [max_assoc]

/-- The kernel's windows are the reference's where the top padding row does not win. -/
theorem windows_eq (n : ℕ → ℕ → EReal) (pk : ℕ → ℕ → EReal) (zero : EReal)
    (hk : ∀ R C, R < 193 → C < 193 → pk R C = if 1 ≤ C then max (if R = 0 then zero else n (R - 1) (C - 1)) 0 else 0) (i j : Fin 96)
    (hz : i.val = 0 → zero ≤ win9 (padR fun i j => max (n i j) 0) 0 j.val) :
    win pk i.val (2 * j.val) = win9 (padR fun i j => max (n i j) 0) i.val j.val := by
  rw [win_eq_win9]
  have hi := i.isLt
  have hj := j.isLt
  have h0 : 0 ≤ win9 (padR fun i j => max (n i j) 0) i.val j.val := by
    refine le_trans ?_ (le_win9 _ i.val j.val 1 1 (by omega) (by omega))
    unfold padR
    rw [if_pos (by omega)]
    exact le_max_right _ _
  apply le_antisymm
  · refine win9_le _ _ _ _ fun u v hu hv => ?_
    rw [hk _ _ (by omega) (by omega)]
    by_cases hC : 1 ≤ 2 * j.val + v
    · rw [if_pos hC]
      by_cases hR : 2 * i.val + u = 0
      · rw [if_pos hR]
        have hi0 : i.val = 0 := by omega
        refine max_le ?_ h0
        rw [hi0]
        exact hz hi0
      · rw [if_neg hR]
        refine le_trans (le_of_eq ?_) (le_win9 _ i.val j.val u v hu hv)
        unfold padR
        rw [if_pos (by omega)]
    · rw [if_neg hC]
      exact h0
  · refine win9_le _ _ _ _ fun u v hu hv => ?_
    unfold padR
    by_cases h : (1 ≤ 2 * i.val + u ∧ 2 * i.val + u < 193) ∧ 1 ≤ 2 * j.val + v ∧ 2 * j.val + v < 193
    · rw [if_pos h]
      refine le_trans (le_of_eq ?_) (le_win9 pk i.val j.val u v hu hv)
      rw [hk _ _ (by omega) (by omega), if_pos (by omega), if_neg (by omega)]
    · rw [if_neg h]
      exact bot_le

/-- The kernel's pooled feature is the reference's, for a map of numbers, a scale that is one, and a top padding row that does not win. -/
theorem feat_eq_featR (f : Fin 8 → ℕ → ℕ → EReal) (γ β : EReal) (b : Fin 8) (hf : ∀ (b : Fin 8) (i j : Fin 192), ∃ r : ℝ, f b i.val j.val = ((r : ℝ) : EReal))
    (hγ : ∃ g : ℝ, γ = ((g : ℝ) : EReal)) (hz : ∀ j : Fin 96, norm f γ β 0 ≤ win9 (mapR f γ β b) 0 j.val) : feat f γ β b = featR f γ β b := by
  unfold feat featR pooled
  congr 1
  refine Finset.sum_congr rfl fun i _ => Finset.sum_congr rfl fun j _ => ?_
  refine windows_eq (fun i j => norm f γ β (f b i j)) _ (norm f γ β 0) ?_ i j fun _ => hz j
  intro R C hR hC
  unfold padK
  by_cases h1 : 1 ≤ C
  · rw [if_pos ⟨h1, hC⟩, if_pos h1]
    by_cases h0 : R = 0
    · rw [if_pos h0, if_pos h0]
      have h := norm_eq f γ β hf hγ 0
      rw [EReal.coe_zero] at h
      rw [h]
    · rw [if_neg h0, if_neg h0]
      obtain ⟨r, hr⟩ := hf b ⟨R - 1, by omega⟩ ⟨C - 1, by omega⟩
      have h := norm_eq f γ β hf hγ r
      rw [← hr] at h
      rw [h]
  · rw [if_neg (by omega), if_neg h1]

end Cert.Spec
-- ==== Proof.GateRef.lean ====
/- The reference's gate between the convolution and the routing, at an index. -/
module

public import proofs.«01_k».proof.Proof.Gen.ReferenceIdeal.Run
public import proofs.«01_k».proof.Proof.GconvRef
public import proofs.«01_k».proof.Proof.GateSpec

@[expose] public section

set_option maxRecDepth 16384

noncomputable section

namespace Cert.ReferenceIdeal.Gate

open Cert Cert.ReferenceIdeal Cert.ReferenceIdeal.Gen Idealize.ShloMosaic Idealize.ShloMosaic.TcCoe Idealize.SL.Sem

/-- A channel's number in every pixel of every clip. -/
def spread (v : FVec Ideal S1x64x1x1 .f32) : FVec Ideal S8x64x192x192 .f32 := broadcastInDim S8x64x192x192 ![0, 1, 2, 3] bcast_S1x64x1x1_S8x64x192x192_0_1_2_3 v

/-- A channel's sum over every pixel of every clip. -/
def sumV (f : FVec Ideal S8x64x192x192 .f32) : FVec Ideal S1x64x1x1 .f32 :=
  broadcastInDim S1x64x1x1 ![1] bcast_S64_S1x64x1x1_1 (Host.reduceAdd f (constant (F := Ideal) S_ .f32 0x00000000#32) reducesTo_S8x64x192x192_S64_d0_2_3 h_S_)

/-- The channels' means. -/
def meanV (f : FVec Ideal S8x64x192x192 .f32) : FVec Ideal S1x64x1x1 .f32 :=
  Host.divf (sumV f) (broadcastInDim S1x64x1x1 ![] bcast_S_S1x64x1x1 (constant S_ .f32 0x48900000#32))

/-- The map less its channels' means. -/
def centred (f : FVec Ideal S8x64x192x192 .f32) : FVec Ideal S8x64x192x192 .f32 := subf f (spread (meanV f))

/-- The number of pixels that the variance divides by. -/
def count : FVec Ideal S_ .f32 := subf (constant S_ .f32 0x48900000#32) (sitofp .f32 (constantI S_ 32 0#32))

/-- The channels' variances. -/
def varV (f : FVec Ideal S8x64x192x192 .f32) : FVec Ideal S1x64x1x1 .f32 :=
  select (broadcastInDim S1x64x1x1 ![] bcast_S_S1x64x1x1 (cmpf .ogt count (constant S_ .f32 0x00000000#32)))
    (Host.divf (sumV (mulf (centred f) (centred f))) (broadcastInDim S1x64x1x1 ![] bcast_S_S1x64x1x1 count))
    (broadcastInDim S1x64x1x1 ![] bcast_S_S1x64x1x1 (id (constant S_ .f32 0x7FC00000#32)))

/-- The channels' spreads. -/
def devV (f : FVec Ideal S8x64x192x192 .f32) : FVec Ideal S1x64x1x1 .f32 :=
  Host.sqrt (addf (varV f) (broadcastInDim S1x64x1x1 ![] bcast_S_S1x64x1x1 (constant S_ .f32 0x3727C5AC#32)))

/-- The normalised map. -/
def normV (f : FVec Ideal S8x64x192x192 .f32) (g h : FVec Ideal S64 .f32) : FVec Ideal S8x64x192x192 .f32 :=
  addf (mulf (Host.divf (centred f) (spread (devV f))) (spread (shapeCast S1x64x1x1 g shapeCasts_S64_S1x64x1x1))) (spread (shapeCast S1x64x1x1 h shapeCasts_S64_S1x64x1x1))

/-- The normalised map cut at zero and padded. -/
def padV (z : FVec Ideal S8x64x192x192 .f32) : FVec Ideal S8x64x194x194 .f32 :=
  pad S8x64x194x194 ![0, 0, 1, 1] ![0, 0, 1, 1] ![0, 0, 0, 0] (maximumf z (broadcastInDim S8x64x192x192 ![] bcast_S_S8x64x192x192 (constant S_ .f32 0x00000000#32)))
    (id (constant S_ .f32 0xFF800000#32)) pads_S8x64x192x192_S8x64x194x194_000_000_110_110 h_S_

/-- Every second value from a row and a column of 0, 1 or 2 on lies in the padded map. -/
theorem slices (u v : Fin 3) : S8x64x194x194.SlicesBy ![0, 0, u.val, v.val] ![1, 1, 2, 2] S8x64x96x96 := by
  revert u v; decide

/-- Every second value of the padded map, from a row and a column on. -/
def cut (p : FVec Ideal S8x64x194x194 .f32) (u v : Fin 3) : FVec Ideal S8x64x96x96 .f32 := Host.slice S8x64x96x96 ![0, 0, u.val, v.val] ![1, 1, 2, 2] p (slices u v)

/-- The pooled map. -/
def poolV (p : FVec Ideal S8x64x194x194 .f32) : FVec Ideal S8x64x96x96 .f32 :=
  maximumf (maximumf (maximumf (maximumf (maximumf (maximumf (maximumf (maximumf (cut p 0 0) (cut p 0 1)) (cut p 0 2)) (cut p 1 0)) (cut p 1 1)) (cut p 1 2)) (cut p 2 0)) (cut p 2 1)) (cut p 2 2)

/-- The pooled features. -/
def featV (q : FVec Ideal S8x64x96x96 .f32) : FVec Ideal S8x64 .f32 :=
  Host.divf (Host.reduceAdd q (constant (F := Ideal) S_ .f32 0x00000000#32) reducesTo_S8x64x96x96_S8x64_d2_3 h_S_) (broadcastInDim S8x64 ![] bcast_S_S8x64 (constant S_ .f32 0x46100000#32))

section values

variable (f : FVec Ideal S8x64x192x192 .f32) (o : Fin 64) (F : Fin 8 → ℕ → ℕ → EReal) (hf : ∀ (b : Fin 8) (i j : Fin 192), f (ix4 b o i j) = F b i.val j.val)

/-- The word of the number of pixels of all the clips. -/
theorem word_pixels : Ideal.ofBits .f32 0x48900000#32 = ((294912 : ℝ) : EReal) := by
  simp [Ideal.ofBits, Ideal.ieee, -EReal.coe_mul]; norm_num

/-- The word of the number of pooled pixels. -/
theorem word_pooled : Ideal.ofBits .f32 0x46100000#32 = ((9216 : ℝ) : EReal) := by
  simp [Ideal.ofBits, Ideal.ieee, -EReal.coe_mul]; norm_num

/-- Dividing by the number of pixels is multiplying by its inverse. -/
theorem inv_pixels (x : EReal) : Ideal.div x (Ideal.ofBits .f32 0x48900000#32) = x * Spec.invN := by
  rw [word_pixels, Ideal.div_coe (by norm_num)]

/-- Dividing by the number of pooled pixels is multiplying by its inverse. -/
theorem inv_pooled (x : EReal) : Ideal.div x (Ideal.ofBits .f32 0x46100000#32) = x * Spec.invP := by
  rw [word_pooled, Ideal.div_coe (by norm_num)]

/-- A spread value at a pixel is the channel's. -/
theorem spread_apply (v : FVec Ideal S1x64x1x1 .f32) (b : Fin 8) (i j : Fin 192) : spread v (ix4 b o i j) = v (ix4 0 o 0 0) := by
  pointwise [spread]

/-- The indices that drop to a channel are the channel's pixels. -/
theorem fiber (h : S8x64x192x192.ReducesTo [0, 2, 3] S64) (i : S8x64x192x192.Idx) :
    h.drop i = ix1 o ↔ ∃ k : Fin 8 × Fin 192 × Fin 192, ix4 k.1 o k.2.1 k.2.2 = i := by
  constructor
  · intro e
    refine ⟨⟨i 0, i 2, i 3⟩, Eq.symm ?_⟩
    funext a
    apply Fin.ext
    match a with
    | ⟨0, _⟩ => rfl
    | ⟨1, _⟩ => exact congrArg Fin.val (congrFun e 0)
    | ⟨2, _⟩ => rfl
    | ⟨3, _⟩ => rfl
  · rintro ⟨k, rfl⟩
    funext b
    apply Fin.ext
    match b with
    | ⟨0, _⟩ => rfl

include hf in
/-- A channel's sum is the sum over all the pixels of all the clips. -/
theorem sumV_apply : sumV f (ix4 0 o 0 0) = Spec.total F := by
  pointwise [sumV]
  unfold Ideal.hostReduceAdd
  rw [zero_add]
  refine (Finset.sum_filter_eq_sum_of_fiber _ (fun k : Fin 8 × Fin 192 × Fin 192 => ix4 k.1 o k.2.1 k.2.2)
    (fun _ _ e => Prod.ext (congrFun e 0) (Prod.ext (congrFun e 2) (congrFun e 3))) (fiber o _) f).trans ?_
  simp only [Fintype.sum_prod_type, hf]
  rfl

include hf in
/-- A channel's mean. -/
theorem meanV_apply : meanV f (ix4 0 o 0 0) = Spec.mu F := by
  have h := sumV_apply f o F hf
  unfold meanV
  generalize sumV f = s at h ⊢
  pointwise
  rw [h, inv_pixels]
  rfl

include hf in
/-- A pixel less its channel's mean. -/
theorem centred_apply (b : Fin 8) (i j : Fin 192) : centred f (ix4 b o i j) = F b i.val j.val - Spec.mu F := by
  have h := (spread_apply o (meanV f) b i j).trans (meanV_apply f o F hf)
  unfold centred
  generalize spread (meanV f) = s at h ⊢
  pointwise
  rw [h, hf]

/-- The number of pixels that the variance divides by is 294912. -/
theorem count_eq : count = constant (F := Ideal) S_ .f32 0x48900000#32 := by
  funext z
  obtain rfl : z = ix0 := Subsingleton.elim z ix0
  pointwise [count]
  have h : FloatOps.sitofp (F := Ideal) FTy.f32 0#32 = (0 : EReal) := by
    show (((0#32 : BitVec 32).toInt : ℝ) : EReal) = 0
    simp
  rw [h, sub_zero]

include hf in
/-- A channel's variance. -/
theorem varV_apply : varV f (ix4 0 o 0 0) = Spec.var F := by
  have h := sumV_apply (mulf (centred f) (centred f)) o (fun b i j => (F b i j - Spec.mu F) * (F b i j - Spec.mu F)) (fun b i j => by
    have h := centred_apply f o F hf b i j
    generalize centred f = s at h ⊢
    pointwise
    rw [h])
  unfold varV
  rw [count_eq]
  generalize sumV (mulf (centred f) (centred f)) = s at h ⊢
  pointwise
  rw [if_pos (by rw [word_pixels]; exact EReal.coe_pos.mpr (by norm_num)), h, inv_pixels]
  rfl

include hf in
/-- A channel's spread, the root of its variance and the small number. -/
theorem devV_apply : devV f (ix4 0 o 0 0) = Ideal.sqrt (Spec.var F + Spec.eps) := by
  have h := varV_apply f o F hf
  unfold devV
  generalize varV f = s at h ⊢
  pointwise
  rw [h]

include hf in
/-- A normalised pixel. -/
theorem normV_apply (g h : FVec Ideal S64 .f32) (b : Fin 8) (i j : Fin 192) :
    normV f g h (ix4 b o i j) = Spec.norm F (g (ix1 o)) (h (ix1 o)) (F b i.val j.val) := by
  have h1 := centred_apply f o F hf b i j
  have h2 := devV_apply f o F hf
  unfold normV
  generalize centred f = s at h1 ⊢
  generalize devV f = d at h2 ⊢
  pointwise [spread]
  rw [h1, h2]
  rfl

end values

/-- The padded map at a row and a column: minus infinity around the map. -/
theorem padV_apply (z : FVec Ideal S8x64x192x192 .f32) (b : Fin 8) (o : Fin 64) (Z : ℕ → ℕ → EReal)
    (hz : ∀ i j : Fin 192, z (ix4 b o i j) = Z i.val j.val) (R C : Fin 194) :
    padV z (ix4 b o R C) = Spec.padR (fun i j => max (Z i j) 0) R.val C.val := by
  pointwise [padV]
  unfold Spec.padR
  have h0 : id (constant (F := Ideal) S_ FTy.f32 0xFF800000#32) (Shape.Idx.first h_S_) = (⊥ : EReal) := by
    show Ideal.ofBits .f32 0xFF800000#32 = ⊥
    simp [Ideal.ofBits, Ideal.ieee]
  by_cases h : (1 ≤ R.val ∧ R.val < 193) ∧ 1 ≤ C.val ∧ C.val < 193
  · rw [if_pos h, dif_pos (by omega), hz]
  · rw [if_neg h, dif_neg (by omega)]
    exact h0

/-- A cut at a pixel is the padded map at twice the pixel from the start of the cut. -/
theorem cut_apply (p : FVec Ideal S8x64x194x194 .f32) (u v : Fin 3) (b : Fin 8) (o : Fin 64) (i j : Fin 96) :
    cut p u v (ix4 b o i j) = p (ix4 b o ⟨2 * i.val + u.val, by omega⟩ ⟨2 * j.val + v.val, by omega⟩) := by
  pointwise [cut]
  congr 1
  idx_ext <;> omega

/-- A pooled pixel is the largest value of its window. -/
theorem poolV_apply (p : FVec Ideal S8x64x194x194 .f32) (b : Fin 8) (o : Fin 64) (P : ℕ → ℕ → EReal)
    (hp : ∀ R C : Fin 194, p (ix4 b o R C) = P R.val C.val) (i j : Fin 96) :
    poolV p (ix4 b o i j) = Spec.win9 P i.val j.val := by
  have h (u v : Fin 3) : cut p u v (ix4 b o i j) = P (2 * i.val + u.val) (2 * j.val + v.val) := (cut_apply p u v b o i j).trans (hp _ _)
  unfold poolV Spec.win9
  show max (max (max (max (max (max (max (max (cut p 0 0 _) (cut p 0 1 _)) (cut p 0 2 _)) (cut p 1 0 _)) (cut p 1 1 _)) (cut p 1 2 _)) (cut p 2 0 _)) (cut p 2 1 _)) (cut p 2 2 _) = _
  rw [h, h, h, h, h, h, h, h, h]
  rfl

/-- A pooled feature is the mean of the pooled map. -/
theorem featV_apply (q : FVec Ideal S8x64x96x96 .f32) (b : Fin 8) (o : Fin 64) (Q : ℕ → ℕ → EReal)
    (hq : ∀ i j : Fin 96, q (ix4 b o i j) = Q i.val j.val) :
    featV q (ix2 b o) = (∑ i : Fin 96, ∑ j : Fin 96, Q i.val j.val) * Spec.invP := by
  pointwise [featV]
  simp only [hq]
  rw [inv_pooled]

end Cert.ReferenceIdeal.Gate
-- ==== Proof.WholeRef.lean ====
/- The whole reference's results, as the tail's of the pooled features its gate leaves. -/
module

public import proofs.«01_k».proof.Proof.GateRef
public import proofs.«01_k».proof.Proof.TailRef

@[expose] public section

set_option maxRecDepth 16384

noncomputable section

namespace Cert.ReferenceIdeal.Whole

open Cert Cert.ReferenceIdeal Cert.ReferenceIdeal.Gen Cert.ReferenceIdeal.Gate Cert.ReferenceIdeal.Value Idealize.ShloMosaic Idealize.ShloMosaic.TcCoe Idealize.SL.Sem

variable (V : Valuation τ sig (Elt Ideal))

/-- The clips. -/
abbrev X : FVec Ideal S8x3x5x384x384 .f32 := V (Proc.devRef .tc main_arg0)

/-- The convolution's weights. -/
abbrev W : FVec Ideal S64x15x7x7 .f32 := V (Proc.devRef .tc main_arg1)

/-- The normalisation's scales. -/
abbrev Ga : FVec Ideal S64 .f32 := V (Proc.devRef .tc main_arg2)

/-- The normalisation's shifts. -/
abbrev Be : FVec Ideal S64 .f32 := V (Proc.devRef .tc main_arg3)

/-- The router's weights. -/
abbrev G : FVec Ideal S3x64 .f32 := V (Proc.devRef .tc main_arg4)

/-- The router's shifts. -/
abbrev D : FVec Ideal S3 .f32 := V (Proc.devRef .tc main_arg5)

/-- The experts' weights. -/
abbrev We : FVec Ideal S3x5x15x4x4 .f32 := V (Proc.devRef .tc main_arg6)

/-- The experts' shifts. -/
abbrev Bi : FVec Ideal S3x5 .f32 := V (Proc.devRef .tc main_arg7)

/-- The reference's convolution is the one of the gate's claim. -/
theorem conv_eq : res_main_v33 V = GconvReferenceIdeal.Conv.fmap (X V) (W V) := rfl

/-- The reference's padded map is the normalised convolution, cut at zero and padded. -/
theorem pad_eq : res_main_v53 V = padV (normV (res_main_v33 V) (Ga V) (Be V)) := by
  unfold res_main_v53 res_main_call1_v5 res_main_call1_v8
  rfl

/-- The pooled features with a last axis of one. -/
def feats (x : FVec Ideal S8x3x5x384x384 .f32) (w : FVec Ideal S64x15x7x7 .f32) (g h : FVec Ideal S64 .f32) : FVec Ideal TailReferenceIdeal.S8x64x1 .f32 :=
  fun z => featV (poolV (padV (normV (GconvReferenceIdeal.Conv.fmap x w) g h))) (ix2 (z 0) (z 1))

/-- The pooled features without their last axis. -/
theorem feats_cast (x : FVec Ideal S8x3x5x384x384 .f32) (w : FVec Ideal S64x15x7x7 .f32) (g h : FVec Ideal S64 .f32) :
    shapeCast TailReferenceIdeal.S8x64 (feats x w g h : FVec Ideal TailReferenceIdeal.S8x64x1 .f32) TailReferenceIdeal.Gen.shapeCasts_S8x64x1_S8x64
      = featV (poolV (padV (normV (GconvReferenceIdeal.Conv.fmap x w) g h))) := by
  unfold feats
  generalize featV (poolV (padV (normV (GconvReferenceIdeal.Conv.fmap x w) g h))) = v
  funext z
  revert z
  intro (z : S8x64.Idx)
  idx_vars z
  pointwise

/-- The reference's logits are the router's of the pooled features. -/
theorem logits_eq : res_main_v78 V = TailReferenceIdeal.Tail.logits (feats (X V) (W V) (Ga V) (Be V)) (G V) (D V) := by
  unfold TailReferenceIdeal.Tail.logits
  rw [feats_cast, ← conv_eq, ← pad_eq]
  rfl

/-- The reference's gates are the tail's of those logits. -/
theorem gates_eq : res_main_v96 V = TailReferenceIdeal.Tail.gates (res_main_v78 V) := rfl

/-- The reference's exponentials are the tail's of those logits. -/
theorem exp_eq : res_main_v106 V = Host.exp (TailReferenceIdeal.Tail.shifted (res_main_v78 V)) := rfl

variable (m : (ℓ : Loc nD τ sig) → Buf (Elt Ideal) ℓ) (ρ : Dev nD → PrngReg) (c : Dev nD)

/-- The clips, as launched. -/
def A0 : FVec Ideal S8x3x5x384x384 .f32 := m ((c.tc : Thread nD τ).loc main_arg0)

/-- The convolution's weights, as launched. -/
def A1 : FVec Ideal S64x15x7x7 .f32 := m ((c.tc : Thread nD τ).loc main_arg1)

/-- The normalisation's scales, as launched. -/
def A2 : FVec Ideal S64 .f32 := m ((c.tc : Thread nD τ).loc main_arg2)

/-- The normalisation's shifts, as launched. -/
def A3 : FVec Ideal S64 .f32 := m ((c.tc : Thread nD τ).loc main_arg3)

/-- The router's weights, as launched. -/
def A4 : FVec Ideal S3x64 .f32 := m ((c.tc : Thread nD τ).loc main_arg4)

/-- The router's shifts, as launched. -/
def A5 : FVec Ideal S3 .f32 := m ((c.tc : Thread nD τ).loc main_arg5)

/-- The experts' weights, as launched. -/
def A6 : FVec Ideal S3x5x15x4x4 .f32 := m ((c.tc : Thread nD τ).loc main_arg6)

/-- The experts' shifts, as launched. -/
def A7 : FVec Ideal S3x5 .f32 := m ((c.tc : Thread nD τ).loc main_arg7)

/-- The reference's logits, of its arguments as launched. -/
def logits : FVec Ideal S8x3 .f32 := TailReferenceIdeal.Tail.logits (feats (A0 m c) (A1 m c) (A2 m c) (A3 m c)) (A4 m c) (A5 m c)

/-- The reference's logits are those of its arguments as launched. -/
theorem logits_launch : res_main_v78 (StableHlo.launchContents m c) = logits m c := logits_eq (StableHlo.launchContents m c)

/-- Every execution of the reference ends with the tail's results of those logits, its arguments as launched. -/
theorem run : θ_run defs (onTc (τ := τ) (main (F := Ideal))) ⟨m, fun _ => 0, ρ⟩ fun r => ∀ c : Dev nD,
      r.2.mem ((c.tc : Thread nD τ).loc main_v127) = TailReferenceIdeal.Tail.heads (TailReferenceIdeal.Tail.gates (logits m c))
        (TailReferenceIdeal.Tail.maps (A0 m c) (A6 m c)) (A7 m c)
      ∧ r.2.mem ((c.tc : Thread nD τ).loc main_v128) = TailReferenceIdeal.Tail.loss (logits m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (by rw [gates_eq, logits_launch]; rfl), (h c).2.1.trans (by rw [gates_eq, exp_eq, logits_launch]; rfl), (h c).2.2⟩)
    (Value.run (F := Ideal) m ρ)

end Cert.ReferenceIdeal.Whole
-- ==== Proof.PadPre.lean ====
/- What the precondition says: the convolution and the scales are numbers, and the padding row does not win. -/
module

public import proofs.«01_k».proof.Pre_padding_loses
public import proofs.«01_k».proof.Proof.GateRef

@[expose] public section

set_option maxRecDepth 16384

noncomputable section

namespace Cert.PadPre

open Cert Cert.ReferenceIdeal Cert.ReferenceIdeal.Gen Cert.ReferenceIdeal.Gate Idealize.ShloMosaic Idealize.ShloMosaic.TcCoe Idealize.SL.Sem

/-- The predicate's side conditions hold. -/
instance facts : Cert.Pre_padding_loses.Facts := by
  constructor <;> decide

/-- What a value of zero before the normalisation becomes. -/
def zeroV (f : FVec Ideal S8x64x192x192 .f32) (g h : FVec Ideal S64 .f32) : FVec Ideal S1x64x1x1 .f32 :=
  addf (mulf (Host.divf (subf (broadcastInDim S1x64x1x1 ![] bcast_S_S1x64x1x1 (constant S_ .f32 0x00000000#32)) (meanV f)) (devV f))
    (shapeCast S1x64x1x1 g shapeCasts_S64_S1x64x1x1)) (shapeCast S1x64x1x1 h shapeCasts_S64_S1x64x1x1)

/-- The top row of the pooled map. -/
def topV (q : FVec Ideal S8x64x96x96 .f32) : FVec Ideal Pre_padding_loses.S8x64x96 .f32 :=
  shapeCast Pre_padding_loses.S8x64x96 (extractStridedSlice Pre_padding_loses.S8x64x1x96 ![0, 0, 0, 0] q facts.slices_S8x64x96x96_S8x64x1x96_0_0_0_0)
    facts.shapeCasts_S8x64x1x96_S8x64x96

/-- A channel's number in every column of the top row. -/
def acrossV (v : FVec Ideal S1x64x1x1 .f32) : FVec Ideal Pre_padding_loses.S8x64x96 .f32 :=
  broadcastInDim Pre_padding_loses.S8x64x96 ![0, 1, 2] facts.bcast_S1x64x1_S8x64x96_0_1_2 (shapeCast Pre_padding_loses.S1x64x1 v facts.shapeCasts_S1x64x1x1_S1x64x1)

/-- Where the convolution is a number. -/
def finiteV (f : FVec Ideal S8x64x192x192 .f32) : IVec S8x64x192x192 1 :=
  cmpf .olt (Host.absf f) (broadcastInDim S8x64x192x192 ![] bcast_S_S8x64x192x192 (constant S_ .f32 0x7F800000#32))

/-- Where a channel's scale is a number. -/
def scaledV (g : FVec Ideal S64 .f32) : IVec S64 1 :=
  cmpf .olt (Host.absf g) (broadcastInDim S64 ![] facts.bcast_S_S64 (constant S_ .f32 0x7F800000#32))

/-- Where the padding row does not win. -/
def losesV (z : FVec Ideal S1x64x1x1 .f32) (q : FVec Ideal S8x64x96x96 .f32) : IVec Pre_padding_loses.S8x64x96 1 := cmpf .ole (acrossV z) (topV q)

/-- The predicate's three arrays, of the reference's own convolution, normalisation and pooling. -/
theorem fn_eq (x : FVec Ideal S8x3x5x384x384 .f32) (w : FVec Ideal S64x15x7x7 .f32) (g h : FVec Ideal S64 .f32) (r : FVec Ideal S3x64 .f32)
    (d : FVec Ideal S3 .f32) (e : FVec Ideal S3x5x15x4x4 .f32) (k : FVec Ideal S3x5 .f32) :
    Pre_padding_loses.fn (F := Ideal) x w g h r d e k
      = (finiteV (GconvReferenceIdeal.Conv.fmap x w), scaledV g,
        losesV (zeroV (GconvReferenceIdeal.Conv.fmap x w) g h) (poolV (padV (normV (GconvReferenceIdeal.Conv.fmap x w) g h)))) := rfl

/-- A value whose size is below infinity is a number. -/
theorem number (x : EReal) (h : max x (-x) < ⊤) : ∃ r : ℝ, x = ((r : ℝ) : EReal) := by
  induction x with
  | bot => simp at h
  | top => simp at h
  | coe r => exact ⟨r, rfl⟩

/-- The word of infinity. -/
theorem word_inf : Ideal.ofBits .f32 0x7F800000#32 = ⊤ := by
  simp [Ideal.ofBits, Ideal.ieee]

/-- A true bit's proposition. -/
theorem of_bit (p : Prop) [Decidable p] (h : BitVec.ofBool (decide p) = 1#1) : p := by
  by_contra n
  simp [n] at h

/-- Where the first array is all ones the convolution is a number. -/
theorem finite_of (f : FVec Ideal S8x64x192x192 .f32) (hf : finiteV f = fun _ => 1#1) (b : Fin 8) (o : Fin 64) (i j : Fin 192) :
    ∃ r : ℝ, f (ix4 b o i j) = ((r : ℝ) : EReal) := by
  apply number
  have h := congrFun hf (ix4 b o i j)
  revert h
  pointwise [finiteV]
  rw [word_inf]
  exact fun h => of_bit _ h

/-- Where the second array is all ones a scale is a number. -/
theorem scale_of (g : FVec Ideal S64 .f32) (hg : scaledV g = fun _ => 1#1) (o : Fin 64) : ∃ r : ℝ, g (ix1 o) = ((r : ℝ) : EReal) := by
  apply number
  have h := congrFun hg (ix1 o)
  revert h
  pointwise [scaledV]
  rw [word_inf]
  exact fun h => of_bit _ h

/-- Where the third array is all ones the padding row's value is at most the pooled map's top row. -/
theorem loses_of (z : FVec Ideal S1x64x1x1 .f32) (q : FVec Ideal S8x64x96x96 .f32) (h : losesV z q = fun _ => 1#1) (b : Fin 8) (o : Fin 64) (j : Fin 96) :
    z (ix4 0 o 0 0) ≤ q (ix4 b o 0 j) := by
  have h := congrFun h (ix3 b o j)
  revert h
  pointwise [losesV, acrossV, topV]
  exact fun h => of_bit _ h

/-- What a channel's zero becomes by the normalisation. -/
theorem zeroV_apply (f : FVec Ideal S8x64x192x192 .f32) (o : Fin 64) (F : Fin 8 → ℕ → ℕ → EReal) (hf : ∀ (b : Fin 8) (i j : Fin 192), f (ix4 b o i j) = F b i.val j.val)
    (g h : FVec Ideal S64 .f32) : zeroV f g h (ix4 0 o 0 0) = Spec.norm F (g (ix1 o)) (h (ix1 o)) 0 := by
  have h1 := meanV_apply f o F hf
  have h2 := devV_apply f o F hf
  unfold zeroV
  generalize meanV f = s at h1 ⊢
  generalize devV f = d at h2 ⊢
  pointwise
  rw [h1, h2]
  rfl

end Cert.PadPre
-- ==== Proof.WholeClaim.lean ====
/- The whole kernel: where the padding row does not win, its heads and its loss are the reference's. -/
module

public import proofs.«01_k».proof.Defs
public import proofs.«01_k».proof.Proof.WholeRun
public import proofs.«01_k».proof.Proof.KTail
public import proofs.«01_k».proof.Proof.KPoolArr
public import proofs.«01_k».proof.Proof.GateReal
public import proofs.«01_k».proof.Proof.WholeRef
public import proofs.«01_k».proof.Proof.PadPre
public import proofs.«01_k».proof.Proof.TailClaim

@[expose] public section

set_option maxRecDepth 16384

noncomputable section

namespace Cert.WholeClaim

open Idealize.ShloMosaic Idealize.ShloMosaic.TcCoe Idealize.SL.Sem

section features

variable (x : FVec Ideal KernelIdeal.S8x3x5x384x384 .f32) (w : FVec Ideal KernelIdeal.S64x15x7x7 .f32) (g h : FVec Ideal KernelIdeal.S64 .f32)

/-- A channel's convolution over all the clips. -/
abbrev cmap (o : Fin 64) : Fin 8 → ℕ → ℕ → EReal := fun b => Spec.conv x w b o

/-- The reference's pooled features. -/
theorem feats_apply (b : Fin 8) (o : Fin 64) :
    ReferenceIdeal.Whole.feats x w g h (ix3 b o 0) = Spec.featR (cmap x w o) (g (ix1 o)) (h (ix1 o)) b := by
  have hn := ReferenceIdeal.Gate.normV_apply (GconvReferenceIdeal.Conv.fmap x w) o (cmap x w o) (fun b i j => GconvReferenceIdeal.Conv.fmap_apply x w b o i j) g h
  have hp := ReferenceIdeal.Gate.padV_apply (ReferenceIdeal.Gate.normV (GconvReferenceIdeal.Conv.fmap x w) g h) b o
    (fun i j => Spec.norm (cmap x w o) (g (ix1 o)) (h (ix1 o)) (cmap x w o b i j)) (fun i j => hn b i j)
  exact ReferenceIdeal.Gate.featV_apply _ b o _ (ReferenceIdeal.Gate.poolV_apply _ b o _ hp)

/-- The top row of the reference's pooled map. -/
theorem top_apply (b : Fin 8) (o : Fin 64) (j : Fin 96) :
    ReferenceIdeal.Gate.poolV (ReferenceIdeal.Gate.padV (ReferenceIdeal.Gate.normV (GconvReferenceIdeal.Conv.fmap x w) g h)) (ix4 b o 0 j)
      = Spec.win9 (Spec.mapR (cmap x w o) (g (ix1 o)) (h (ix1 o)) b) 0 j.val := by
  have hn := ReferenceIdeal.Gate.normV_apply (GconvReferenceIdeal.Conv.fmap x w) o (cmap x w o) (fun b i j => GconvReferenceIdeal.Conv.fmap_apply x w b o i j) g h
  have hp := ReferenceIdeal.Gate.padV_apply (ReferenceIdeal.Gate.normV (GconvReferenceIdeal.Conv.fmap x w) g h) b o
    (fun i j => Spec.norm (cmap x w o) (g (ix1 o)) (h (ix1 o)) (cmap x w o b i j)) (fun i j => hn b i j)
  exact ReferenceIdeal.Gate.poolV_apply _ b o _ hp 0 j

/-- Under the precondition the kernel's pooled features are the reference's. -/
theorem feats_eq (hf : PadPre.finiteV (GconvReferenceIdeal.Conv.fmap x w) = fun _ => 1#1) (hg : PadPre.scaledV g = fun _ => 1#1)
    (hz : PadPre.losesV (PadPre.zeroV (GconvReferenceIdeal.Conv.fmap x w) g h)
      (ReferenceIdeal.Gate.poolV (ReferenceIdeal.Gate.padV (ReferenceIdeal.Gate.normV (GconvReferenceIdeal.Conv.fmap x w) g h))) = fun _ => 1#1) :
    (fun z : KernelIdeal.S8x64x1.Idx => Spec.feat (fun b => Spec.conv x w b (z 1)) (g (ix1 (z 1))) (h (ix1 (z 1))) (z 0)) = ReferenceIdeal.Whole.feats x w g h := by
  funext z
  revert z
  intro (z : KernelIdeal.S8x64x1.Idx)
  idx_vars z
  obtain rfl : z2 = 0 := Subsingleton.elim _ _
  refine Eq.trans (Spec.feat_eq_featR (cmap x w z1) (g (ix1 z1)) (h (ix1 z1)) z0 (fun b i j => ?_) (PadPre.scale_of g hg z1) fun j => ?_) (feats_apply x w g h z0 z1).symm
  · obtain ⟨r, hr⟩ := PadPre.finite_of _ hf b z1 i j
    exact ⟨r, (GconvReferenceIdeal.Conv.fmap_apply x w b z1 i j).symm.trans hr⟩
  · have h1 := PadPre.loses_of _ _ hz z0 z1 j
    rw [PadPre.zeroV_apply _ z1 (cmap x w z1) (fun b i j => GconvReferenceIdeal.Conv.fmap_apply x w b z1 i j), top_apply x w g h z0 z1 j] at h1
    exact h1

end features

/-- The whole reference runs, keeps its arguments and leaves every counter at zero. -/
theorem ref_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Where the padding row does not win, the kernel and the reference leave the same heads and the same loss. -/
theorem value : algebraic_KernelIdeal_ReferenceIdeal_pre_padding_loses := fun m ρ m' ρ' hpre hag =>
  ⟨fun c => fun z : KernelIdeal.S8x5x96x96.Idx => Spec.heads (KernelIdeal.Tail.L0 m ρ c) (KernelIdeal.Tail.X0 m c) (KernelIdeal.Tail.W0' m c)
      (KernelIdeal.Tail.B0 m c) (z 0) (z 1) (z 2) (z 3),
    fun c => fun _ : KernelIdeal.S_.Idx => Spec.balance (KernelIdeal.Tail.L0 m ρ c) * Ideal.ofBits .f32 0x3CF5C28F#32,
    (θ_run KernelIdeal.defs _ _).mono (fun _ h c => ⟨(h c).1.trans (KernelIdeal.Tail.final16 m ρ c),
        (h c).2.1.trans (KernelIdeal.Tail.final17 m ρ c), (h c).2.2⟩) (KernelIdeal.Whole.run m ρ),
    (θ_run ReferenceIdeal.defs _ _).mono (fun _ h c => by
      obtain ⟨h0, h1, hk⟩ := h c
      obtain ⟨a0, a1, a2, a3, a4, a5, a6, a7⟩ := hag c
      have hp := hpre c
      rw [PadPre.fn_eq] at hp
      have hF : KernelIdeal.Tail.F0 m ρ c = ReferenceIdeal.Whole.feats (KernelIdeal.Conv.X0 m c) (KernelIdeal.Conv.W0 m c) (KernelIdeal.Pool.Ga0 m c) (KernelIdeal.Pool.Be0 m c) :=
        (KernelIdeal.Pool.feat_eq m ρ c).trans (feats_eq _ _ _ _ hp.1 hp.2.1 hp.2.2)
      have e0 : ReferenceIdeal.Whole.A0 m' c = KernelIdeal.Tail.X0 m c := a0
      have e1 : ReferenceIdeal.Whole.A1 m' c = KernelIdeal.Conv.W0 m c := a1
      have e2 : ReferenceIdeal.Whole.A2 m' c = KernelIdeal.Pool.Ga0 m c := a2
      have e3 : ReferenceIdeal.Whole.A3 m' c = KernelIdeal.Pool.Be0 m c := a3
      have e4 : ReferenceIdeal.Whole.A4 m' c = KernelIdeal.Tail.G0 m c := a4
      have e5 : ReferenceIdeal.Whole.A5 m' c = KernelIdeal.Tail.D0 m c := a5
      have e6 : ReferenceIdeal.Whole.A6 m' c = KernelIdeal.Tail.W0' m c := a6
      have e7 : ReferenceIdeal.Whole.A7 m' c = KernelIdeal.Tail.B0 m c := a7
      have hL : ReferenceIdeal.Whole.logits m' c = TailReferenceIdeal.Tail.logits (KernelIdeal.Tail.F0 m ρ c) (KernelIdeal.Tail.G0 m c) (KernelIdeal.Tail.D0 m c) := by
        rw [ReferenceIdeal.Whole.logits, e0, e1, e2, e3, e4, e5, hF]
      rw [hL] at h0 h1
      rw [e0, e6, e7] at h0
      exact ⟨h0.trans (TailClaim.heads_eq (KernelIdeal.Tail.X0 m c) (KernelIdeal.Tail.F0 m ρ c) (KernelIdeal.Tail.G0 m c) (KernelIdeal.Tail.D0 m c)
          (KernelIdeal.Tail.W0' m c) (KernelIdeal.Tail.B0 m c)),
        h1.trans (TailReferenceIdeal.Tail.loss_eq (KernelIdeal.Tail.F0 m ρ c) (KernelIdeal.Tail.G0 m c) (KernelIdeal.Tail.D0 m c)), hk⟩)
      (ReferenceIdeal.Whole.run m' ρ')⟩

end Cert.WholeClaim

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Gconv.Frame
public import proofs.«01_k».proof.Proof.Gen.GconvIdeal.Frame
public import proofs.«01_k».proof.Proof.GconvClaim
public import proofs.«01_k».proof.Proof.TailClaim
public import proofs.«01_k».proof.Proof.WholeClaim
public import proofs.«01_k».proof.Proof.Gen.Tail.Frame
public import proofs.«01_k».proof.Proof.Gen.TailIdeal.Frame
public import proofs.«01_k».proof.Proof.Gen.TailReferenceIdeal.Run
public import Idealize.ShloMosaic.Adequacy
public import Idealize.ShloMosaic.Init

@[expose] public section

noncomputable section

namespace Cert.Proof

open Idealize.ShloMosaic Idealize.SL.Sem

/-- The routing's and the experts' reference runs, keeps its arguments and leaves every counter at zero. -/
theorem tail_ref_frame : Cert.quiescent_TailReferenceIdeal := fun m ρ _ =>
  (θ_run Cert.TailReferenceIdeal.defs _ _).mono (fun r h => ⟨fun c => (h c).2.2, sem_eq_zero_of_no_sems (by decide) r.2⟩)
    (Cert.TailReferenceIdeal.Value.run (F := Ideal) m ρ)

/-- Every claim of the certificate. -/
theorem claim : Cert.Claim := ⟨Cert.Kernel.Gen.facts, Cert.KernelIdeal.Gen.facts, Cert.ReferenceIdeal.Gen.facts, Cert.Gconv.Gen.facts, Cert.GconvIdeal.Gen.facts,
    Cert.GconvReferenceIdeal.Gen.facts, Cert.Tail.Gen.facts, Cert.TailIdeal.Gen.facts, Cert.TailReferenceIdeal.Gen.facts, Cert.PadPre.facts,
    fun m ρ _ => Cert.Kernel.Gen.frame m ρ,
    fun m ρ _ => Cert.KernelIdeal.Gen.frame m ρ,
    fun m ρ _ => Cert.KernelIdeal.Gen.frame m ρ,
    Cert.WholeClaim.ref_frame,
    fun m ρ _ => Cert.WholeClaim.ref_frame m ρ trivial,
    fun m ρ _ => Cert.Gconv.Gen.frame m ρ,
    fun m ρ _ => Cert.GconvIdeal.Gen.frame m ρ,
    Cert.GconvClaim.ref_frame,
    fun m ρ _ => Cert.Tail.Gen.frame m ρ,
    fun m ρ _ => Cert.TailIdeal.Gen.frame m ρ,
    tail_ref_frame,
    ⟨IdealRules.named_const.statement Cert.KernelIdeal.κ "inv_pixels" .f32 0x36638E39#32 ((1 / 294912 : ℝ) : EReal) rfl,
      IdealRules.named_const.statement Cert.KernelIdeal.κ "inv_pooled" .f32 0x38E38E39#32 ((1 / 9216 : ℝ) : EReal) rfl⟩,
    Cert.WholeClaim.value, trivial, Cert.GconvClaim.value, trivial, Cert.TailClaim.value⟩

end Cert.Proof

end
